-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 384]⟩ ⟨2, ![768, 6144]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![768, 384]⟩ ⟨2, ![768, 6144]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![768, 384]⟩ ⟨2, ![768, 6144]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![384, 768]⟩ ⟨2, ![6144, 768]⟩ 0 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = Layout.block ⟨2, ![768, 192]⟩ ⟨2, ![768, 3072]⟩ 1 16 c (m' (((0 : Dev Cert.ReferenceIdeal.nD).tc : Thread Cert.ReferenceIdeal.nD Cert.ReferenceIdeal.τ).loc Cert.ReferenceIdeal.main_arg7))
      ∧ m ((c.tc : Thread Cert.KernelIdeal.nD Cert.KernelIdeal.τ).loc Cert.KernelIdeal.main_arg8) = Layout.block ⟨2, ![192, 768]⟩ ⟨2, ![3072, 768]⟩ 0 16 c (m' (((0 : Dev Cert.ReferenceIdeal.nD).tc : Thread Cert.ReferenceIdeal.nD Cert.ReferenceIdeal.τ).loc Cert.ReferenceIdeal.main_arg8))) →
    ∃ (v0 : Buf (Elt Ideal) (((0 : Dev Cert.ReferenceIdeal.nD).tc : Thread Cert.ReferenceIdeal.nD Cert.ReferenceIdeal.τ).loc Cert.ReferenceIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v99) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7)
          ∧ r.2.mem (((0 : Dev Cert.ReferenceIdeal.nD).tc : Thread Cert.ReferenceIdeal.nD Cert.ReferenceIdeal.τ).loc Cert.ReferenceIdeal.main_arg8) = m' (((0 : Dev Cert.ReferenceIdeal.nD).tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x768 : Shape := ⟨3, ![2, 512, 768]⟩
abbrev S768x384 : Shape := ⟨2, ![768, 384]⟩
abbrev S384x768 : Shape := ⟨2, ![384, 768]⟩
abbrev S2x128 : Shape := ⟨2, ![2, 128]⟩
abbrev S128x4608 : Shape := ⟨2, ![128, 4608]⟩
abbrev S768x192 : Shape := ⟨2, ![768, 192]⟩
abbrev S192x768 : Shape := ⟨2, ![192, 768]⟩
abbrev S16x64x768 : Shape := ⟨3, ![16, 64, 768]⟩
abbrev S1024x384 : Shape := ⟨2, ![1024, 384]⟩
abbrev S1024x768 : Shape := ⟨2, ![1024, 768]⟩
abbrev S2x16 : Shape := ⟨2, ![2, 16]⟩
abbrev S_ : Shape := ⟨0, ![]⟩
abbrev S2x4608 : Shape := ⟨2, ![2, 4608]⟩
abbrev S2x768 : Shape := ⟨2, ![2, 768]⟩
abbrev S1024 : Shape := ⟨1, ![1024]⟩
abbrev S1024x1 : Shape := ⟨2, ![1024, 1]⟩
abbrev S2x1x768 : Shape := ⟨3, ![2, 1, 768]⟩
abbrev S1x512x768 : Shape := ⟨3, ![1, 512, 768]⟩
abbrev S512x768 : Shape := ⟨2, ![512, 768]⟩
abbrev S512x384 : Shape := ⟨2, ![512, 384]⟩
abbrev S512x96 : Shape := ⟨2, ![512, 96]⟩
abbrev S512x512 : Shape := ⟨2, ![512, 512]⟩
abbrev S512 : Shape := ⟨1, ![512]⟩
abbrev S512x1 : Shape := ⟨2, ![512, 1]⟩
abbrev S8x64x768 : Shape := ⟨3, ![8, 64, 768]⟩
abbrev S1x1 : Shape := ⟨2, ![1, 1]⟩
abbrev S1x64x768 : Shape := ⟨3, ![1, 64, 768]⟩
abbrev S64x768 : Shape := ⟨2, ![64, 768]⟩
abbrev S1x768 : Shape := ⟨2, ![1, 768]⟩
abbrev S768 : Shape := ⟨1, ![768]⟩
abbrev S64 : Shape := ⟨1, ![64]⟩
abbrev S64x1 : Shape := ⟨2, ![64, 1]⟩
abbrev S64x192 : Shape := ⟨2, ![64, 192]⟩

abbrev nBuf : Space → Nat
  | .hbm => 10
  | .vmem => 18
  | .smem => 0
  | _ => 0

abbrev bufTy : (tb : Table) → Fin (tcTables nBuf tb) → BufTy
  | .hbm, ⟨0, _⟩ => ⟨S2x512x768, .bf16⟩
  | .hbm, ⟨1, _⟩ => ⟨S768x384, .bf16⟩
  | .hbm, ⟨2, _⟩ => ⟨S768x384, .bf16⟩
  | .hbm, ⟨3, _⟩ => ⟨S768x384, .bf16⟩
  | .hbm, ⟨4, _⟩ => ⟨S384x768, .bf16⟩
  | .hbm, ⟨5, _⟩ => ⟨S2x128, .bf16⟩
  | .hbm, ⟨6, _⟩ => ⟨S128x4608, .bf16⟩
  | .hbm, ⟨7, _⟩ => ⟨S768x192, .bf16⟩
  | .hbm, ⟨8, _⟩ => ⟨S192x768, .bf16⟩
  | .hbm, ⟨9, _⟩ => ⟨S2x512x768, .f32⟩
  | .local _ .vmem, ⟨0, _⟩ => ⟨S2x512x768, .bf16⟩
  | .local _ .vmem, ⟨1, _⟩ => ⟨S768x384, .bf16⟩
  | .local _ .vmem, ⟨2, _⟩ => ⟨S768x384, .bf16⟩
  | .local _ .vmem, ⟨3, _⟩ => ⟨S768x384, .bf16⟩
  | .local _ .vmem, ⟨4, _⟩ => ⟨S384x768, .bf16⟩
  | .local _ .vmem, ⟨5, _⟩ => ⟨S2x128, .bf16⟩
  | .local _ .vmem, ⟨6, _⟩ => ⟨S128x4608, .bf16⟩
  | .local _ .vmem, ⟨7, _⟩ => ⟨S768x192, .bf16⟩
  | .local _ .vmem, ⟨8, _⟩ => ⟨S192x768, .bf16⟩
  | .local _ .vmem, ⟨9, _⟩ => ⟨S2x512x768, .f32⟩
  | .local _ .vmem, ⟨10, _⟩ => ⟨S16x64x768, .bf16⟩
  | .local _ .vmem, ⟨11, _⟩ => ⟨S16x64x768, .bf16⟩
  | .local _ .vmem, ⟨12, _⟩ => ⟨S16x64x768, .bf16⟩
  | .local _ .vmem, ⟨13, _⟩ => ⟨S16x64x768, .bf16⟩
  | .local _ .vmem, ⟨14, _⟩ => ⟨S16x64x768, .bf16⟩
  | .local _ .vmem, ⟨15, _⟩ => ⟨S16x64x768, .bf16⟩
  | .local _ .vmem, ⟨16, _⟩ => ⟨S1024x384, .f32⟩
  | .local _ .vmem, ⟨17, _⟩ => ⟨S1024x768, .f32⟩
  | _, _ => ⟨S2x512x768, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 1 → Bool
  | ⟨0, _⟩ => false
  | _ => false

abbrev dmaSemScoped : Fin 138 → Bool
  | ⟨i, _⟩ => dmaSemScopedAt i

abbrev sig : RefSig :=
  (ofTc nBuf bufTy 1 138 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_115 : BitVec 32 := 0#32
  let v222 : BitVec 1 := Scalar.cmpi .ne v2 c0_i32_115
  let v223 : BitVec 32 := Scalar.extui v222
  let c0_i32_120 : BitVec 32 := 0#32
  let v224 : BitVec 1 := Scalar.cmpi .ne v223 c0_i32_120
  v224

def k0_off1 (d0 : Dev nD) : Fin 2 → Nat :=
  let c0_i32_117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev16 : Nat :=
  let c0_i32_1803 : BitVec 32 := 0#32
  let c0_i32_1801 : BitVec 32 := 0#32
  let c1_i32_1802 : BitVec 32 := 1#32
  let v2079 : BitVec 32 := Scalar.muli c0_i32_1801 c1_i32_1802
  let v2080 : BitVec 32 := Scalar.addi c0_i32_1803 v2079
  v2080.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_121 : BitVec 32 := 1#32
  let v225 : BitVec 1 := Scalar.cmpi .ne v2 c1_i32_121
  let v226 : BitVec 32 := Scalar.extui v225
  let c0_i32_126 : BitVec 32 := 0#32
  let v227 : BitVec 1 := Scalar.cmpi .ne v226 c0_i32_126
  v227

def k0_off3 (d0 : Dev nD) : Fin 2 → Nat :=
  let c0_i32_123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev17 : Nat :=
  let c0_i32_1803 : BitVec 32 := 0#32
  let c1_i32_1801 : BitVec 32 := 1#32
  let c1_i32_1802 : BitVec 32 := 1#32
  let v2079 : BitVec 32 := Scalar.muli c1_i32_1801 c1_i32_1802
  let v2080 : BitVec 32 := Scalar.addi c0_i32_1803 v2079
  v2080.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_127 : BitVec 32 := 2#32
  let v228 : BitVec 1 := Scalar.cmpi .ne v2 c2_i32_127
  let v229 : BitVec 32 := Scalar.extui v228
  let c0_i32_132 : BitVec 32 := 0#32
  let v230 : BitVec 1 := Scalar.cmpi .ne v229 c0_i32_132
  v230

def k0_off5 (d0 : Dev nD) : Fin 2 → Nat :=
  let c0_i32_129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev18 : Nat :=
  let c0_i32_1803 : BitVec 32 := 0#32
  let c2_i32_1801 : BitVec 32 := 2#32
  let c1_i32_1802 : BitVec 32 := 1#32
  let v2079 : BitVec 32 := Scalar.muli c2_i32_1801 c1_i32_1802
  let v2080 : BitVec 32 := Scalar.addi c0_i32_1803 v2079
  v2080.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_133 : BitVec 32 := 3#32
  let v231 : BitVec 1 := Scalar.cmpi .ne v2 c3_i32_133
  let v232 : BitVec 32 := Scalar.extui v231
  let c0_i32_138 : BitVec 32 := 0#32
  let v233 : BitVec 1 := Scalar.cmpi .ne v232 c0_i32_138
  v233

def k0_off7 (d0 : Dev nD) : Fin 2 → Nat :=
  let c0_i32_135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev19 : Nat :=
  let c0_i32_1803 : BitVec 32 := 0#32
  let c3_i32_1801 : BitVec 32 := 3#32
  let c1_i32_1802 : BitVec 32 := 1#32
  let v2079 : BitVec 32 := Scalar.muli c3_i32_1801 c1_i32_1802
  let v2080 : BitVec 32 := Scalar.addi c0_i32_1803 v2079
  v2080.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_139 : BitVec 32 := 4#32
  let v234 : BitVec 1 := Scalar.cmpi .ne v2 c4_i32_139
  let v235 : BitVec 32 := Scalar.extui v234
  let c0_i32_144 : BitVec 32 := 0#32
  let v236 : BitVec 1 := Scalar.cmpi .ne v235 c0_i32_144
  v236

def k0_off9 (d0 : Dev nD) : Fin 2 → Nat :=
  let c0_i32_141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off10 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev20 : Nat :=
  let c0_i32_1803 : BitVec 32 := 0#32
  let c4_i32_1801 : BitVec 32 := 4#32
  let c1_i32_1802 : BitVec 32 := 1#32
  let v2079 : BitVec 32 := Scalar.muli c4_i32_1801 c1_i32_1802
  let v2080 : BitVec 32 := Scalar.addi c0_i32_1803 v2079
  v2080.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_145 : BitVec 32 := 5#32
  let v237 : BitVec 1 := Scalar.cmpi .ne v2 c5_i32_145
  let v238 : BitVec 32 := Scalar.extui v237
  let c0_i32_150 : BitVec 32 := 0#32
  let v239 : BitVec 1 := Scalar.cmpi .ne v238 c0_i32_150
  v239

def k0_off11 (d0 : Dev nD) : Fin 2 → Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev21 : Nat :=
  let c0_i32_1803 : BitVec 32 := 0#32
  let c5_i32_1801 : BitVec 32 := 5#32
  let c1_i32_1802 : BitVec 32 := 1#32
  let v2079 : BitVec 32 := Scalar.muli c5_i32_1801 c1_i32_1802
  let v2080 : BitVec 32 := Scalar.addi c0_i32_1803 v2079
  v2080.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_151 : BitVec 32 := 6#32
  let v240 : BitVec 1 := Scalar.cmpi .ne v2 c6_i32_151
  let v241 : BitVec 32 := Scalar.extui v240
  let c0_i32_156 : BitVec 32 := 0#32
  let v242 : BitVec 1 := Scalar.cmpi .ne v241 c0_i32_156
  v242

def k0_off13 (d0 : Dev nD) : Fin 2 → Nat :=
  let c0_i32_153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off14 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev22 : Nat :=
  let c0_i32_1803 : BitVec 32 := 0#32
  let c6_i32_1801 : BitVec 32 := 6#32
  let c1_i32_1802 : BitVec 32 := 1#32
  let v2079 : BitVec 32 := Scalar.muli c6_i32_1801 c1_i32_1802
  let v2080 : BitVec 32 := Scalar.addi c0_i32_1803 v2079
  v2080.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_157 : BitVec 32 := 7#32
  let v243 : BitVec 1 := Scalar.cmpi .ne v2 c7_i32_157
  let v244 : BitVec 32 := Scalar.extui v243
  let c0_i32_162 : BitVec 32 := 0#32
  let v245 : BitVec 1 := Scalar.cmpi .ne v244 c0_i32_162
  v245

def k0_off15 (d0 : Dev nD) : Fin 2 → Nat :=
  let c0_i32_159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off16 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev23 : Nat :=
  let c0_i32_1803 : BitVec 32 := 0#32
  let c7_i32_1801 : BitVec 32 := 7#32
  let c1_i32_1802 : BitVec 32 := 1#32
  let v2079 : BitVec 32 := Scalar.muli c7_i32_1801 c1_i32_1802
  let v2080 : BitVec 32 := Scalar.addi c0_i32_1803 v2079
  v2080.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_204 : BitVec 32 := 8#32
  let v357 : BitVec 1 := Scalar.cmpi .ne v2 c8_i32_204
  let v358 : BitVec 32 := Scalar.extui v357
  let c0_i32_209 : BitVec 32 := 0#32
  let v359 : BitVec 1 := Scalar.cmpi .ne v358 c0_i32_209
  v359

def k0_off17 (d0 : Dev nD) : Fin 2 → Nat :=
  let c0_i32_206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off18 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev24 : Nat :=
  let c0_i32_1803 : BitVec 32 := 0#32
  let c8_i32_1801 : BitVec 32 := 8#32
  let c1_i32_1802 : BitVec 32 := 1#32
  let v2079 : BitVec 32 := Scalar.muli c8_i32_1801 c1_i32_1802
  let v2080 : BitVec 32 := Scalar.addi c0_i32_1803 v2079
  v2080.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_210 : BitVec 32 := 9#32
  let v360 : BitVec 1 := Scalar.cmpi .ne v2 c9_i32_210
  let v361 : BitVec 32 := Scalar.extui v360
  let c0_i32_215 : BitVec 32 := 0#32
  let v362 : BitVec 1 := Scalar.cmpi .ne v361 c0_i32_215
  v362

def k0_off19 (d0 : Dev nD) : Fin 2 → Nat :=
  let c0_i32_212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off20 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev25 : Nat :=
  let c0_i32_1803 : BitVec 32 := 0#32
  let c9_i32_1801 : BitVec 32 := 9#32
  let c1_i32_1802 : BitVec 32 := 1#32
  let v2079 : BitVec 32 := Scalar.muli c9_i32_1801 c1_i32_1802
  let v2080 : BitVec 32 := Scalar.addi c0_i32_1803 v2079
  v2080.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_216 : BitVec 32 := 10#32
  let v363 : BitVec 1 := Scalar.cmpi .ne v2 c10_i32_216
  let v364 : BitVec 32 := Scalar.extui v363
  let c0_i32_221 : BitVec 32 := 0#32
  let v365 : BitVec 1 := Scalar.cmpi .ne v364 c0_i32_221
  v365

def k0_off21 (d0 : Dev nD) : Fin 2 → Nat :=
  let c0_i32_218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off22 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev26 : Nat :=
  let c0_i32_1803 : BitVec 32 := 0#32
  let c10_i32_1801 : BitVec 32 := 10#32
  let c1_i32_1802 : BitVec 32 := 1#32
  let v2079 : BitVec 32 := Scalar.muli c10_i32_1801 c1_i32_1802
  let v2080 : BitVec 32 := Scalar.addi c0_i32_1803 v2079
  v2080.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_222 : BitVec 32 := 11#32
  let v366 : BitVec 1 := Scalar.cmpi .ne v2 c11_i32_222
  let v367 : BitVec 32 := Scalar.extui v366
  let c0_i32_227 : BitVec 32 := 0#32
  let v368 : BitVec 1 := Scalar.cmpi .ne v367 c0_i32_227
  v368

def k0_off23 (d0 : Dev nD) : Fin 2 → Nat :=
  let c0_i32_224 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off24 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev27 : Nat :=
  let c0_i32_1803 : BitVec 32 := 0#32
  let c11_i32_1801 : BitVec 32 := 11#32
  let c1_i32_1802 : BitVec 32 := 1#32
  let v2079 : BitVec 32 := Scalar.muli c11_i32_1801 c1_i32_1802
  let v2080 : BitVec 32 := Scalar.addi c0_i32_1803 v2079
  v2080.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_228 : BitVec 32 := 12#32
  let v369 : BitVec 1 := Scalar.cmpi .ne v2 c12_i32_228
  let v370 : BitVec 32 := Scalar.extui v369
  let c0_i32_233 : BitVec 32 := 0#32
  let v371 : BitVec 1 := Scalar.cmpi .ne v370 c0_i32_233
  v371

def k0_off25 (d0 : Dev nD) : Fin 2 → Nat :=
  let c0_i32_230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off26 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev28 : Nat :=
  let c0_i32_1803 : BitVec 32 := 0#32
  let c12_i32_1801 : BitVec 32 := 12#32
  let c1_i32_1802 : BitVec 32 := 1#32
  let v2079 : BitVec 32 := Scalar.muli c12_i32_1801 c1_i32_1802
  let v2080 : BitVec 32 := Scalar.addi c0_i32_1803 v2079
  v2080.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_234 : BitVec 32 := 13#32
  let v372 : BitVec 1 := Scalar.cmpi .ne v2 c13_i32_234
  let v373 : BitVec 32 := Scalar.extui v372
  let c0_i32_239 : BitVec 32 := 0#32
  let v374 : BitVec 1 := Scalar.cmpi .ne v373 c0_i32_239
  v374

def k0_off27 (d0 : Dev nD) : Fin 2 → Nat :=
  let c0_i32_236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off28 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev29 : Nat :=
  let c0_i32_1803 : BitVec 32 := 0#32
  let c13_i32_1801 : BitVec 32 := 13#32
  let c1_i32_1802 : BitVec 32 := 1#32
  let v2079 : BitVec 32 := Scalar.muli c13_i32_1801 c1_i32_1802
  let v2080 : BitVec 32 := Scalar.addi c0_i32_1803 v2079
  v2080.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_240 : BitVec 32 := 14#32
  let v375 : BitVec 1 := Scalar.cmpi .ne v2 c14_i32_240
  let v376 : BitVec 32 := Scalar.extui v375
  let c0_i32_245 : BitVec 32 := 0#32
  let v377 : BitVec 1 := Scalar.cmpi .ne v376 c0_i32_245
  v377

def k0_off29 (d0 : Dev nD) : Fin 2 → Nat :=
  let c0_i32_242 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off30 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev30 : Nat :=
  let c0_i32_1803 : BitVec 32 := 0#32
  let c14_i32_1801 : BitVec 32 := 14#32
  let c1_i32_1802 : BitVec 32 := 1#32
  let v2079 : BitVec 32 := Scalar.muli c14_i32_1801 c1_i32_1802
  let v2080 : BitVec 32 := Scalar.addi c0_i32_1803 v2079
  v2080.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_246 : BitVec 32 := 15#32
  let v378 : BitVec 1 := Scalar.cmpi .ne v2 c15_i32_246
  let v379 : BitVec 32 := Scalar.extui v378
  let c0_i32_251 : BitVec 32 := 0#32
  let v380 : BitVec 1 := Scalar.cmpi .ne v379 c0_i32_251
  v380

def k0_off31 (d0 : Dev nD) : Fin 2 → Nat :=
  let c0_i32_248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off32 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev31 : Nat :=
  let c0_i32_1803 : BitVec 32 := 0#32
  let c15_i32_1801 : BitVec 32 := 15#32
  let c1_i32_1802 : BitVec 32 := 1#32
  let v2079 : BitVec 32 := Scalar.muli c15_i32_1801 c1_i32_1802
  let v2080 : BitVec 32 := Scalar.addi c0_i32_1803 v2079
  v2080.toNat
def k0_off33 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v381 : Index := Scalar.indexCast v2
  let c0_252 : Index := 0#32
  let c0_253 : Index := 0#32
  ![v381.toNat, 0, 0]
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_390 : BitVec 32 := 0#32
  let v444 : BitVec 1 := Scalar.cmpi .ne v2 c0_i32_390
  let v445 : BitVec 32 := Scalar.extui v444
  let c0_i32_394 : BitVec 32 := 0#32
  let v446 : BitVec 1 := Scalar.cmpi .ne v445 c0_i32_394
  v446

def k0_off34 (d0 : Dev nD) : Fin 2 → Nat :=
  let c0_i32_391 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off35 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev32 : Nat :=
  let c0_i32_1803 : BitVec 32 := 0#32
  let c0_i32_1801 : BitVec 32 := 0#32
  let c1_i32_1802 : BitVec 32 := 1#32
  let v2079 : BitVec 32 := Scalar.muli c0_i32_1801 c1_i32_1802
  let v2080 : BitVec 32 := Scalar.addi c0_i32_1803 v2079
  v2080.toNat
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_395 : BitVec 32 := 1#32
  let v447 : BitVec 1 := Scalar.cmpi .ne v2 c1_i32_395
  let v448 : BitVec 32 := Scalar.extui v447
  let c0_i32_399 : BitVec 32 := 0#32
  let v449 : BitVec 1 := Scalar.cmpi .ne v448 c0_i32_399
  v449

def k0_off36 (d0 : Dev nD) : Fin 2 → Nat :=
  let c0_i32_396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off37 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev33 : Nat :=
  let c0_i32_1803 : BitVec 32 := 0#32
  let c1_i32_1801 : BitVec 32 := 1#32
  let c1_i32_1802 : BitVec 32 := 1#32
  let v2079 : BitVec 32 := Scalar.muli c1_i32_1801 c1_i32_1802
  let v2080 : BitVec 32 := Scalar.addi c0_i32_1803 v2079
  v2080.toNat
def k0_cond35 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_400 : BitVec 32 := 2#32
  let v450 : BitVec 1 := Scalar.cmpi .ne v2 c2_i32_400
  let v451 : BitVec 32 := Scalar.extui v450
  let c0_i32_404 : BitVec 32 := 0#32
  let v452 : BitVec 1 := Scalar.cmpi .ne v451 c0_i32_404
  v452

def k0_off38 (d0 : Dev nD) : Fin 2 → Nat :=
  let c0_i32_401 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off39 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev34 : Nat :=
  let c0_i32_1803 : BitVec 32 := 0#32
  let c2_i32_1801 : BitVec 32 := 2#32
  let c1_i32_1802 : BitVec 32 := 1#32
  let v2079 : BitVec 32 := Scalar.muli c2_i32_1801 c1_i32_1802
  let v2080 : BitVec 32 := Scalar.addi c0_i32_1803 v2079
  v2080.toNat
def k0_cond36 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_405 : BitVec 32 := 3#32
  let v453 : BitVec 1 := Scalar.cmpi .ne v2 c3_i32_405
  let v454 : BitVec 32 := Scalar.extui v453
  let c0_i32_409 : BitVec 32 := 0#32
  let v455 : BitVec 1 := Scalar.cmpi .ne v454 c0_i32_409
  v455

def k0_off40 (d0 : Dev nD) : Fin 2 → Nat :=
  let c0_i32_406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off41 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev35 : Nat :=
  let c0_i32_1803 : BitVec 32 := 0#32
  let c3_i32_1801 : BitVec 32 := 3#32
  let c1_i32_1802 : BitVec 32 := 1#32
  let v2079 : BitVec 32 := Scalar.muli c3_i32_1801 c1_i32_1802
  let v2080 : BitVec 32 := Scalar.addi c0_i32_1803 v2079
  v2080.toNat
def k0_cond37 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_410 : BitVec 32 := 4#32
  let v456 : BitVec 1 := Scalar.cmpi .ne v2 c4_i32_410
  let v457 : BitVec 32 := Scalar.extui v456
  let c0_i32_414 : BitVec 32 := 0#32
  let v458 : BitVec 1 := Scalar.cmpi .ne v457 c0_i32_414
  v458

def k0_off42 (d0 : Dev nD) : Fin 2 → Nat :=
  let c0_i32_411 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off43 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev36 : Nat :=
  let c0_i32_1803 : BitVec 32 := 0#32
  let c4_i32_1801 : BitVec 32 := 4#32
  let c1_i32_1802 : BitVec 32 := 1#32
  let v2079 : BitVec 32 := Scalar.muli c4_i32_1801 c1_i32_1802
  let v2080 : BitVec 32 := Scalar.addi c0_i32_1803 v2079
  v2080.toNat
def k0_cond38 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_415 : BitVec 32 := 5#32
  let v459 : BitVec 1 := Scalar.cmpi .ne v2 c5_i32_415
  let v460 : BitVec 32 := Scalar.extui v459
  let c0_i32_419 : BitVec 32 := 0#32
  let v461 : BitVec 1 := Scalar.cmpi .ne v460 c0_i32_419
  v461

def k0_off44 (d0 : Dev nD) : Fin 2 → Nat :=
  let c0_i32_416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off45 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev37 : Nat :=
  let c0_i32_1803 : BitVec 32 := 0#32
  let c5_i32_1801 : BitVec 32 := 5#32
  let c1_i32_1802 : BitVec 32 := 1#32
  let v2079 : BitVec 32 := Scalar.muli c5_i32_1801 c1_i32_1802
  let v2080 : BitVec 32 := Scalar.addi c0_i32_1803 v2079
  v2080.toNat
def k0_cond39 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_420 : BitVec 32 := 6#32
  let v462 : BitVec 1 := Scalar.cmpi .ne v2 c6_i32_420
  let v463 : BitVec 32 := Scalar.extui v462
  let c0_i32_424 : BitVec 32 := 0#32
  let v464 : BitVec 1 := Scalar.cmpi .ne v463 c0_i32_424
  v464

def k0_off46 (d0 : Dev nD) : Fin 2 → Nat :=
  let c0_i32_421 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off47 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev38 : Nat :=
  let c0_i32_1803 : BitVec 32 := 0#32
  let c6_i32_1801 : BitVec 32 := 6#32
  let c1_i32_1802 : BitVec 32 := 1#32
  let v2079 : BitVec 32 := Scalar.muli c6_i32_1801 c1_i32_1802
  let v2080 : BitVec 32 := Scalar.addi c0_i32_1803 v2079
  v2080.toNat
def k0_cond40 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_425 : BitVec 32 := 7#32
  let v465 : BitVec 1 := Scalar.cmpi .ne v2 c7_i32_425
  let v466 : BitVec 32 := Scalar.extui v465
  let c0_i32_429 : BitVec 32 := 0#32
  let v467 : BitVec 1 := Scalar.cmpi .ne v466 c0_i32_429
  v467

def k0_off48 (d0 : Dev nD) : Fin 2 → Nat :=
  let c0_i32_426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off49 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev39 : Nat :=
  let c0_i32_1803 : BitVec 32 := 0#32
  let c7_i32_1801 : BitVec 32 := 7#32
  let c1_i32_1802 : BitVec 32 := 1#32
  let v2079 : BitVec 32 := Scalar.muli c7_i32_1801 c1_i32_1802
  let v2080 : BitVec 32 := Scalar.addi c0_i32_1803 v2079
  v2080.toNat
def k0_cond41 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_430 : BitVec 32 := 8#32
  let v468 : BitVec 1 := Scalar.cmpi .ne v2 c8_i32_430
  let v469 : BitVec 32 := Scalar.extui v468
  let c0_i32_434 : BitVec 32 := 0#32
  let v470 : BitVec 1 := Scalar.cmpi .ne v469 c0_i32_434
  v470

def k0_off50 (d0 : Dev nD) : Fin 2 → Nat :=
  let c0_i32_431 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off51 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev40 : Nat :=
  let c0_i32_1803 : BitVec 32 := 0#32
  let c8_i32_1801 : BitVec 32 := 8#32
  let c1_i32_1802 : BitVec 32 := 1#32
  let v2079 : BitVec 32 := Scalar.muli c8_i32_1801 c1_i32_1802
  let v2080 : BitVec 32 := Scalar.addi c0_i32_1803 v2079
  v2080.toNat
def k0_cond42 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_435 : BitVec 32 := 9#32
  let v471 : BitVec 1 := Scalar.cmpi .ne v2 c9_i32_435
  let v472 : BitVec 32 := Scalar.extui v471
  let c0_i32_439 : BitVec 32 := 0#32
  let v473 : BitVec 1 := Scalar.cmpi .ne v472 c0_i32_439
  v473

def k0_off52 (d0 : Dev nD) : Fin 2 → Nat :=
  let c0_i32_436 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off53 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev41 : Nat :=
  let c0_i32_1803 : BitVec 32 := 0#32
  let c9_i32_1801 : BitVec 32 := 9#32
  let c1_i32_1802 : BitVec 32 := 1#32
  let v2079 : BitVec 32 := Scalar.muli c9_i32_1801 c1_i32_1802
  let v2080 : BitVec 32 := Scalar.addi c0_i32_1803 v2079
  v2080.toNat
def k0_cond43 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_440 : BitVec 32 := 10#32
  let v474 : BitVec 1 := Scalar.cmpi .ne v2 c10_i32_440
  let v475 : BitVec 32 := Scalar.extui v474
  let c0_i32_444 : BitVec 32 := 0#32
  let v476 : BitVec 1 := Scalar.cmpi .ne v475 c0_i32_444
  v476

def k0_off54 (d0 : Dev nD) : Fin 2 → Nat :=
  let c0_i32_441 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off55 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev42 : Nat :=
  let c0_i32_1803 : BitVec 32 := 0#32
  let c10_i32_1801 : BitVec 32 := 10#32
  let c1_i32_1802 : BitVec 32 := 1#32
  let v2079 : BitVec 32 := Scalar.muli c10_i32_1801 c1_i32_1802
  let v2080 : BitVec 32 := Scalar.addi c0_i32_1803 v2079
  v2080.toNat
def k0_cond44 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_445 : BitVec 32 := 11#32
  let v477 : BitVec 1 := Scalar.cmpi .ne v2 c11_i32_445
  let v478 : BitVec 32 := Scalar.extui v477
  let c0_i32_449 : BitVec 32 := 0#32
  let v479 : BitVec 1 := Scalar.cmpi .ne v478 c0_i32_449
  v479

def k0_off56 (d0 : Dev nD) : Fin 2 → Nat :=
  let c0_i32_446 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off57 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev43 : Nat :=
  let c0_i32_1803 : BitVec 32 := 0#32
  let c11_i32_1801 : BitVec 32 := 11#32
  let c1_i32_1802 : BitVec 32 := 1#32
  let v2079 : BitVec 32 := Scalar.muli c11_i32_1801 c1_i32_1802
  let v2080 : BitVec 32 := Scalar.addi c0_i32_1803 v2079
  v2080.toNat
def k0_cond45 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_450 : BitVec 32 := 12#32
  let v480 : BitVec 1 := Scalar.cmpi .ne v2 c12_i32_450
  let v481 : BitVec 32 := Scalar.extui v480
  let c0_i32_454 : BitVec 32 := 0#32
  let v482 : BitVec 1 := Scalar.cmpi .ne v481 c0_i32_454
  v482

def k0_off58 (d0 : Dev nD) : Fin 2 → Nat :=
  let c0_i32_451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off59 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev44 : Nat :=
  let c0_i32_1803 : BitVec 32 := 0#32
  let c12_i32_1801 : BitVec 32 := 12#32
  let c1_i32_1802 : BitVec 32 := 1#32
  let v2079 : BitVec 32 := Scalar.muli c12_i32_1801 c1_i32_1802
  let v2080 : BitVec 32 := Scalar.addi c0_i32_1803 v2079
  v2080.toNat
def k0_cond46 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_455 : BitVec 32 := 13#32
  let v483 : BitVec 1 := Scalar.cmpi .ne v2 c13_i32_455
  let v484 : BitVec 32 := Scalar.extui v483
  let c0_i32_459 : BitVec 32 := 0#32
  let v485 : BitVec 1 := Scalar.cmpi .ne v484 c0_i32_459
  v485

def k0_off60 (d0 : Dev nD) : Fin 2 → Nat :=
  let c0_i32_456 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off61 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev45 : Nat :=
  let c0_i32_1803 : BitVec 32 := 0#32
  let c13_i32_1801 : BitVec 32 := 13#32
  let c1_i32_1802 : BitVec 32 := 1#32
  let v2079 : BitVec 32 := Scalar.muli c13_i32_1801 c1_i32_1802
  let v2080 : BitVec 32 := Scalar.addi c0_i32_1803 v2079
  v2080.toNat
def k0_cond47 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_460 : BitVec 32 := 14#32
  let v486 : BitVec 1 := Scalar.cmpi .ne v2 c14_i32_460
  let v487 : BitVec 32 := Scalar.extui v486
  let c0_i32_464 : BitVec 32 := 0#32
  let v488 : BitVec 1 := Scalar.cmpi .ne v487 c0_i32_464
  v488

def k0_off62 (d0 : Dev nD) : Fin 2 → Nat :=
  let c0_i32_461 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off63 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev46 : Nat :=
  let c0_i32_1803 : BitVec 32 := 0#32
  let c14_i32_1801 : BitVec 32 := 14#32
  let c1_i32_1802 : BitVec 32 := 1#32
  let v2079 : BitVec 32 := Scalar.muli c14_i32_1801 c1_i32_1802
  let v2080 : BitVec 32 := Scalar.addi c0_i32_1803 v2079
  v2080.toNat
def k0_cond48 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_465 : BitVec 32 := 15#32
  let v489 : BitVec 1 := Scalar.cmpi .ne v2 c15_i32_465
  let v490 : BitVec 32 := Scalar.extui v489
  let c0_i32_469 : BitVec 32 := 0#32
  let v491 : BitVec 1 := Scalar.cmpi .ne v490 c0_i32_469
  v491

def k0_off64 (d0 : Dev nD) : Fin 2 → Nat :=
  let c0_i32_466 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off65 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev47 : Nat :=
  let c0_i32_1803 : BitVec 32 := 0#32
  let c15_i32_1801 : BitVec 32 := 15#32
  let c1_i32_1802 : BitVec 32 := 1#32
  let v2079 : BitVec 32 := Scalar.muli c15_i32_1801 c1_i32_1802
  let v2080 : BitVec 32 := Scalar.addi c0_i32_1803 v2079
  v2080.toNat
def k0_cond50 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_501 : BitVec 32 := 0#32
  let v557 : BitVec 1 := Scalar.cmpi .ne v2 c0_i32_501
  let v558 : BitVec 32 := Scalar.extui v557
  let c0_i32_506 : BitVec 32 := 0#32
  let v559 : BitVec 1 := Scalar.cmpi .ne v558 c0_i32_506
  v559

def k0_off66 (d0 : Dev nD) : Fin 2 → Nat :=
  let c1_i32_503 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off67 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev48 : Nat :=
  let c0_i32_1803 : BitVec 32 := 0#32
  let c0_i32_1801 : BitVec 32 := 0#32
  let c1_i32_1802 : BitVec 32 := 1#32
  let v2079 : BitVec 32 := Scalar.muli c0_i32_1801 c1_i32_1802
  let v2080 : BitVec 32 := Scalar.addi c0_i32_1803 v2079
  v2080.toNat
def k0_cond52 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_532 : BitVec 32 := 1#32
  let v621 : BitVec 1 := Scalar.cmpi .ne v2 c1_i32_532
  let v622 : BitVec 32 := Scalar.extui v621
  let c0_i32_537 : BitVec 32 := 0#32
  let v623 : BitVec 1 := Scalar.cmpi .ne v622 c0_i32_537
  v623

def k0_off68 (d0 : Dev nD) : Fin 2 → Nat :=
  let c1_i32_534 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off69 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev49 : Nat :=
  let c0_i32_1803 : BitVec 32 := 0#32
  let c1_i32_1801 : BitVec 32 := 1#32
  let c1_i32_1802 : BitVec 32 := 1#32
  let v2079 : BitVec 32 := Scalar.muli c1_i32_1801 c1_i32_1802
  let v2080 : BitVec 32 := Scalar.addi c0_i32_1803 v2079
  v2080.toNat
def k0_cond54 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_563 : BitVec 32 := 2#32
  let v685 : BitVec 1 := Scalar.cmpi .ne v2 c2_i32_563
  let v686 : BitVec 32 := Scalar.extui v685
  let c0_i32_568 : BitVec 32 := 0#32
  let v687 : BitVec 1 := Scalar.cmpi .ne v686 c0_i32_568
  v687

def k0_off70 (d0 : Dev nD) : Fin 2 → Nat :=
  let c1_i32_565 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off71 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev50 : Nat :=
  let c0_i32_1803 : BitVec 32 := 0#32
  let c2_i32_1801 : BitVec 32 := 2#32
  let c1_i32_1802 : BitVec 32 := 1#32
  let v2079 : BitVec 32 := Scalar.muli c2_i32_1801 c1_i32_1802
  let v2080 : BitVec 32 := Scalar.addi c0_i32_1803 v2079
  v2080.toNat
def k0_cond56 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_595 : BitVec 32 := 3#32
  let v749 : BitVec 1 := Scalar.cmpi .ne v2 c3_i32_595
  let v750 : BitVec 32 := Scalar.extui v749
  let c0_i32_600 : BitVec 32 := 0#32
  let v751 : BitVec 1 := Scalar.cmpi .ne v750 c0_i32_600
  v751

def k0_off72 (d0 : Dev nD) : Fin 2 → Nat :=
  let c1_i32_597 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off73 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev51 : Nat :=
  let c0_i32_1803 : BitVec 32 := 0#32
  let c3_i32_1801 : BitVec 32 := 3#32
  let c1_i32_1802 : BitVec 32 := 1#32
  let v2079 : BitVec 32 := Scalar.muli c3_i32_1801 c1_i32_1802
  let v2080 : BitVec 32 := Scalar.addi c0_i32_1803 v2079
  v2080.toNat
def k0_cond58 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_626 : BitVec 32 := 4#32
  let v813 : BitVec 1 := Scalar.cmpi .ne v2 c4_i32_626
  let v814 : BitVec 32 := Scalar.extui v813
  let c0_i32_631 : BitVec 32 := 0#32
  let v815 : BitVec 1 := Scalar.cmpi .ne v814 c0_i32_631
  v815

def k0_off74 (d0 : Dev nD) : Fin 2 → Nat :=
  let c1_i32_628 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off75 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev52 : Nat :=
  let c0_i32_1803 : BitVec 32 := 0#32
  let c4_i32_1801 : BitVec 32 := 4#32
  let c1_i32_1802 : BitVec 32 := 1#32
  let v2079 : BitVec 32 := Scalar.muli c4_i32_1801 c1_i32_1802
  let v2080 : BitVec 32 := Scalar.addi c0_i32_1803 v2079
  v2080.toNat
def k0_cond60 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_657 : BitVec 32 := 5#32
  let v877 : BitVec 1 := Scalar.cmpi .ne v2 c5_i32_657
  let v878 : BitVec 32 := Scalar.extui v877
  let c0_i32_662 : BitVec 32 := 0#32
  let v879 : BitVec 1 := Scalar.cmpi .ne v878 c0_i32_662
  v879

def k0_off76 (d0 : Dev nD) : Fin 2 → Nat :=
  let c1_i32_659 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off77 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev53 : Nat :=
  let c0_i32_1803 : BitVec 32 := 0#32
  let c5_i32_1801 : BitVec 32 := 5#32
  let c1_i32_1802 : BitVec 32 := 1#32
  let v2079 : BitVec 32 := Scalar.muli c5_i32_1801 c1_i32_1802
  let v2080 : BitVec 32 := Scalar.addi c0_i32_1803 v2079
  v2080.toNat
def k0_cond62 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_688 : BitVec 32 := 6#32
  let v941 : BitVec 1 := Scalar.cmpi .ne v2 c6_i32_688
  let v942 : BitVec 32 := Scalar.extui v941
  let c0_i32_693 : BitVec 32 := 0#32
  let v943 : BitVec 1 := Scalar.cmpi .ne v942 c0_i32_693
  v943

def k0_off78 (d0 : Dev nD) : Fin 2 → Nat :=
  let c1_i32_690 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off79 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev54 : Nat :=
  let c0_i32_1803 : BitVec 32 := 0#32
  let c6_i32_1801 : BitVec 32 := 6#32
  let c1_i32_1802 : BitVec 32 := 1#32
  let v2079 : BitVec 32 := Scalar.muli c6_i32_1801 c1_i32_1802
  let v2080 : BitVec 32 := Scalar.addi c0_i32_1803 v2079
  v2080.toNat
def k0_cond64 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_719 : BitVec 32 := 7#32
  let v1005 : BitVec 1 := Scalar.cmpi .ne v2 c7_i32_719
  let v1006 : BitVec 32 := Scalar.extui v1005
  let c0_i32_724 : BitVec 32 := 0#32
  let v1007 : BitVec 1 := Scalar.cmpi .ne v1006 c0_i32_724
  v1007

def k0_off80 (d0 : Dev nD) : Fin 2 → Nat :=
  let c1_i32_721 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off81 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev55 : Nat :=
  let c0_i32_1803 : BitVec 32 := 0#32
  let c7_i32_1801 : BitVec 32 := 7#32
  let c1_i32_1802 : BitVec 32 := 1#32
  let v2079 : BitVec 32 := Scalar.muli c7_i32_1801 c1_i32_1802
  let v2080 : BitVec 32 := Scalar.addi c0_i32_1803 v2079
  v2080.toNat
def k0_cond66 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_752 : BitVec 32 := 8#32
  let v1069 : BitVec 1 := Scalar.cmpi .ne v2 c8_i32_752
  let v1070 : BitVec 32 := Scalar.extui v1069
  let c0_i32_757 : BitVec 32 := 0#32
  let v1071 : BitVec 1 := Scalar.cmpi .ne v1070 c0_i32_757
  v1071

def k0_off82 (d0 : Dev nD) : Fin 2 → Nat :=
  let c1_i32_754 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off83 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev56 : Nat :=
  let c0_i32_1803 : BitVec 32 := 0#32
  let c8_i32_1801 : BitVec 32 := 8#32
  let c1_i32_1802 : BitVec 32 := 1#32
  let v2079 : BitVec 32 := Scalar.muli c8_i32_1801 c1_i32_1802
  let v2080 : BitVec 32 := Scalar.addi c0_i32_1803 v2079
  v2080.toNat
def k0_cond68 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_783 : BitVec 32 := 9#32
  let v1133 : BitVec 1 := Scalar.cmpi .ne v2 c9_i32_783
  let v1134 : BitVec 32 := Scalar.extui v1133
  let c0_i32_788 : BitVec 32 := 0#32
  let v1135 : BitVec 1 := Scalar.cmpi .ne v1134 c0_i32_788
  v1135

def k0_off84 (d0 : Dev nD) : Fin 2 → Nat :=
  let c1_i32_785 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off85 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev57 : Nat :=
  let c0_i32_1803 : BitVec 32 := 0#32
  let c9_i32_1801 : BitVec 32 := 9#32
  let c1_i32_1802 : BitVec 32 := 1#32
  let v2079 : BitVec 32 := Scalar.muli c9_i32_1801 c1_i32_1802
  let v2080 : BitVec 32 := Scalar.addi c0_i32_1803 v2079
  v2080.toNat
def k0_cond70 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_814 : BitVec 32 := 10#32
  let v1197 : BitVec 1 := Scalar.cmpi .ne v2 c10_i32_814
  let v1198 : BitVec 32 := Scalar.extui v1197
  let c0_i32_819 : BitVec 32 := 0#32
  let v1199 : BitVec 1 := Scalar.cmpi .ne v1198 c0_i32_819
  v1199

def k0_off86 (d0 : Dev nD) : Fin 2 → Nat :=
  let c1_i32_816 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off87 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev58 : Nat :=
  let c0_i32_1803 : BitVec 32 := 0#32
  let c10_i32_1801 : BitVec 32 := 10#32
  let c1_i32_1802 : BitVec 32 := 1#32
  let v2079 : BitVec 32 := Scalar.muli c10_i32_1801 c1_i32_1802
  let v2080 : BitVec 32 := Scalar.addi c0_i32_1803 v2079
  v2080.toNat
def k0_cond72 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_845 : BitVec 32 := 11#32
  let v1261 : BitVec 1 := Scalar.cmpi .ne v2 c11_i32_845
  let v1262 : BitVec 32 := Scalar.extui v1261
  let c0_i32_850 : BitVec 32 := 0#32
  let v1263 : BitVec 1 := Scalar.cmpi .ne v1262 c0_i32_850
  v1263

def k0_off88 (d0 : Dev nD) : Fin 2 → Nat :=
  let c1_i32_847 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off89 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev59 : Nat :=
  let c0_i32_1803 : BitVec 32 := 0#32
  let c11_i32_1801 : BitVec 32 := 11#32
  let c1_i32_1802 : BitVec 32 := 1#32
  let v2079 : BitVec 32 := Scalar.muli c11_i32_1801 c1_i32_1802
  let v2080 : BitVec 32 := Scalar.addi c0_i32_1803 v2079
  v2080.toNat
def k0_cond74 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_876 : BitVec 32 := 12#32
  let v1325 : BitVec 1 := Scalar.cmpi .ne v2 c12_i32_876
  let v1326 : BitVec 32 := Scalar.extui v1325
  let c0_i32_881 : BitVec 32 := 0#32
  let v1327 : BitVec 1 := Scalar.cmpi .ne v1326 c0_i32_881
  v1327

def k0_off90 (d0 : Dev nD) : Fin 2 → Nat :=
  let c1_i32_878 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off91 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev60 : Nat :=
  let c0_i32_1803 : BitVec 32 := 0#32
  let c12_i32_1801 : BitVec 32 := 12#32
  let c1_i32_1802 : BitVec 32 := 1#32
  let v2079 : BitVec 32 := Scalar.muli c12_i32_1801 c1_i32_1802
  let v2080 : BitVec 32 := Scalar.addi c0_i32_1803 v2079
  v2080.toNat
def k0_cond76 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_907 : BitVec 32 := 13#32
  let v1389 : BitVec 1 := Scalar.cmpi .ne v2 c13_i32_907
  let v1390 : BitVec 32 := Scalar.extui v1389
  let c0_i32_912 : BitVec 32 := 0#32
  let v1391 : BitVec 1 := Scalar.cmpi .ne v1390 c0_i32_912
  v1391

def k0_off92 (d0 : Dev nD) : Fin 2 → Nat :=
  let c1_i32_909 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off93 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev61 : Nat :=
  let c0_i32_1803 : BitVec 32 := 0#32
  let c13_i32_1801 : BitVec 32 := 13#32
  let c1_i32_1802 : BitVec 32 := 1#32
  let v2079 : BitVec 32 := Scalar.muli c13_i32_1801 c1_i32_1802
  let v2080 : BitVec 32 := Scalar.addi c0_i32_1803 v2079
  v2080.toNat
def k0_cond78 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_938 : BitVec 32 := 14#32
  let v1453 : BitVec 1 := Scalar.cmpi .ne v2 c14_i32_938
  let v1454 : BitVec 32 := Scalar.extui v1453
  let c0_i32_943 : BitVec 32 := 0#32
  let v1455 : BitVec 1 := Scalar.cmpi .ne v1454 c0_i32_943
  v1455

def k0_off94 (d0 : Dev nD) : Fin 2 → Nat :=
  let c1_i32_940 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off95 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev62 : Nat :=
  let c0_i32_1803 : BitVec 32 := 0#32
  let c14_i32_1801 : BitVec 32 := 14#32
  let c1_i32_1802 : BitVec 32 := 1#32
  let v2079 : BitVec 32 := Scalar.muli c14_i32_1801 c1_i32_1802
  let v2080 : BitVec 32 := Scalar.addi c0_i32_1803 v2079
  v2080.toNat
def k0_cond80 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_969 : BitVec 32 := 15#32
  let v1517 : BitVec 1 := Scalar.cmpi .ne v2 c15_i32_969
  let v1518 : BitVec 32 := Scalar.extui v1517
  let c0_i32_974 : BitVec 32 := 0#32
  let v1519 : BitVec 1 := Scalar.cmpi .ne v1518 c0_i32_974
  v1519

def k0_off96 (d0 : Dev nD) : Fin 2 → Nat :=
  let c1_i32_971 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off97 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev63 : Nat :=
  let c0_i32_1803 : BitVec 32 := 0#32
  let c15_i32_1801 : BitVec 32 := 15#32
  let c1_i32_1802 : BitVec 32 := 1#32
  let v2079 : BitVec 32 := Scalar.muli c15_i32_1801 c1_i32_1802
  let v2080 : BitVec 32 := Scalar.addi c0_i32_1803 v2079
  v2080.toNat
def k0_cond97 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1113 : BitVec 32 := 0#32
  let v1583 : BitVec 1 := Scalar.cmpi .ne v2 c0_i32_1113
  let v1584 : BitVec 32 := Scalar.extui v1583
  let c0_i32_1117 : BitVec 32 := 0#32
  let v1585 : BitVec 1 := Scalar.cmpi .ne v1584 c0_i32_1117
  v1585

def k0_off98 (d0 : Dev nD) : Fin 2 → Nat :=
  let c1_i32_1114 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off99 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev64 : Nat :=
  let c0_i32_1803 : BitVec 32 := 0#32
  let c0_i32_1801 : BitVec 32 := 0#32
  let c1_i32_1802 : BitVec 32 := 1#32
  let v2079 : BitVec 32 := Scalar.muli c0_i32_1801 c1_i32_1802
  let v2080 : BitVec 32 := Scalar.addi c0_i32_1803 v2079
  v2080.toNat
def k0_cond98 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1118 : BitVec 32 := 1#32
  let v1586 : BitVec 1 := Scalar.cmpi .ne v2 c1_i32_1118
  let v1587 : BitVec 32 := Scalar.extui v1586
  let c0_i32_1122 : BitVec 32 := 0#32
  let v1588 : BitVec 1 := Scalar.cmpi .ne v1587 c0_i32_1122
  v1588

def k0_off100 (d0 : Dev nD) : Fin 2 → Nat :=
  let c1_i32_1119 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off101 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev65 : Nat :=
  let c0_i32_1803 : BitVec 32 := 0#32
  let c1_i32_1801 : BitVec 32 := 1#32
  let c1_i32_1802 : BitVec 32 := 1#32
  let v2079 : BitVec 32 := Scalar.muli c1_i32_1801 c1_i32_1802
  let v2080 : BitVec 32 := Scalar.addi c0_i32_1803 v2079
  v2080.toNat
def k0_cond99 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1123 : BitVec 32 := 2#32
  let v1589 : BitVec 1 := Scalar.cmpi .ne v2 c2_i32_1123
  let v1590 : BitVec 32 := Scalar.extui v1589
  let c0_i32_1127 : BitVec 32 := 0#32
  let v1591 : BitVec 1 := Scalar.cmpi .ne v1590 c0_i32_1127
  v1591

def k0_off102 (d0 : Dev nD) : Fin 2 → Nat :=
  let c1_i32_1124 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off103 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev66 : Nat :=
  let c0_i32_1803 : BitVec 32 := 0#32
  let c2_i32_1801 : BitVec 32 := 2#32
  let c1_i32_1802 : BitVec 32 := 1#32
  let v2079 : BitVec 32 := Scalar.muli c2_i32_1801 c1_i32_1802
  let v2080 : BitVec 32 := Scalar.addi c0_i32_1803 v2079
  v2080.toNat
def k0_cond100 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1128 : BitVec 32 := 3#32
  let v1592 : BitVec 1 := Scalar.cmpi .ne v2 c3_i32_1128
  let v1593 : BitVec 32 := Scalar.extui v1592
  let c0_i32_1132 : BitVec 32 := 0#32
  let v1594 : BitVec 1 := Scalar.cmpi .ne v1593 c0_i32_1132
  v1594

def k0_off104 (d0 : Dev nD) : Fin 2 → Nat :=
  let c1_i32_1129 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off105 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev67 : Nat :=
  let c0_i32_1803 : BitVec 32 := 0#32
  let c3_i32_1801 : BitVec 32 := 3#32
  let c1_i32_1802 : BitVec 32 := 1#32
  let v2079 : BitVec 32 := Scalar.muli c3_i32_1801 c1_i32_1802
  let v2080 : BitVec 32 := Scalar.addi c0_i32_1803 v2079
  v2080.toNat
def k0_cond101 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1133 : BitVec 32 := 4#32
  let v1595 : BitVec 1 := Scalar.cmpi .ne v2 c4_i32_1133
  let v1596 : BitVec 32 := Scalar.extui v1595
  let c0_i32_1137 : BitVec 32 := 0#32
  let v1597 : BitVec 1 := Scalar.cmpi .ne v1596 c0_i32_1137
  v1597

def k0_off106 (d0 : Dev nD) : Fin 2 → Nat :=
  let c1_i32_1134 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off107 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev68 : Nat :=
  let c0_i32_1803 : BitVec 32 := 0#32
  let c4_i32_1801 : BitVec 32 := 4#32
  let c1_i32_1802 : BitVec 32 := 1#32
  let v2079 : BitVec 32 := Scalar.muli c4_i32_1801 c1_i32_1802
  let v2080 : BitVec 32 := Scalar.addi c0_i32_1803 v2079
  v2080.toNat
def k0_cond102 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1138 : BitVec 32 := 5#32
  let v1598 : BitVec 1 := Scalar.cmpi .ne v2 c5_i32_1138
  let v1599 : BitVec 32 := Scalar.extui v1598
  let c0_i32_1142 : BitVec 32 := 0#32
  let v1600 : BitVec 1 := Scalar.cmpi .ne v1599 c0_i32_1142
  v1600

def k0_off108 (d0 : Dev nD) : Fin 2 → Nat :=
  let c1_i32_1139 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off109 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev69 : Nat :=
  let c0_i32_1803 : BitVec 32 := 0#32
  let c5_i32_1801 : BitVec 32 := 5#32
  let c1_i32_1802 : BitVec 32 := 1#32
  let v2079 : BitVec 32 := Scalar.muli c5_i32_1801 c1_i32_1802
  let v2080 : BitVec 32 := Scalar.addi c0_i32_1803 v2079
  v2080.toNat
def k0_cond103 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1143 : BitVec 32 := 6#32
  let v1601 : BitVec 1 := Scalar.cmpi .ne v2 c6_i32_1143
  let v1602 : BitVec 32 := Scalar.extui v1601
  let c0_i32_1147 : BitVec 32 := 0#32
  let v1603 : BitVec 1 := Scalar.cmpi .ne v1602 c0_i32_1147
  v1603

def k0_off110 (d0 : Dev nD) : Fin 2 → Nat :=
  let c1_i32_1144 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off111 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev70 : Nat :=
  let c0_i32_1803 : BitVec 32 := 0#32
  let c6_i32_1801 : BitVec 32 := 6#32
  let c1_i32_1802 : BitVec 32 := 1#32
  let v2079 : BitVec 32 := Scalar.muli c6_i32_1801 c1_i32_1802
  let v2080 : BitVec 32 := Scalar.addi c0_i32_1803 v2079
  v2080.toNat
def k0_cond104 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1148 : BitVec 32 := 7#32
  let v1604 : BitVec 1 := Scalar.cmpi .ne v2 c7_i32_1148
  let v1605 : BitVec 32 := Scalar.extui v1604
  let c0_i32_1152 : BitVec 32 := 0#32
  let v1606 : BitVec 1 := Scalar.cmpi .ne v1605 c0_i32_1152
  v1606

def k0_off112 (d0 : Dev nD) : Fin 2 → Nat :=
  let c1_i32_1149 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off113 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev71 : Nat :=
  let c0_i32_1803 : BitVec 32 := 0#32
  let c7_i32_1801 : BitVec 32 := 7#32
  let c1_i32_1802 : BitVec 32 := 1#32
  let v2079 : BitVec 32 := Scalar.muli c7_i32_1801 c1_i32_1802
  let v2080 : BitVec 32 := Scalar.addi c0_i32_1803 v2079
  v2080.toNat
def k0_cond105 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1153 : BitVec 32 := 8#32
  let v1607 : BitVec 1 := Scalar.cmpi .ne v2 c8_i32_1153
  let v1608 : BitVec 32 := Scalar.extui v1607
  let c0_i32_1157 : BitVec 32 := 0#32
  let v1609 : BitVec 1 := Scalar.cmpi .ne v1608 c0_i32_1157
  v1609

def k0_off114 (d0 : Dev nD) : Fin 2 → Nat :=
  let c1_i32_1154 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off115 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev72 : Nat :=
  let c0_i32_1803 : BitVec 32 := 0#32
  let c8_i32_1801 : BitVec 32 := 8#32
  let c1_i32_1802 : BitVec 32 := 1#32
  let v2079 : BitVec 32 := Scalar.muli c8_i32_1801 c1_i32_1802
  let v2080 : BitVec 32 := Scalar.addi c0_i32_1803 v2079
  v2080.toNat
def k0_cond106 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1158 : BitVec 32 := 9#32
  let v1610 : BitVec 1 := Scalar.cmpi .ne v2 c9_i32_1158
  let v1611 : BitVec 32 := Scalar.extui v1610
  let c0_i32_1162 : BitVec 32 := 0#32
  let v1612 : BitVec 1 := Scalar.cmpi .ne v1611 c0_i32_1162
  v1612

def k0_off116 (d0 : Dev nD) : Fin 2 → Nat :=
  let c1_i32_1159 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off117 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev73 : Nat :=
  let c0_i32_1803 : BitVec 32 := 0#32
  let c9_i32_1801 : BitVec 32 := 9#32
  let c1_i32_1802 : BitVec 32 := 1#32
  let v2079 : BitVec 32 := Scalar.muli c9_i32_1801 c1_i32_1802
  let v2080 : BitVec 32 := Scalar.addi c0_i32_1803 v2079
  v2080.toNat
def k0_cond107 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1163 : BitVec 32 := 10#32
  let v1613 : BitVec 1 := Scalar.cmpi .ne v2 c10_i32_1163
  let v1614 : BitVec 32 := Scalar.extui v1613
  let c0_i32_1167 : BitVec 32 := 0#32
  let v1615 : BitVec 1 := Scalar.cmpi .ne v1614 c0_i32_1167
  v1615

def k0_off118 (d0 : Dev nD) : Fin 2 → Nat :=
  let c1_i32_1164 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off119 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev74 : Nat :=
  let c0_i32_1803 : BitVec 32 := 0#32
  let c10_i32_1801 : BitVec 32 := 10#32
  let c1_i32_1802 : BitVec 32 := 1#32
  let v2079 : BitVec 32 := Scalar.muli c10_i32_1801 c1_i32_1802
  let v2080 : BitVec 32 := Scalar.addi c0_i32_1803 v2079
  v2080.toNat
def k0_cond108 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1168 : BitVec 32 := 11#32
  let v1616 : BitVec 1 := Scalar.cmpi .ne v2 c11_i32_1168
  let v1617 : BitVec 32 := Scalar.extui v1616
  let c0_i32_1172 : BitVec 32 := 0#32
  let v1618 : BitVec 1 := Scalar.cmpi .ne v1617 c0_i32_1172
  v1618

def k0_off120 (d0 : Dev nD) : Fin 2 → Nat :=
  let c1_i32_1169 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off121 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev75 : Nat :=
  let c0_i32_1803 : BitVec 32 := 0#32
  let c11_i32_1801 : BitVec 32 := 11#32
  let c1_i32_1802 : BitVec 32 := 1#32
  let v2079 : BitVec 32 := Scalar.muli c11_i32_1801 c1_i32_1802
  let v2080 : BitVec 32 := Scalar.addi c0_i32_1803 v2079
  v2080.toNat
def k0_cond109 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1173 : BitVec 32 := 12#32
  let v1619 : BitVec 1 := Scalar.cmpi .ne v2 c12_i32_1173
  let v1620 : BitVec 32 := Scalar.extui v1619
  let c0_i32_1177 : BitVec 32 := 0#32
  let v1621 : BitVec 1 := Scalar.cmpi .ne v1620 c0_i32_1177
  v1621

def k0_off122 (d0 : Dev nD) : Fin 2 → Nat :=
  let c1_i32_1174 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off123 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev76 : Nat :=
  let c0_i32_1803 : BitVec 32 := 0#32
  let c12_i32_1801 : BitVec 32 := 12#32
  let c1_i32_1802 : BitVec 32 := 1#32
  let v2079 : BitVec 32 := Scalar.muli c12_i32_1801 c1_i32_1802
  let v2080 : BitVec 32 := Scalar.addi c0_i32_1803 v2079
  v2080.toNat
def k0_cond110 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1178 : BitVec 32 := 13#32
  let v1622 : BitVec 1 := Scalar.cmpi .ne v2 c13_i32_1178
  let v1623 : BitVec 32 := Scalar.extui v1622
  let c0_i32_1182 : BitVec 32 := 0#32
  let v1624 : BitVec 1 := Scalar.cmpi .ne v1623 c0_i32_1182
  v1624

def k0_off124 (d0 : Dev nD) : Fin 2 → Nat :=
  let c1_i32_1179 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off125 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev77 : Nat :=
  let c0_i32_1803 : BitVec 32 := 0#32
  let c13_i32_1801 : BitVec 32 := 13#32
  let c1_i32_1802 : BitVec 32 := 1#32
  let v2079 : BitVec 32 := Scalar.muli c13_i32_1801 c1_i32_1802
  let v2080 : BitVec 32 := Scalar.addi c0_i32_1803 v2079
  v2080.toNat
def k0_cond111 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1183 : BitVec 32 := 14#32
  let v1625 : BitVec 1 := Scalar.cmpi .ne v2 c14_i32_1183
  let v1626 : BitVec 32 := Scalar.extui v1625
  let c0_i32_1187 : BitVec 32 := 0#32
  let v1627 : BitVec 1 := Scalar.cmpi .ne v1626 c0_i32_1187
  v1627

def k0_off126 (d0 : Dev nD) : Fin 2 → Nat :=
  let c1_i32_1184 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off127 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev78 : Nat :=
  let c0_i32_1803 : BitVec 32 := 0#32
  let c14_i32_1801 : BitVec 32 := 14#32
  let c1_i32_1802 : BitVec 32 := 1#32
  let v2079 : BitVec 32 := Scalar.muli c14_i32_1801 c1_i32_1802
  let v2080 : BitVec 32 := Scalar.addi c0_i32_1803 v2079
  v2080.toNat
def k0_cond112 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1188 : BitVec 32 := 15#32
  let v1628 : BitVec 1 := Scalar.cmpi .ne v2 c15_i32_1188
  let v1629 : BitVec 32 := Scalar.extui v1628
  let c0_i32_1192 : BitVec 32 := 0#32
  let v1630 : BitVec 1 := Scalar.cmpi .ne v1629 c0_i32_1192
  v1630

def k0_off128 (d0 : Dev nD) : Fin 2 → Nat :=
  let c1_i32_1189 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off129 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1804 : BitVec 32 := 0#32
  let c0_i32_1805 : BitVec 32 := 0#32
  ![v2.toNat, 0, 0]
def k0_dev79 : Nat :=
  let c0_i32_1803 : BitVec 32 := 0#32
  let c15_i32_1801 : BitVec 32 := 15#32
  let c1_i32_1802 : BitVec 32 := 1#32
  let v2079 : BitVec 32 := Scalar.muli c15_i32_1801 c1_i32_1802
  let v2080 : BitVec 32 := Scalar.addi c0_i32_1803 v2079
  v2080.toNat
def k0_cond129 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1449 : BitVec 32 := 0#32
  let v1887 : BitVec 1 := Scalar.cmpi .ne v2 c0_i32_1449
  let v1888 : BitVec 32 := Scalar.extui v1887
  let c0_i32_1454 : BitVec 32 := 0#32
  let v1889 : BitVec 1 := Scalar.cmpi .ne v1888 c0_i32_1454
  v1889

def k0_off130 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1805 : BitVec 32 := 0#32
  let c0_i32_1806 : BitVec 32 := 0#32
  ![v2.toNat, 0, 0]
def k0_cond130 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1455 : BitVec 32 := 1#32
  let v1890 : BitVec 1 := Scalar.cmpi .ne v2 c1_i32_1455
  let v1891 : BitVec 32 := Scalar.extui v1890
  let c0_i32_1460 : BitVec 32 := 0#32
  let v1892 : BitVec 1 := Scalar.cmpi .ne v1891 c0_i32_1460
  v1892

def k0_off131 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1805 : BitVec 32 := 0#32
  let c0_i32_1806 : BitVec 32 := 0#32
  ![v2.toNat, 0, 0]
def k0_cond131 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1461 : BitVec 32 := 2#32
  let v1893 : BitVec 1 := Scalar.cmpi .ne v2 c2_i32_1461
  let v1894 : BitVec 32 := Scalar.extui v1893
  let c0_i32_1466 : BitVec 32 := 0#32
  let v1895 : BitVec 1 := Scalar.cmpi .ne v1894 c0_i32_1466
  v1895

def k0_off132 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1805 : BitVec 32 := 0#32
  let c0_i32_1806 : BitVec 32 := 0#32
  ![v2.toNat, 0, 0]
def k0_cond132 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1467 : BitVec 32 := 3#32
  let v1896 : BitVec 1 := Scalar.cmpi .ne v2 c3_i32_1467
  let v1897 : BitVec 32 := Scalar.extui v1896
  let c0_i32_1472 : BitVec 32 := 0#32
  let v1898 : BitVec 1 := Scalar.cmpi .ne v1897 c0_i32_1472
  v1898

def k0_off133 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1805 : BitVec 32 := 0#32
  let c0_i32_1806 : BitVec 32 := 0#32
  ![v2.toNat, 0, 0]
def k0_cond133 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1473 : BitVec 32 := 4#32
  let v1899 : BitVec 1 := Scalar.cmpi .ne v2 c4_i32_1473
  let v1900 : BitVec 32 := Scalar.extui v1899
  let c0_i32_1478 : BitVec 32 := 0#32
  let v1901 : BitVec 1 := Scalar.cmpi .ne v1900 c0_i32_1478
  v1901

def k0_off134 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1805 : BitVec 32 := 0#32
  let c0_i32_1806 : BitVec 32 := 0#32
  ![v2.toNat, 0, 0]
def k0_cond134 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1479 : BitVec 32 := 5#32
  let v1902 : BitVec 1 := Scalar.cmpi .ne v2 c5_i32_1479
  let v1903 : BitVec 32 := Scalar.extui v1902
  let c0_i32_1484 : BitVec 32 := 0#32
  let v1904 : BitVec 1 := Scalar.cmpi .ne v1903 c0_i32_1484
  v1904

def k0_off135 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1805 : BitVec 32 := 0#32
  let c0_i32_1806 : BitVec 32 := 0#32
  ![v2.toNat, 0, 0]
def k0_cond135 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1485 : BitVec 32 := 6#32
  let v1905 : BitVec 1 := Scalar.cmpi .ne v2 c6_i32_1485
  let v1906 : BitVec 32 := Scalar.extui v1905
  let c0_i32_1490 : BitVec 32 := 0#32
  let v1907 : BitVec 1 := Scalar.cmpi .ne v1906 c0_i32_1490
  v1907

def k0_off136 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1805 : BitVec 32 := 0#32
  let c0_i32_1806 : BitVec 32 := 0#32
  ![v2.toNat, 0, 0]
def k0_cond136 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1491 : BitVec 32 := 7#32
  let v1908 : BitVec 1 := Scalar.cmpi .ne v2 c7_i32_1491
  let v1909 : BitVec 32 := Scalar.extui v1908
  let c0_i32_1496 : BitVec 32 := 0#32
  let v1910 : BitVec 1 := Scalar.cmpi .ne v1909 c0_i32_1496
  v1910

def k0_off137 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1805 : BitVec 32 := 0#32
  let c0_i32_1806 : BitVec 32 := 0#32
  ![v2.toNat, 0, 0]
def k0_cond137 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1497 : BitVec 32 := 8#32
  let v1911 : BitVec 1 := Scalar.cmpi .ne v2 c8_i32_1497
  let v1912 : BitVec 32 := Scalar.extui v1911
  let c0_i32_1502 : BitVec 32 := 0#32
  let v1913 : BitVec 1 := Scalar.cmpi .ne v1912 c0_i32_1502
  v1913

def k0_off138 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1805 : BitVec 32 := 0#32
  let c0_i32_1806 : BitVec 32 := 0#32
  ![v2.toNat, 0, 0]
def k0_cond138 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1503 : BitVec 32 := 9#32
  let v1914 : BitVec 1 := Scalar.cmpi .ne v2 c9_i32_1503
  let v1915 : BitVec 32 := Scalar.extui v1914
  let c0_i32_1508 : BitVec 32 := 0#32
  let v1916 : BitVec 1 := Scalar.cmpi .ne v1915 c0_i32_1508
  v1916

def k0_off139 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1805 : BitVec 32 := 0#32
  let c0_i32_1806 : BitVec 32 := 0#32
  ![v2.toNat, 0, 0]
def k0_cond139 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1509 : BitVec 32 := 10#32
  let v1917 : BitVec 1 := Scalar.cmpi .ne v2 c10_i32_1509
  let v1918 : BitVec 32 := Scalar.extui v1917
  let c0_i32_1514 : BitVec 32 := 0#32
  let v1919 : BitVec 1 := Scalar.cmpi .ne v1918 c0_i32_1514
  v1919

def k0_off140 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1805 : BitVec 32 := 0#32
  let c0_i32_1806 : BitVec 32 := 0#32
  ![v2.toNat, 0, 0]
def k0_cond140 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1515 : BitVec 32 := 11#32
  let v1920 : BitVec 1 := Scalar.cmpi .ne v2 c11_i32_1515
  let v1921 : BitVec 32 := Scalar.extui v1920
  let c0_i32_1520 : BitVec 32 := 0#32
  let v1922 : BitVec 1 := Scalar.cmpi .ne v1921 c0_i32_1520
  v1922

def k0_off141 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1805 : BitVec 32 := 0#32
  let c0_i32_1806 : BitVec 32 := 0#32
  ![v2.toNat, 0, 0]
def k0_cond141 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1521 : BitVec 32 := 12#32
  let v1923 : BitVec 1 := Scalar.cmpi .ne v2 c12_i32_1521
  let v1924 : BitVec 32 := Scalar.extui v1923
  let c0_i32_1526 : BitVec 32 := 0#32
  let v1925 : BitVec 1 := Scalar.cmpi .ne v1924 c0_i32_1526
  v1925

def k0_off142 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1805 : BitVec 32 := 0#32
  let c0_i32_1806 : BitVec 32 := 0#32
  ![v2.toNat, 0, 0]
def k0_cond142 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1527 : BitVec 32 := 13#32
  let v1926 : BitVec 1 := Scalar.cmpi .ne v2 c13_i32_1527
  let v1927 : BitVec 32 := Scalar.extui v1926
  let c0_i32_1532 : BitVec 32 := 0#32
  let v1928 : BitVec 1 := Scalar.cmpi .ne v1927 c0_i32_1532
  v1928

def k0_off143 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1805 : BitVec 32 := 0#32
  let c0_i32_1806 : BitVec 32 := 0#32
  ![v2.toNat, 0, 0]
def k0_cond143 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1533 : BitVec 32 := 14#32
  let v1929 : BitVec 1 := Scalar.cmpi .ne v2 c14_i32_1533
  let v1930 : BitVec 32 := Scalar.extui v1929
  let c0_i32_1538 : BitVec 32 := 0#32
  let v1931 : BitVec 1 := Scalar.cmpi .ne v1930 c0_i32_1538
  v1931

def k0_off144 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1805 : BitVec 32 := 0#32
  let c0_i32_1806 : BitVec 32 := 0#32
  ![v2.toNat, 0, 0]
def k0_cond144 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1539 : BitVec 32 := 15#32
  let v1932 : BitVec 1 := Scalar.cmpi .ne v2 c15_i32_1539
  let v1933 : BitVec 32 := Scalar.extui v1932
  let c0_i32_1544 : BitVec 32 := 0#32
  let v1934 : BitVec 1 := Scalar.cmpi .ne v1933 c0_i32_1544
  v1934

def k0_off145 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1805 : BitVec 32 := 0#32
  let c0_i32_1806 : BitVec 32 := 0#32
  ![v2.toNat, 0, 0]
def k0_cond145 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1545 : BitVec 32 := 0#32
  let v1935 : BitVec 1 := Scalar.cmpi .ne v2 c0_i32_1545
  let v1936 : BitVec 32 := Scalar.extui v1935
  let c0_i32_1549 : BitVec 32 := 0#32
  let v1937 : BitVec 1 := Scalar.cmpi .ne v1936 c0_i32_1549
  v1937

def k0_off146 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1803 : BitVec 32 := 0#32
  let c0_i32_1804 : BitVec 32 := 0#32
  ![v2.toNat, 0, 0]
def k0_cond146 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1550 : BitVec 32 := 1#32
  let v1938 : BitVec 1 := Scalar.cmpi .ne v2 c1_i32_1550
  let v1939 : BitVec 32 := Scalar.extui v1938
  let c0_i32_1554 : BitVec 32 := 0#32
  let v1940 : BitVec 1 := Scalar.cmpi .ne v1939 c0_i32_1554
  v1940

def k0_off147 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1803 : BitVec 32 := 0#32
  let c0_i32_1804 : BitVec 32 := 0#32
  ![v2.toNat, 0, 0]
def k0_cond147 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1555 : BitVec 32 := 2#32
  let v1941 : BitVec 1 := Scalar.cmpi .ne v2 c2_i32_1555
  let v1942 : BitVec 32 := Scalar.extui v1941
  let c0_i32_1559 : BitVec 32 := 0#32
  let v1943 : BitVec 1 := Scalar.cmpi .ne v1942 c0_i32_1559
  v1943

def k0_off148 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1803 : BitVec 32 := 0#32
  let c0_i32_1804 : BitVec 32 := 0#32
  ![v2.toNat, 0, 0]
def k0_cond148 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1560 : BitVec 32 := 3#32
  let v1944 : BitVec 1 := Scalar.cmpi .ne v2 c3_i32_1560
  let v1945 : BitVec 32 := Scalar.extui v1944
  let c0_i32_1564 : BitVec 32 := 0#32
  let v1946 : BitVec 1 := Scalar.cmpi .ne v1945 c0_i32_1564
  v1946

def k0_off149 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1803 : BitVec 32 := 0#32
  let c0_i32_1804 : BitVec 32 := 0#32
  ![v2.toNat, 0, 0]
def k0_cond149 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1565 : BitVec 32 := 4#32
  let v1947 : BitVec 1 := Scalar.cmpi .ne v2 c4_i32_1565
  let v1948 : BitVec 32 := Scalar.extui v1947
  let c0_i32_1569 : BitVec 32 := 0#32
  let v1949 : BitVec 1 := Scalar.cmpi .ne v1948 c0_i32_1569
  v1949

def k0_off150 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1803 : BitVec 32 := 0#32
  let c0_i32_1804 : BitVec 32 := 0#32
  ![v2.toNat, 0, 0]
def k0_cond150 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1570 : BitVec 32 := 5#32
  let v1950 : BitVec 1 := Scalar.cmpi .ne v2 c5_i32_1570
  let v1951 : BitVec 32 := Scalar.extui v1950
  let c0_i32_1574 : BitVec 32 := 0#32
  let v1952 : BitVec 1 := Scalar.cmpi .ne v1951 c0_i32_1574
  v1952

def k0_off151 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1803 : BitVec 32 := 0#32
  let c0_i32_1804 : BitVec 32 := 0#32
  ![v2.toNat, 0, 0]
def k0_cond151 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1575 : BitVec 32 := 6#32
  let v1953 : BitVec 1 := Scalar.cmpi .ne v2 c6_i32_1575
  let v1954 : BitVec 32 := Scalar.extui v1953
  let c0_i32_1579 : BitVec 32 := 0#32
  let v1955 : BitVec 1 := Scalar.cmpi .ne v1954 c0_i32_1579
  v1955

def k0_off152 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1803 : BitVec 32 := 0#32
  let c0_i32_1804 : BitVec 32 := 0#32
  ![v2.toNat, 0, 0]
def k0_cond152 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1580 : BitVec 32 := 7#32
  let v1956 : BitVec 1 := Scalar.cmpi .ne v2 c7_i32_1580
  let v1957 : BitVec 32 := Scalar.extui v1956
  let c0_i32_1584 : BitVec 32 := 0#32
  let v1958 : BitVec 1 := Scalar.cmpi .ne v1957 c0_i32_1584
  v1958

def k0_off153 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1803 : BitVec 32 := 0#32
  let c0_i32_1804 : BitVec 32 := 0#32
  ![v2.toNat, 0, 0]
def k0_cond153 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1585 : BitVec 32 := 8#32
  let v1959 : BitVec 1 := Scalar.cmpi .ne v2 c8_i32_1585
  let v1960 : BitVec 32 := Scalar.extui v1959
  let c0_i32_1589 : BitVec 32 := 0#32
  let v1961 : BitVec 1 := Scalar.cmpi .ne v1960 c0_i32_1589
  v1961

def k0_off154 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1803 : BitVec 32 := 0#32
  let c0_i32_1804 : BitVec 32 := 0#32
  ![v2.toNat, 0, 0]
def k0_cond154 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1590 : BitVec 32 := 9#32
  let v1962 : BitVec 1 := Scalar.cmpi .ne v2 c9_i32_1590
  let v1963 : BitVec 32 := Scalar.extui v1962
  let c0_i32_1594 : BitVec 32 := 0#32
  let v1964 : BitVec 1 := Scalar.cmpi .ne v1963 c0_i32_1594
  v1964

def k0_off155 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1803 : BitVec 32 := 0#32
  let c0_i32_1804 : BitVec 32 := 0#32
  ![v2.toNat, 0, 0]
def k0_cond155 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1595 : BitVec 32 := 10#32
  let v1965 : BitVec 1 := Scalar.cmpi .ne v2 c10_i32_1595
  let v1966 : BitVec 32 := Scalar.extui v1965
  let c0_i32_1599 : BitVec 32 := 0#32
  let v1967 : BitVec 1 := Scalar.cmpi .ne v1966 c0_i32_1599
  v1967

def k0_off156 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1803 : BitVec 32 := 0#32
  let c0_i32_1804 : BitVec 32 := 0#32
  ![v2.toNat, 0, 0]
def k0_cond156 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1600 : BitVec 32 := 11#32
  let v1968 : BitVec 1 := Scalar.cmpi .ne v2 c11_i32_1600
  let v1969 : BitVec 32 := Scalar.extui v1968
  let c0_i32_1604 : BitVec 32 := 0#32
  let v1970 : BitVec 1 := Scalar.cmpi .ne v1969 c0_i32_1604
  v1970

def k0_off157 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1803 : BitVec 32 := 0#32
  let c0_i32_1804 : BitVec 32 := 0#32
  ![v2.toNat, 0, 0]
def k0_cond157 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1605 : BitVec 32 := 12#32
  let v1971 : BitVec 1 := Scalar.cmpi .ne v2 c12_i32_1605
  let v1972 : BitVec 32 := Scalar.extui v1971
  let c0_i32_1609 : BitVec 32 := 0#32
  let v1973 : BitVec 1 := Scalar.cmpi .ne v1972 c0_i32_1609
  v1973

def k0_off158 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1803 : BitVec 32 := 0#32
  let c0_i32_1804 : BitVec 32 := 0#32
  ![v2.toNat, 0, 0]
def k0_cond158 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1610 : BitVec 32 := 13#32
  let v1974 : BitVec 1 := Scalar.cmpi .ne v2 c13_i32_1610
  let v1975 : BitVec 32 := Scalar.extui v1974
  let c0_i32_1614 : BitVec 32 := 0#32
  let v1976 : BitVec 1 := Scalar.cmpi .ne v1975 c0_i32_1614
  v1976

def k0_off159 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1803 : BitVec 32 := 0#32
  let c0_i32_1804 : BitVec 32 := 0#32
  ![v2.toNat, 0, 0]
def k0_cond159 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1615 : BitVec 32 := 14#32
  let v1977 : BitVec 1 := Scalar.cmpi .ne v2 c14_i32_1615
  let v1978 : BitVec 32 := Scalar.extui v1977
  let c0_i32_1619 : BitVec 32 := 0#32
  let v1979 : BitVec 1 := Scalar.cmpi .ne v1978 c0_i32_1619
  v1979

def k0_off160 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1803 : BitVec 32 := 0#32
  let c0_i32_1804 : BitVec 32 := 0#32
  ![v2.toNat, 0, 0]
def k0_cond160 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1620 : BitVec 32 := 15#32
  let v1980 : BitVec 1 := Scalar.cmpi .ne v2 c15_i32_1620
  let v1981 : BitVec 32 := Scalar.extui v1980
  let c0_i32_1624 : BitVec 32 := 0#32
  let v1982 : BitVec 1 := Scalar.cmpi .ne v1981 c0_i32_1624
  v1982

def k0_off161 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1803 : BitVec 32 := 0#32
  let c0_i32_1804 : BitVec 32 := 0#32
  ![v2.toNat, 0, 0]
def k0_cond161 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1625 : BitVec 32 := 0#32
  let v1983 : BitVec 1 := Scalar.cmpi .ne v2 c0_i32_1625
  let v1984 : BitVec 32 := Scalar.extui v1983
  let c0_i32_1630 : BitVec 32 := 0#32
  let v1985 : BitVec 1 := Scalar.cmpi .ne v1984 c0_i32_1630
  v1985

def k0_off162 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1805 : BitVec 32 := 0#32
  let c0_i32_1806 : BitVec 32 := 0#32
  ![v2.toNat, 0, 0]
def k0_cond162 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1631 : BitVec 32 := 1#32
  let v1986 : BitVec 1 := Scalar.cmpi .ne v2 c1_i32_1631
  let v1987 : BitVec 32 := Scalar.extui v1986
  let c0_i32_1636 : BitVec 32 := 0#32
  let v1988 : BitVec 1 := Scalar.cmpi .ne v1987 c0_i32_1636
  v1988

def k0_off163 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1805 : BitVec 32 := 0#32
  let c0_i32_1806 : BitVec 32 := 0#32
  ![v2.toNat, 0, 0]
def k0_cond163 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1637 : BitVec 32 := 2#32
  let v1989 : BitVec 1 := Scalar.cmpi .ne v2 c2_i32_1637
  let v1990 : BitVec 32 := Scalar.extui v1989
  let c0_i32_1642 : BitVec 32 := 0#32
  let v1991 : BitVec 1 := Scalar.cmpi .ne v1990 c0_i32_1642
  v1991

def k0_off164 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1805 : BitVec 32 := 0#32
  let c0_i32_1806 : BitVec 32 := 0#32
  ![v2.toNat, 0, 0]
def k0_cond164 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1643 : BitVec 32 := 3#32
  let v1992 : BitVec 1 := Scalar.cmpi .ne v2 c3_i32_1643
  let v1993 : BitVec 32 := Scalar.extui v1992
  let c0_i32_1648 : BitVec 32 := 0#32
  let v1994 : BitVec 1 := Scalar.cmpi .ne v1993 c0_i32_1648
  v1994

def k0_off165 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1805 : BitVec 32 := 0#32
  let c0_i32_1806 : BitVec 32 := 0#32
  ![v2.toNat, 0, 0]
def k0_cond165 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1649 : BitVec 32 := 4#32
  let v1995 : BitVec 1 := Scalar.cmpi .ne v2 c4_i32_1649
  let v1996 : BitVec 32 := Scalar.extui v1995
  let c0_i32_1654 : BitVec 32 := 0#32
  let v1997 : BitVec 1 := Scalar.cmpi .ne v1996 c0_i32_1654
  v1997

def k0_off166 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1805 : BitVec 32 := 0#32
  let c0_i32_1806 : BitVec 32 := 0#32
  ![v2.toNat, 0, 0]
def k0_cond166 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1655 : BitVec 32 := 5#32
  let v1998 : BitVec 1 := Scalar.cmpi .ne v2 c5_i32_1655
  let v1999 : BitVec 32 := Scalar.extui v1998
  let c0_i32_1660 : BitVec 32 := 0#32
  let v2000 : BitVec 1 := Scalar.cmpi .ne v1999 c0_i32_1660
  v2000

def k0_off167 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1805 : BitVec 32 := 0#32
  let c0_i32_1806 : BitVec 32 := 0#32
  ![v2.toNat, 0, 0]
def k0_cond167 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1661 : BitVec 32 := 6#32
  let v2001 : BitVec 1 := Scalar.cmpi .ne v2 c6_i32_1661
  let v2002 : BitVec 32 := Scalar.extui v2001
  let c0_i32_1666 : BitVec 32 := 0#32
  let v2003 : BitVec 1 := Scalar.cmpi .ne v2002 c0_i32_1666
  v2003

def k0_off168 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1805 : BitVec 32 := 0#32
  let c0_i32_1806 : BitVec 32 := 0#32
  ![v2.toNat, 0, 0]
def k0_cond168 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1667 : BitVec 32 := 7#32
  let v2004 : BitVec 1 := Scalar.cmpi .ne v2 c7_i32_1667
  let v2005 : BitVec 32 := Scalar.extui v2004
  let c0_i32_1672 : BitVec 32 := 0#32
  let v2006 : BitVec 1 := Scalar.cmpi .ne v2005 c0_i32_1672
  v2006

def k0_off169 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1805 : BitVec 32 := 0#32
  let c0_i32_1806 : BitVec 32 := 0#32
  ![v2.toNat, 0, 0]
def k0_cond169 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1673 : BitVec 32 := 8#32
  let v2007 : BitVec 1 := Scalar.cmpi .ne v2 c8_i32_1673
  let v2008 : BitVec 32 := Scalar.extui v2007
  let c0_i32_1678 : BitVec 32 := 0#32
  let v2009 : BitVec 1 := Scalar.cmpi .ne v2008 c0_i32_1678
  v2009

def k0_off170 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1805 : BitVec 32 := 0#32
  let c0_i32_1806 : BitVec 32 := 0#32
  ![v2.toNat, 0, 0]
def k0_cond170 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1679 : BitVec 32 := 9#32
  let v2010 : BitVec 1 := Scalar.cmpi .ne v2 c9_i32_1679
  let v2011 : BitVec 32 := Scalar.extui v2010
  let c0_i32_1684 : BitVec 32 := 0#32
  let v2012 : BitVec 1 := Scalar.cmpi .ne v2011 c0_i32_1684
  v2012

def k0_off171 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1805 : BitVec 32 := 0#32
  let c0_i32_1806 : BitVec 32 := 0#32
  ![v2.toNat, 0, 0]
def k0_cond171 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1685 : BitVec 32 := 10#32
  let v2013 : BitVec 1 := Scalar.cmpi .ne v2 c10_i32_1685
  let v2014 : BitVec 32 := Scalar.extui v2013
  let c0_i32_1690 : BitVec 32 := 0#32
  let v2015 : BitVec 1 := Scalar.cmpi .ne v2014 c0_i32_1690
  v2015

def k0_off172 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1805 : BitVec 32 := 0#32
  let c0_i32_1806 : BitVec 32 := 0#32
  ![v2.toNat, 0, 0]
def k0_cond172 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1691 : BitVec 32 := 11#32
  let v2016 : BitVec 1 := Scalar.cmpi .ne v2 c11_i32_1691
  let v2017 : BitVec 32 := Scalar.extui v2016
  let c0_i32_1696 : BitVec 32 := 0#32
  let v2018 : BitVec 1 := Scalar.cmpi .ne v2017 c0_i32_1696
  v2018

def k0_off173 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1805 : BitVec 32 := 0#32
  let c0_i32_1806 : BitVec 32 := 0#32
  ![v2.toNat, 0, 0]
def k0_cond173 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1697 : BitVec 32 := 12#32
  let v2019 : BitVec 1 := Scalar.cmpi .ne v2 c12_i32_1697
  let v2020 : BitVec 32 := Scalar.extui v2019
  let c0_i32_1702 : BitVec 32 := 0#32
  let v2021 : BitVec 1 := Scalar.cmpi .ne v2020 c0_i32_1702
  v2021

def k0_off174 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1805 : BitVec 32 := 0#32
  let c0_i32_1806 : BitVec 32 := 0#32
  ![v2.toNat, 0, 0]
def k0_cond174 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1703 : BitVec 32 := 13#32
  let v2022 : BitVec 1 := Scalar.cmpi .ne v2 c13_i32_1703
  let v2023 : BitVec 32 := Scalar.extui v2022
  let c0_i32_1708 : BitVec 32 := 0#32
  let v2024 : BitVec 1 := Scalar.cmpi .ne v2023 c0_i32_1708
  v2024

def k0_off175 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1805 : BitVec 32 := 0#32
  let c0_i32_1806 : BitVec 32 := 0#32
  ![v2.toNat, 0, 0]
def k0_cond175 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1709 : BitVec 32 := 14#32
  let v2025 : BitVec 1 := Scalar.cmpi .ne v2 c14_i32_1709
  let v2026 : BitVec 32 := Scalar.extui v2025
  let c0_i32_1714 : BitVec 32 := 0#32
  let v2027 : BitVec 1 := Scalar.cmpi .ne v2026 c0_i32_1714
  v2027

def k0_off176 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1805 : BitVec 32 := 0#32
  let c0_i32_1806 : BitVec 32 := 0#32
  ![v2.toNat, 0, 0]
def k0_cond176 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1715 : BitVec 32 := 15#32
  let v2028 : BitVec 1 := Scalar.cmpi .ne v2 c15_i32_1715
  let v2029 : BitVec 32 := Scalar.extui v2028
  let c0_i32_1720 : BitVec 32 := 0#32
  let v2030 : BitVec 1 := Scalar.cmpi .ne v2029 c0_i32_1720
  v2030

def k0_off177 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1805 : BitVec 32 := 0#32
  let c0_i32_1806 : BitVec 32 := 0#32
  ![v2.toNat, 0, 0]
def k0_cond177 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1721 : BitVec 32 := 0#32
  let v2031 : BitVec 1 := Scalar.cmpi .ne v2 c0_i32_1721
  let v2032 : BitVec 32 := Scalar.extui v2031
  let c0_i32_1725 : BitVec 32 := 0#32
  let v2033 : BitVec 1 := Scalar.cmpi .ne v2032 c0_i32_1725
  v2033

def k0_off178 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1803 : BitVec 32 := 0#32
  let c0_i32_1804 : BitVec 32 := 0#32
  ![v2.toNat, 0, 0]
def k0_cond178 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1726 : BitVec 32 := 1#32
  let v2034 : BitVec 1 := Scalar.cmpi .ne v2 c1_i32_1726
  let v2035 : BitVec 32 := Scalar.extui v2034
  let c0_i32_1730 : BitVec 32 := 0#32
  let v2036 : BitVec 1 := Scalar.cmpi .ne v2035 c0_i32_1730
  v2036

def k0_off179 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1803 : BitVec 32 := 0#32
  let c0_i32_1804 : BitVec 32 := 0#32
  ![v2.toNat, 0, 0]
def k0_cond179 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1731 : BitVec 32 := 2#32
  let v2037 : BitVec 1 := Scalar.cmpi .ne v2 c2_i32_1731
  let v2038 : BitVec 32 := Scalar.extui v2037
  let c0_i32_1735 : BitVec 32 := 0#32
  let v2039 : BitVec 1 := Scalar.cmpi .ne v2038 c0_i32_1735
  v2039

def k0_off180 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1803 : BitVec 32 := 0#32
  let c0_i32_1804 : BitVec 32 := 0#32
  ![v2.toNat, 0, 0]
def k0_cond180 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1736 : BitVec 32 := 3#32
  let v2040 : BitVec 1 := Scalar.cmpi .ne v2 c3_i32_1736
  let v2041 : BitVec 32 := Scalar.extui v2040
  let c0_i32_1740 : BitVec 32 := 0#32
  let v2042 : BitVec 1 := Scalar.cmpi .ne v2041 c0_i32_1740
  v2042

def k0_off181 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1803 : BitVec 32 := 0#32
  let c0_i32_1804 : BitVec 32 := 0#32
  ![v2.toNat, 0, 0]
def k0_cond181 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1741 : BitVec 32 := 4#32
  let v2043 : BitVec 1 := Scalar.cmpi .ne v2 c4_i32_1741
  let v2044 : BitVec 32 := Scalar.extui v2043
  let c0_i32_1745 : BitVec 32 := 0#32
  let v2045 : BitVec 1 := Scalar.cmpi .ne v2044 c0_i32_1745
  v2045

def k0_off182 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1803 : BitVec 32 := 0#32
  let c0_i32_1804 : BitVec 32 := 0#32
  ![v2.toNat, 0, 0]
def k0_cond182 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1746 : BitVec 32 := 5#32
  let v2046 : BitVec 1 := Scalar.cmpi .ne v2 c5_i32_1746
  let v2047 : BitVec 32 := Scalar.extui v2046
  let c0_i32_1750 : BitVec 32 := 0#32
  let v2048 : BitVec 1 := Scalar.cmpi .ne v2047 c0_i32_1750
  v2048

def k0_off183 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1803 : BitVec 32 := 0#32
  let c0_i32_1804 : BitVec 32 := 0#32
  ![v2.toNat, 0, 0]
def k0_cond183 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1751 : BitVec 32 := 6#32
  let v2049 : BitVec 1 := Scalar.cmpi .ne v2 c6_i32_1751
  let v2050 : BitVec 32 := Scalar.extui v2049
  let c0_i32_1755 : BitVec 32 := 0#32
  let v2051 : BitVec 1 := Scalar.cmpi .ne v2050 c0_i32_1755
  v2051

def k0_off184 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1803 : BitVec 32 := 0#32
  let c0_i32_1804 : BitVec 32 := 0#32
  ![v2.toNat, 0, 0]
def k0_cond184 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1756 : BitVec 32 := 7#32
  let v2052 : BitVec 1 := Scalar.cmpi .ne v2 c7_i32_1756
  let v2053 : BitVec 32 := Scalar.extui v2052
  let c0_i32_1760 : BitVec 32 := 0#32
  let v2054 : BitVec 1 := Scalar.cmpi .ne v2053 c0_i32_1760
  v2054

def k0_off185 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1803 : BitVec 32 := 0#32
  let c0_i32_1804 : BitVec 32 := 0#32
  ![v2.toNat, 0, 0]
def k0_cond185 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1761 : BitVec 32 := 8#32
  let v2055 : BitVec 1 := Scalar.cmpi .ne v2 c8_i32_1761
  let v2056 : BitVec 32 := Scalar.extui v2055
  let c0_i32_1765 : BitVec 32 := 0#32
  let v2057 : BitVec 1 := Scalar.cmpi .ne v2056 c0_i32_1765
  v2057

def k0_off186 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1803 : BitVec 32 := 0#32
  let c0_i32_1804 : BitVec 32 := 0#32
  ![v2.toNat, 0, 0]
def k0_cond186 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1766 : BitVec 32 := 9#32
  let v2058 : BitVec 1 := Scalar.cmpi .ne v2 c9_i32_1766
  let v2059 : BitVec 32 := Scalar.extui v2058
  let c0_i32_1770 : BitVec 32 := 0#32
  let v2060 : BitVec 1 := Scalar.cmpi .ne v2059 c0_i32_1770
  v2060

def k0_off187 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1803 : BitVec 32 := 0#32
  let c0_i32_1804 : BitVec 32 := 0#32
  ![v2.toNat, 0, 0]
def k0_cond187 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1771 : BitVec 32 := 10#32
  let v2061 : BitVec 1 := Scalar.cmpi .ne v2 c10_i32_1771
  let v2062 : BitVec 32 := Scalar.extui v2061
  let c0_i32_1775 : BitVec 32 := 0#32
  let v2063 : BitVec 1 := Scalar.cmpi .ne v2062 c0_i32_1775
  v2063

def k0_off188 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1803 : BitVec 32 := 0#32
  let c0_i32_1804 : BitVec 32 := 0#32
  ![v2.toNat, 0, 0]
def k0_cond188 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1776 : BitVec 32 := 11#32
  let v2064 : BitVec 1 := Scalar.cmpi .ne v2 c11_i32_1776
  let v2065 : BitVec 32 := Scalar.extui v2064
  let c0_i32_1780 : BitVec 32 := 0#32
  let v2066 : BitVec 1 := Scalar.cmpi .ne v2065 c0_i32_1780
  v2066

def k0_off189 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1803 : BitVec 32 := 0#32
  let c0_i32_1804 : BitVec 32 := 0#32
  ![v2.toNat, 0, 0]
def k0_cond189 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1781 : BitVec 32 := 12#32
  let v2067 : BitVec 1 := Scalar.cmpi .ne v2 c12_i32_1781
  let v2068 : BitVec 32 := Scalar.extui v2067
  let c0_i32_1785 : BitVec 32 := 0#32
  let v2069 : BitVec 1 := Scalar.cmpi .ne v2068 c0_i32_1785
  v2069

def k0_off190 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1803 : BitVec 32 := 0#32
  let c0_i32_1804 : BitVec 32 := 0#32
  ![v2.toNat, 0, 0]
def k0_cond190 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1786 : BitVec 32 := 13#32
  let v2070 : BitVec 1 := Scalar.cmpi .ne v2 c13_i32_1786
  let v2071 : BitVec 32 := Scalar.extui v2070
  let c0_i32_1790 : BitVec 32 := 0#32
  let v2072 : BitVec 1 := Scalar.cmpi .ne v2071 c0_i32_1790
  v2072

def k0_off191 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1803 : BitVec 32 := 0#32
  let c0_i32_1804 : BitVec 32 := 0#32
  ![v2.toNat, 0, 0]
def k0_cond191 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1791 : BitVec 32 := 14#32
  let v2073 : BitVec 1 := Scalar.cmpi .ne v2 c14_i32_1791
  let v2074 : BitVec 32 := Scalar.extui v2073
  let c0_i32_1795 : BitVec 32 := 0#32
  let v2075 : BitVec 1 := Scalar.cmpi .ne v2074 c0_i32_1795
  v2075

def k0_off192 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1803 : BitVec 32 := 0#32
  let c0_i32_1804 : BitVec 32 := 0#32
  ![v2.toNat, 0, 0]
def k0_cond192 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1796 : BitVec 32 := 15#32
  let v2076 : BitVec 1 := Scalar.cmpi .ne v2 c15_i32_1796
  let v2077 : BitVec 32 := Scalar.extui v2076
  let c0_i32_1800 : BitVec 32 := 0#32
  let v2078 : BitVec 1 := Scalar.cmpi .ne v2077 c0_i32_1800
  v2078

def k0_off193 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1803 : BitVec 32 := 0#32
  let c0_i32_1804 : BitVec 32 := 0#32
  ![v2.toNat, 0, 0]
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S384x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x4608 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S768x192 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S192x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x512x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
abbrev S2x512x768 : Shape := ⟨3, ![2, 512, 768]⟩
abbrev S768x6144 : Shape := ⟨2, ![768, 6144]⟩
abbrev S6144x768 : Shape := ⟨2, ![6144, 768]⟩
abbrev S2x128 : Shape := ⟨2, ![2, 128]⟩
abbrev S128x4608 : Shape := ⟨2, ![128, 4608]⟩
abbrev S768x3072 : Shape := ⟨2, ![768, 3072]⟩
abbrev S3072x768 : Shape := ⟨2, ![3072, 768]⟩
abbrev S2x4608 : Shape := ⟨2, ![2, 4608]⟩
abbrev S2x768 : Shape := ⟨2, ![2, 768]⟩
abbrev S_ : Shape := ⟨0, ![]⟩
abbrev S2x512 : Shape := ⟨2, ![2, 512]⟩
abbrev S2x512x1 : Shape := ⟨3, ![2, 512, 1]⟩
abbrev S2x1x768 : Shape := ⟨3, ![2, 1, 768]⟩
abbrev S2x512x6144 : Shape := ⟨3, ![2, 512, 6144]⟩
abbrev S2x512x64x96 : Shape := ⟨4, ![2, 512, 64, 96]⟩
abbrev S2x64x512x512 : Shape := ⟨4, ![2, 64, 512, 512]⟩
abbrev S2x64x512 : Shape := ⟨3, ![2, 64, 512]⟩
abbrev S2x64x512x1 : Shape := ⟨4, ![2, 64, 512, 1]⟩
abbrev S2x64x96x512 : Shape := ⟨4, ![2, 64, 96, 512]⟩
abbrev S2x512x64x1 : Shape := ⟨4, ![2, 512, 64, 1]⟩
abbrev S2x512x3072 : Shape := ⟨3, ![2, 512, 3072]⟩

abbrev nBuf : Space → Nat
  | .hbm => 169
  | .vmem => 0
  | .smem => 0
  | _ => 0

abbrev hbmTy0_0 (i : Nat) : BufTy := match i % 128 with
  | 0 => ⟨S2x512x768, .bf16⟩
  | 1 => ⟨S768x6144, .bf16⟩
  | 2 => ⟨S768x6144, .bf16⟩
  | 3 => ⟨S768x6144, .bf16⟩
  | 4 => ⟨S6144x768, .bf16⟩
  | 5 => ⟨S2x128, .bf16⟩
  | 6 => ⟨S128x4608, .bf16⟩
  | 7 => ⟨S768x3072, .bf16⟩
  | 8 => ⟨S3072x768, .bf16⟩
  | 9 => ⟨S2x4608, .f32⟩
  | 10 => ⟨S2x4608, .bf16⟩
  | 11 => ⟨S2x768, .bf16⟩
  | 12 => ⟨S2x768, .bf16⟩
  | 13 => ⟨S2x768, .bf16⟩
  | 14 => ⟨S2x768, .bf16⟩
  | 15 => ⟨S2x768, .bf16⟩
  | 16 => ⟨S2x768, .bf16⟩
  | 17 => ⟨S2x512x768, .f32⟩
  | 18 => ⟨S_, .f32⟩
  | 19 => ⟨S2x512, .f32⟩
  | 20 => ⟨S2x512x1, .f32⟩
  | 21 => ⟨S_, .f32⟩
  | 22 => ⟨S2x512x1, .f32⟩
  | 23 => ⟨S2x512x1, .f32⟩
  | 24 => ⟨S2x512x1, .bf16⟩
  | 25 => ⟨S_, .i32⟩
  | 26 => ⟨S2x512x768, .f32⟩
  | 27 => ⟨S_, .f32⟩
  | 28 => ⟨S2x512, .f32⟩
  | 29 => ⟨S2x512x1, .f32⟩
  | 30 => ⟨S_, .f32⟩
  | 31 => ⟨S2x512x1, .f32⟩
  | 32 => ⟨S2x512x1, .f32⟩
  | 33 => ⟨S2x512x768, .f32⟩
  | 34 => ⟨S2x512x768, .f32⟩
  | 35 => ⟨S2x512x768, .f32⟩
  | 36 => ⟨S_, .f32⟩
  | 37 => ⟨S_, .f32⟩
  | 38 => ⟨S_, .f32⟩
  | 39 => ⟨S_, .f32⟩
  | 40 => ⟨S2x512, .f32⟩
  | 41 => ⟨S2x512x1, .f32⟩
  | 42 => ⟨S2x512x1, .f32⟩
  | 43 => ⟨S2x512x1, .f32⟩
  | 44 => ⟨S2x512x1, .bf16⟩
  | 45 => ⟨S_, .f32⟩
  | 46 => ⟨S_, .i1⟩
  | 47 => ⟨S_, .f32⟩
  | 48 => ⟨S_, .bf16⟩
  | 49 => ⟨S2x512x1, .bf16⟩
  | 50 => ⟨S2x512x1, .bf16⟩
  | 51 => ⟨S2x512x768, .bf16⟩
  | 52 => ⟨S2x512x768, .bf16⟩
  | 53 => ⟨S_, .bf16⟩
  | 54 => ⟨S2x512x1, .bf16⟩
  | 55 => ⟨S2x512x1, .bf16⟩
  | 56 => ⟨S2x512x1, .bf16⟩
  | 57 => ⟨S2x512x768, .bf16⟩
  | 58 => ⟨S2x512x768, .bf16⟩
  | 59 => ⟨S2x1x768, .bf16⟩
  | 60 => ⟨S_, .bf16⟩
  | 61 => ⟨S2x1x768, .bf16⟩
  | 62 => ⟨S2x1x768, .bf16⟩
  | 63 => ⟨S2x512x768, .bf16⟩
  | 64 => ⟨S2x512x768, .bf16⟩
  | 65 => ⟨S2x1x768, .bf16⟩
  | 66 => ⟨S2x512x768, .bf16⟩
  | 67 => ⟨S2x512x768, .bf16⟩
  | 68 => ⟨S2x512x6144, .f32⟩
  | 69 => ⟨S2x512x6144, .bf16⟩
  | 70 => ⟨S2x512x64x96, .bf16⟩
  | 71 => ⟨S2x512x6144, .f32⟩
  | 72 => ⟨S2x512x6144, .bf16⟩
  | 73 => ⟨S2x512x64x96, .bf16⟩
  | 74 => ⟨S2x512x6144, .f32⟩
  | 75 => ⟨S2x512x6144, .bf16⟩
  | 76 => ⟨S2x512x64x96, .bf16⟩
  | 77 => ⟨S2x64x512x512, .f32⟩
  | 78 => ⟨S_, .f32⟩
  | 79 => ⟨S2x64x512x512, .f32⟩
  | 80 => ⟨S2x64x512x512, .f32⟩
  | 81 => ⟨S_, .f32⟩
  | 82 => ⟨S2x64x512, .f32⟩
  | 83 => ⟨S2x64x512x1, .f32⟩
  | 84 => ⟨S2x64x512x512, .f32⟩
  | 85 => ⟨S2x64x512x512, .f32⟩
  | 86 => ⟨S2x64x512x512, .f32⟩
  | 87 => ⟨S_, .f32⟩
  | 88 => ⟨S2x64x512, .f32⟩
  | 89 => ⟨S2x64x512x1, .f32⟩
  | 90 => ⟨S2x512x64x96, .f32⟩
  | 91 => ⟨S2x64x96x512, .f32⟩
  | 92 => ⟨S2x512x64x96, .f32⟩
  | 93 => ⟨S2x512x64x1, .f32⟩
  | 94 => ⟨S2x512x64x96, .f32⟩
  | 95 => ⟨S2x512x64x96, .f32⟩
  | 96 => ⟨S2x512x6144, .f32⟩
  | 97 => ⟨S6144x768, .f32⟩
  | 98 => ⟨S2x512x768, .f32⟩
  | 99 => ⟨S2x1x768, .bf16⟩
  | 100 => ⟨S2x1x768, .f32⟩
  | 101 => ⟨S2x512x768, .f32⟩
  | 102 => ⟨S2x512x768, .f32⟩
  | 103 => ⟨S2x512x768, .f32⟩
  | 104 => ⟨S2x512x768, .f32⟩
  | 105 => ⟨S_, .f32⟩
  | 106 => ⟨S2x512, .f32⟩
  | 107 => ⟨S2x512x1, .f32⟩
  | 108 => ⟨S_, .f32⟩
  | 109 => ⟨S2x512x1, .f32⟩
  | 110 => ⟨S2x512x1, .f32⟩
  | 111 => ⟨S_, .i32⟩
  | 112 => ⟨S_, .f32⟩
  | 113 => ⟨S2x512, .f32⟩
  | 114 => ⟨S2x512x1, .f32⟩
  | 115 => ⟨S_, .f32⟩
  | 116 => ⟨S2x512x1, .f32⟩
  | 117 => ⟨S2x512x1, .f32⟩
  | 118 => ⟨S2x512x768, .f32⟩
  | 119 => ⟨S2x512x768, .f32⟩
  | 120 => ⟨S2x512x768, .f32⟩
  | 121 => ⟨S_, .f32⟩
  | 122 => ⟨S_, .f32⟩
  | 123 => ⟨S_, .f32⟩
  | 124 => ⟨S_, .f32⟩
  | 125 => ⟨S2x512, .f32⟩
  | 126 => ⟨S2x512x1, .f32⟩
  | 127 => ⟨S2x512x1, .f32⟩
  | _ => ⟨S2x512x768, .bf16⟩

abbrev hbmTy0_1 (i : Nat) : BufTy := match i % 128 with
  | 0 => ⟨S2x512x1, .f32⟩
  | 1 => ⟨S_, .f32⟩
  | 2 => ⟨S_, .i1⟩
  | 3 => ⟨S_, .f32⟩
  | 4 => ⟨S_, .f32⟩
  | 5 => ⟨S2x512x1, .f32⟩
  | 6 => ⟨S2x512x1, .f32⟩
  | 7 => ⟨S2x512x768, .f32⟩
  | 8 => ⟨S2x512x768, .f32⟩
  | 9 => ⟨S_, .f32⟩
  | 10 => ⟨S2x512x1, .f32⟩
  | 11 => ⟨S2x512x1, .f32⟩
  | 12 => ⟨S2x512x1, .f32⟩
  | 13 => ⟨S2x512x768, .f32⟩
  | 14 => ⟨S2x512x768, .f32⟩
  | 15 => ⟨S2x1x768, .bf16⟩
  | 16 => ⟨S_, .bf16⟩
  | 17 => ⟨S2x1x768, .bf16⟩
  | 18 => ⟨S2x1x768, .bf16⟩
  | 19 => ⟨S2x1x768, .f32⟩
  | 20 => ⟨S2x512x768, .f32⟩
  | 21 => ⟨S2x512x768, .f32⟩
  | 22 => ⟨S2x1x768, .bf16⟩
  | 23 => ⟨S2x1x768, .f32⟩
  | 24 => ⟨S2x512x768, .f32⟩
  | 25 => ⟨S2x512x768, .f32⟩
  | 26 => ⟨S768x3072, .f32⟩
  | 27 => ⟨S2x512x3072, .f32⟩
  | 28 => ⟨S2x512x3072, .f32⟩
  | 29 => ⟨S2x512x3072, .f32⟩
  | 30 => ⟨S_, .f32⟩
  | 31 => ⟨S2x512x3072, .f32⟩
  | 32 => ⟨S2x512x3072, .f32⟩
  | 33 => ⟨S2x512x3072, .f32⟩
  | 34 => ⟨S2x1x768, .bf16⟩
  | 35 => ⟨S3072x768, .f32⟩
  | 36 => ⟨S2x512x768, .f32⟩
  | 37 => ⟨S2x1x768, .f32⟩
  | 38 => ⟨S2x512x768, .f32⟩
  | 39 => ⟨S2x512x768, .f32⟩
  | 40 => ⟨S2x512x768, .f32⟩
  | _ => ⟨S2x512x768, .bf16⟩

abbrev hbmTy (i : Nat) : BufTy := match i / 128 with
  | 0 => hbmTy0_0 i
  | 1 => hbmTy0_1 i
  | _ => ⟨S2x512x768, .bf16⟩

abbrev bufTy : (tb : Table) → Fin (tcTables nBuf tb) → BufTy
  | .hbm, ⟨i, _⟩ => hbmTy i
  | _, _ => ⟨S2x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_call0_v0 : Ref sig .tc := ⟨.hbm, 26, rfl⟩
abbrev main_call0_cst : Ref sig .tc := ⟨.hbm, 27, rfl⟩
abbrev main_call0_v1 : Ref sig .tc := ⟨.hbm, 28, rfl⟩
abbrev main_call0_v2 : Ref sig .tc := ⟨.hbm, 29, rfl⟩
abbrev main_call0_cst_0 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_cst_1 : Ref sig .tc := ⟨.hbm, 37, rfl⟩
abbrev main_call0_v9 : Ref sig .tc := ⟨.hbm, 38, rfl⟩
abbrev main_call0_cst_2 : Ref sig .tc := ⟨.hbm, 39, rfl⟩
abbrev main_call0_v10 : Ref sig .tc := ⟨.hbm, 40, rfl⟩
abbrev main_call0_v11 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst_3 : Ref sig .tc := ⟨.hbm, 45, rfl⟩
abbrev main_call0_v15 : Ref sig .tc := ⟨.hbm, 46, rfl⟩
abbrev main_call0_cst_4 : Ref sig .tc := ⟨.hbm, 47, rfl⟩
abbrev main_call0_call0_v0 : Ref sig .tc := ⟨.hbm, 48, rfl⟩
abbrev main_call0_call0_v1 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_cst_1 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_cst_2 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst_3 : Ref sig .tc := ⟨.hbm, 78, rfl⟩
abbrev main_v40 : Ref sig .tc := ⟨.hbm, 79, rfl⟩
abbrev main_v41 : Ref sig .tc := ⟨.hbm, 80, rfl⟩
abbrev main_cst_4 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_cst_5 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_6 : Ref sig .tc := ⟨.hbm, 105, rfl⟩
abbrev main_v64 : Ref sig .tc := ⟨.hbm, 106, rfl⟩
abbrev main_v65 : Ref sig .tc := ⟨.hbm, 107, rfl⟩
abbrev main_cst_7 : Ref sig .tc := ⟨.hbm, 108, rfl⟩
abbrev main_v66 : Ref sig .tc := ⟨.hbm, 109, rfl⟩
abbrev main_v67 : Ref sig .tc := ⟨.hbm, 110, rfl⟩
abbrev main_c_8 : Ref sig .tc := ⟨.hbm, 111, rfl⟩
abbrev main_call1_cst : Ref sig .tc := ⟨.hbm, 112, rfl⟩
abbrev main_call1_v0 : Ref sig .tc := ⟨.hbm, 113, rfl⟩
abbrev main_call1_v1 : Ref sig .tc := ⟨.hbm, 114, rfl⟩
abbrev main_call1_cst_0 : Ref sig .tc := ⟨.hbm, 115, rfl⟩
abbrev main_call1_v2 : Ref sig .tc := ⟨.hbm, 116, rfl⟩
abbrev main_call1_v3 : Ref sig .tc := ⟨.hbm, 117, rfl⟩
abbrev main_call1_v4 : Ref sig .tc := ⟨.hbm, 118, rfl⟩
abbrev main_call1_v5 : Ref sig .tc := ⟨.hbm, 119, rfl⟩
abbrev main_call1_v6 : Ref sig .tc := ⟨.hbm, 120, rfl⟩
abbrev main_call1_v7 : Ref sig .tc := ⟨.hbm, 121, rfl⟩
abbrev main_call1_cst_1 : Ref sig .tc := ⟨.hbm, 122, rfl⟩
abbrev main_call1_v8 : Ref sig .tc := ⟨.hbm, 123, rfl⟩
abbrev main_call1_cst_2 : Ref sig .tc := ⟨.hbm, 124, rfl⟩
abbrev main_call1_v9 : Ref sig .tc := ⟨.hbm, 125, rfl⟩
abbrev main_call1_v10 : Ref sig .tc := ⟨.hbm, 126, rfl⟩
abbrev main_call1_v11 : Ref sig .tc := ⟨.hbm, 127, rfl⟩
abbrev main_call1_v12 : Ref sig .tc := ⟨.hbm, 128, rfl⟩
abbrev main_call1_cst_3 : Ref sig .tc := ⟨.hbm, 129, rfl⟩
abbrev main_call1_v13 : Ref sig .tc := ⟨.hbm, 130, rfl⟩
abbrev main_call1_cst_4 : Ref sig .tc := ⟨.hbm, 131, rfl⟩
abbrev main_call1_call0_v0 : Ref sig .tc := ⟨.hbm, 132, rfl⟩
abbrev main_call1_call0_v1 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_cst_9 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_cst_10 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_cst_11 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩

abbrev nD : Nat := 1
abbrev τ : Topo := Topo.v7x

variable {F : FTy → Type} [FloatOps F]
-- ==== Proof.Prog.lean ====
/- The body of the kernel written once for a symbolic device, a symbolic row and a symbolic head: the
   printed body repeats each of these steps sixteen (or four) times with the number filled in. -/
module

public import proofs.«01_k».proof.Proof.Gen.KernelIdeal.Skeleton
public import proofs.«01_k».proof.Proof.Gen.KernelIdeal.Launch

@[expose] public section

noncomputable section

namespace Cert.KernelIdeal.Run

open Idealize.ShloMosaic Idealize.ShloMosaic.TcCoe Idealize.SL.Sem
open Cert.KernelIdeal Cert.KernelIdeal.Gen

variable {F : FTy → Type} [FloatOps F]

/-- The programs of one core. -/
abbrev PR (F : FTy → Type) := Prog (TpuEff nD τ sig (Elt F) Λ₀ .tc) PUnit

/-! ## The buffers -/

abbrev xM : Memref sig .tc .vmem S2x512x768 .bf16 := Memref.whole cc0_stg0_0
abbrev wqM : Memref sig .tc .vmem S768x384 .bf16 := Memref.whole cc0_stg1_0
abbrev wkM : Memref sig .tc .vmem S768x384 .bf16 := Memref.whole cc0_stg2_0
abbrev wvM : Memref sig .tc .vmem S768x384 .bf16 := Memref.whole cc0_stg3_0
abbrev woM : Memref sig .tc .vmem S384x768 .bf16 := Memref.whole cc0_stg4_0
abbrev teM : Memref sig .tc .vmem S2x128 .bf16 := Memref.whole cc0_stg5_0
abbrev wmM : Memref sig .tc .vmem S128x4608 .bf16 := Memref.whole cc0_stg6_0
abbrev f1M : Memref sig .tc .vmem S768x192 .bf16 := Memref.whole cc0_stg7_0
abbrev f2M : Memref sig .tc .vmem S192x768 .bf16 := Memref.whole cc0_stg8_0
abbrev outM : Memref sig .tc .vmem S2x512x768 .f32 := Memref.whole cc0_stg9_0
abbrev pM : Memref sig .tc .vmem S16x64x768 .bf16 := Memref.whole cc0_scratch0
abbrev aM : Memref sig .tc .vmem S16x64x768 .bf16 := Memref.whole cc0_scratch1
abbrev bM : Memref sig .tc .vmem S16x64x768 .bf16 := Memref.whole cc0_scratch2
abbrev p2M : Memref sig .tc .vmem S16x64x768 .bf16 := Memref.whole cc0_scratch3
abbrev a2M : Memref sig .tc .vmem S16x64x768 .bf16 := Memref.whole cc0_scratch4
abbrev b2M : Memref sig .tc .vmem S16x64x768 .bf16 := Memref.whole cc0_scratch5
abbrev atM : Memref sig .tc .vmem S1024x384 .f32 := Memref.whole cc0_scratch6
abbrev x1M : Memref sig .tc .vmem S1024x768 .f32 := Memref.whole cc0_scratch7

/-! ## A device's own number as the program computes it -/

/-- The word of the device's own number. -/
def myW (c : Dev nD) : BitVec 32 := Scalar.remsi (Scalar.divsi (Dev.word c) 1#32) 16#32

theorem myW_toNat (c : Dev nD) : (myW c).toNat = c.val := by revert c; decide +kernel

/-- The test "another device than `j`" as the program computes it. -/
def ne1 (c : Dev nD) (j : Fin 16) : BitVec 1 :=
  Scalar.cmpi .ne (Scalar.extui (Scalar.cmpi .ne (myW c) (BitVec.ofNat 32 j.val)) : BitVec 32) 0#32

theorem ne1_eq (c : Dev nD) (j : Fin 16) : ne1 c j = 1#1 ↔ c.val ≠ j.val := by
  revert c j; decide +kernel

/-- The device `k` places further round. -/
def sigDev (c : Dev nD) (k : Fin 15) : Nat :=
  (Scalar.addi 0#32 (Scalar.muli (Scalar.remsi (Scalar.addi (myW c) (BitVec.ofNat 32 (k.val + 1))) 16#32) 1#32)).toNat

theorem sigDev_eq (c : Dev nD) (k : Fin 15) : sigDev c k = (c.val + (k.val + 1)) % 16 := by
  revert c k; decide +kernel
theorem sigDev_lt (c : Dev nD) (k : Fin 15) : sigDev c k < nD := by
  revert c k; decide +kernel

/-! ## Rows and semaphores -/

theorem rowInb (j : Fin 16) : ∀ a, (![j.val, 0, 0] : Fin 3 → Nat) a + S1x64x768.size a ≤ S16x64x768.size a := by
  revert j; decide +kernel
theorem rowWords (j : Fin 16) : (Rect.unit (s := S16x64x768) ![j.val, 0, 0] S1x64x768.size (rowInb j)).WholeWords (EltTy.packing .bf16) := by
  revert j; decide +kernel
theorem rowPacked (j : Fin 16) : (Rect.unit (s := S16x64x768) ![j.val, 0, 0] S1x64x768.size (rowInb j)).PackedRows (EltTy.packing .bf16) := by
  revert j; decide +kernel

/-- Where the device's own row begins. -/
def myOff (c : Dev nD) : Fin 3 → Nat := ![(myW c).toNat, 0, 0]
theorem myOff_eq (c : Dev nD) : myOff c = ![c.val, 0, 0] := by rw [myOff, myW_toNat]
theorem myInb (c : Dev nD) : ∀ a, myOff c a + S1x64x768.size a ≤ S16x64x768.size a := by
  revert c; decide +kernel
theorem myWords (c : Dev nD) : (Rect.unit (s := S16x64x768) (myOff c) S1x64x768.size (myInb c)).WholeWords (EltTy.packing .bf16) := by
  revert c; decide +kernel
theorem myPacked (c : Dev nD) : (Rect.unit (s := S16x64x768) (myOff c) S1x64x768.size (myInb c)).PackedRows (EltTy.packing .bf16) := by
  revert c; decide +kernel

theorem semInb (ph : Fin 2) (j : Fin 16) : ∀ a, (![ph.val, j.val] : Fin 2 → Nat) a + S1x1.size a ≤ S2x16.size a := by
  revert ph j; decide +kernel
/-- Where the device's own semaphore lies in an array of two by sixteen. -/
def mySOff (ph : Fin 2) (c : Dev nD) : Fin 2 → Nat := ![ph.val, (myW c).toNat]
theorem mySOff_eq (ph : Fin 2) (c : Dev nD) : mySOff ph c = ![ph.val, c.val] := by rw [mySOff, myW_toNat]
theorem mySInb (ph : Fin 2) (c : Dev nD) : ∀ a, mySOff ph c a + S1x1.size a ≤ S2x16.size a := by
  revert ph c; decide +kernel

/-- Row `j` of a buffer of sixteen rows. -/
abbrev rowM (m : Memref sig .tc .vmem S16x64x768 .bf16) (j : Fin 16) : Memref sig .tc .vmem S64x768 .bf16 :=
  (m.slice (Rect.unit (s := S16x64x768) ![j.val, 0, 0] S1x64x768.size (rowInb j)) (fun _ => rfl)).squeeze S64x768 squeezes_S1x64x768_S64x768
/-- The device's own row. -/
abbrev myM (m : Memref sig .tc .vmem S16x64x768 .bf16) (c : Dev nD) : Memref sig .tc .vmem S64x768 .bf16 :=
  (m.slice (Rect.unit (s := S16x64x768) (myOff c) S1x64x768.size (myInb c)) (fun _ => rfl)).squeeze S64x768 squeezes_S1x64x768_S64x768
/-- Semaphore `[ph, j]` of an array. -/
abbrev semA (a : DmaSems sig S2x16) (ph : Fin 2) (j : Fin 16) : DmaSems sig S_ :=
  (a.slice (Rect.unit (s := S2x16) ![ph.val, j.val] S1x1.size (semInb ph j))).squeeze S_ squeezes_S1x1_S_
/-- The device's own semaphore of phase `ph` of an array. -/
abbrev mySem (a : DmaSems sig S2x16) (ph : Fin 2) (c : Dev nD) : DmaSems sig S_ :=
  (a.slice (Rect.unit (s := S2x16) (mySOff ph c) S1x1.size (mySInb ph c))).squeeze S_ squeezes_S1x1_S_

abbrev barS : Sems sig S_ := SemArray.scalar (sig.barrier 0 rfl)
abbrev scSendA : DmaSems sig S2x16 := cc0_scratch8
abbrev scRecvA : DmaSems sig S2x16 := cc0_scratch9
abbrev bcSendA : DmaSems sig S2x16 := cc0_scratch10
abbrev bcRecvA : DmaSems sig S2x16 := cc0_scratch11

/-! ## What is stored -/

/-- Batch `b`'s 512 rows of the normalised input. -/
def xb (b : Fin 2) (v108 : FVec F S2x512x768 .bf16) : FVec F S512x768 .bf16 :=
  shapeCast S512x768 (extractStridedSlice S1x512x768 ![b.val, 0, 0] v108 (by revert b; decide)) shapeCasts_S1x512x768_S512x768

/-- A projection of batch `b`'s rows. -/
def proj (b : Fin 2) (v108 : FVec F S2x512x768 .bf16) (w : Vec F S768x384 .bf16) : FVec F S512x384 .f32 :=
  matmul dot_S512x768_S768x384_S512x384_1_0_0_1_n_n none (xb b v108)
    (shapeCast S768x384 w shapeCasts_S768x384_S768x384) (constant S512x384 .f32 0x00000000#32)

theorem headSlices (h : Fin 4) : S512x384.Slices ![0, 96 * h.val] S512x96 := by revert h; decide

/-- Head `h`'s columns. -/
def hcol (h : Fin 4) (v : FVec F S512x384 .f32) : FVec F S512x96 .bf16 :=
  truncf .bf16 (extractStridedSlice S512x96 ![0, 96 * h.val] v (headSlices h)) bitsLt_bf16_f32

/-- The scaled scores of a head. -/
def scores (q k : FVec F S512x96 .bf16) : FVec F S512x512 .f32 :=
  mulf (matmul dot_S512x96_S512x96_S512x512_1_1_0_0_n_n none q k (constant S512x512 .f32 0x00000000#32))
    (broadcast S512x512 (Scalar.ofBits .f32 0x3DD105EC#32 : F .f32))

/-- The exponentials of the scores less each row's greatest. -/
def expo (s : FVec F S512x512 .f32) : FVec F S512x512 .f32 :=
  exp (subf s (broadcastTo S512x512
    (shapeCast S512x1 (multiReduction .maximumf [1] S512 s 0xFF800000#32 reduces_S512x512_S512 (.inl rfl) rfl) shapeCasts_S512_S512x1)
    broadcasts_S512x1_S512x512))

/-- A head's attention: the weighted values over the weights' sum. -/
def softv (p : FVec F S512x512 .f32) (v : FVec F S512x96 .bf16) : FVec F S512x96 .f32 :=
  divf (matmul dot_S512x512_S512x96_S512x96_1_0_0_1_n_n none (truncf .bf16 p bitsLt_bf16_f32) v (constant S512x96 .f32 0x00000000#32))
    (broadcastTo S512x96
      (shapeCast S512x1 (multiReduction .add [1] S512 p 0x00000000#32 reduces_S512x512_S512 (.inl rfl) rfl) shapeCasts_S512_S512x1)
      broadcasts_S512x1_S512x96)

/-- What a head stores. -/
def headPay (h : Fin 4) (q k v : FVec F S512x384 .f32) : FVec F S512x96 .f32 :=
  shapeCast S512x96 (softv (expo (scores (hcol h q) (hcol h k))) (hcol h v)) shapeCasts_S512x96_S512x96

/-- A row of the modulation of one batch. -/
def modRow (b : Fin 2) (v : FVec F S2x768 .f32) : FVec F S1x768 .f32 :=
  shapeCast S1x768 (shapeCast S768 (extractStridedSlice S1x768 ![b.val, 0] v (by revert b; decide)) shapeCasts_S1x768_S768) shapeCasts_S768_S1x768

/-- The batch of block `j`. -/
abbrev bOf (j : Fin 16) : Fin 2 := ⟨j.val / 8, by have := j.isLt; omega⟩

theorem x1Slices (j : Fin 16) : S1024x768.Slices ![64 * j.val, 0] S64x768 := by revert j; decide +kernel

/-- Block `j` of the input with the attention added. -/
def x1v (j : Fin 16) (v71 : FVec F S2x768 .f32) (v77 : FVec F S1024x768 .bf16) (r : Vec F S1x64x768 .bf16) : FVec F S64x768 .f32 :=
  addf (extf .f32 (extractStridedSlice S64x768 ![64 * j.val, 0] v77 (x1Slices j)) bitsLt_bf16_f32)
    (mulf (broadcastTo S64x768 (modRow (bOf j) v71) broadcasts_S1x768_S64x768)
      (extf .f32 (shapeCast S64x768 r shapeCasts_S1x64x768_S64x768) bitsLt_bf16_f32))

/-- The same as it is stored. -/
def x1Pay (j : Fin 16) (v71 : FVec F S2x768 .f32) (v77 : FVec F S1024x768 .bf16) (r : Vec F S1x64x768 .bf16) : FVec F S64x768 .f32 :=
  shapeCast S64x768 (x1v j v71 v77 r) shapeCasts_S64x768_S64x768

/-- The mean of each row. -/
def meanRow (x : FVec F S64x768 .f32) : FVec F S64x1 .f32 :=
  divf (shapeCast S64x1 (multiReduction .add [1] S64 x 0x00000000#32 reduces_S64x768_S64 (.inl rfl) rfl) shapeCasts_S64_S64x1)
    (broadcast S64x1 (Scalar.ofBits .f32 0x44400000#32 : F .f32))

/-- Each row less its mean. -/
def cent (x : FVec F S64x768 .f32) : FVec F S64x768 .f32 :=
  subf x (broadcastTo S64x768 (meanRow x) broadcasts_S64x1_S64x768)

/-- The second normalisation of a block, modulated. -/
def lnMod (b : Fin 2) (v72 v73 : FVec F S2x768 .f32) (x : FVec F S64x768 .f32) : FVec F S64x768 .bf16 :=
  truncf .bf16 (addf (mulf
    (mulf (cent x) (broadcastTo S64x768
      (rsqrt (addf (meanRow (mulf (cent x) (cent x))) (broadcast S64x1 (Scalar.ofBits .f32 0x3727C5AC#32 : F .f32))))
      broadcasts_S64x1_S64x768))
    (broadcastTo S64x768 (addf (broadcast S1x768 (Scalar.ofBits .f32 0x3F800000#32 : F .f32)) (modRow b v72)) broadcasts_S1x768_S64x768))
    (broadcastTo S64x768 (modRow b v73) broadcasts_S1x768_S64x768)) bitsLt_bf16_f32

/-- The hidden layer's activation. -/
def silu (h : FVec F S64x192 .f32) : FVec F S64x192 .f32 :=
  mulf h (divf (broadcast S64x192 (Scalar.ofBits .f32 0x3F800000#32 : F .f32))
    (addf (broadcast S64x192 (Scalar.ofBits .f32 0x3F800000#32 : F .f32))
      (exp (subf (broadcast S64x192 (Scalar.ofBits .f32 0x00000000#32 : F .f32)) h))))

/-- The two matrix products of the feed-forward layer over this device's columns. -/
def mlp (v493 : FVec F S768x192 .bf16) (v495 : FVec F S192x768 .bf16) (y : FVec F S64x768 .bf16) : FVec F S1x64x768 .bf16 :=
  shapeCast S1x64x768 (truncf .bf16 (matmul dot_S64x192_S192x768_S64x768_1_0_0_1_n_n none
    (truncf .bf16 (silu (matmul dot_S64x768_S768x192_S64x192_1_0_0_1_n_n none y v493 (constant S64x192 .f32 0x00000000#32))) bitsLt_bf16_f32)
    v495 (constant S64x768 .f32 0x00000000#32)) bitsLt_bf16_f32) shapeCasts_S64x768_S1x64x768

/-- What the feed-forward step stores of block `j`. -/
def mlpPay (j : Fin 16) (v71 v72 v73 : FVec F S2x768 .f32) (v77 : FVec F S1024x768 .bf16) (v493 : FVec F S768x192 .bf16)
    (v495 : FVec F S192x768 .bf16) (r : Vec F S1x64x768 .bf16) : FVec F S1x64x768 .bf16 :=
  mlp v493 v495 (lnMod (bOf j) v72 v73 (x1v j v71 v77 r))

/-- What the last step stores of block `j`. -/
def outPay (j : Fin 16) (v74 : FVec F S2x768 .f32) (x1 : Vec F S64x768 .f32) (r : Vec F S1x64x768 .bf16) : FVec F S1x64x768 .f32 :=
  shapeCast S1x64x768 (addf x1 (mulf (broadcastTo S64x768 (modRow (bOf j) v74) broadcasts_S1x768_S64x768)
    (extf .f32 (shapeCast S64x768 r shapeCasts_S1x64x768_S64x768) bitsLt_bf16_f32))) shapeCasts_S64x768_S1x64x768

/-! ## The steps, each followed by a continuation -/

/-- Send row `j` of `src` to device `j`'s row of this device's number. -/
def scSend (src dst : Memref sig .tc .vmem S16x64x768 .bf16) (hsrc : src.IsWhole) (hdst : dst.IsWhole) (ph : Fin 2) (c : Dev nD) (j : Fin 16) (K : PR F) : PR F :=
  if h : ne1 c j = 1#1 then
    Prog.lift (.enqueueDma (rowM src j) (.remote (Dev.tc (⟨j.val, j.isLt⟩ : Dev nD)) (myM dst c) (.dma (semA scSendA ph j).sem))
      (.dma (mySem scRecvA ph c).sem) ((hsrc.wordExact_slice rfl _ (rowWords j)).reshape _ _)
      ((hdst.wordExact_slice rfl _ (myWords c)).reshape _ _) ⟨⟨rfl, Or.inl rfl⟩, trivial⟩) >>= fun _ => K
  else K

/-- Send this device's own row of `m` to the same row of device `j`. -/
def bcSend (m : Memref sig .tc .vmem S16x64x768 .bf16) (hm : m.IsWhole) (ph : Fin 2) (c : Dev nD) (j : Fin 16) (K : PR F) : PR F :=
  if h : ne1 c j = 1#1 then
    Prog.lift (.enqueueDma (myM m c) (.remote (Dev.tc (⟨j.val, j.isLt⟩ : Dev nD)) (myM m c) (.dma (semA bcSendA ph j).sem))
      (.dma (mySem bcRecvA ph c).sem) ((hm.wordExact_slice rfl _ (myWords c)).reshape _ _)
      ((hm.wordExact_slice rfl _ (myWords c)).reshape _ _) ⟨⟨rfl, Or.inl rfl⟩, trivial⟩) >>= fun _ => K
  else K

/-- Wait for row `j` of `m` on array `a`. -/
def rcvWait (a : DmaSems sig S2x16) (m : Memref sig .tc .vmem S16x64x768 .bf16) (hm : m.IsWhole) (ph : Fin 2) (c : Dev nD) (j : Fin 16) (K : PR F) : PR F :=
  if h : ne1 c j = 1#1 then
    Prog.lift (.waitDma2 (semA a ph j).sem (rowM m j) (rowM m j) ((hm.wordExact_slice rfl _ (rowWords j)).reshape _ _)
      ((hm.wordExact_slice rfl _ (rowWords j)).reshape _ _)) >>= fun _ => K
  else K

/-- Wait for the end of this device's scatter to device `j`. -/
def scDrain (src dst : Memref sig .tc .vmem S16x64x768 .bf16) (hsrc : src.IsWhole) (hdst : dst.IsWhole) (ph : Fin 2) (c : Dev nD) (j : Fin 16) (K : PR F) : PR F :=
  if h : ne1 c j = 1#1 then
    Prog.lift (.waitDma2 (semA scSendA ph j).sem (myM dst c) (rowM src j) ((hdst.wordExact_slice rfl _ (myWords c)).reshape _ _)
      ((hsrc.wordExact_slice rfl _ (rowWords j)).reshape _ _)) >>= fun _ => K
  else K

/-- Wait for the end of this device's broadcast to device `j`. -/
def bcDrain (m : Memref sig .tc .vmem S16x64x768 .bf16) (hm : m.IsWhole) (ph : Fin 2) (c : Dev nD) (j : Fin 16) (K : PR F) : PR F :=
  if h : ne1 c j = 1#1 then
    Prog.lift (.waitDma2 (semA bcSendA ph j).sem (myM m c) (myM m c) ((hm.wordExact_slice rfl _ (myWords c)).reshape _ _)
      ((hm.wordExact_slice rfl _ (myWords c)).reshape _ _)) >>= fun _ => K
  else K

/-- Read a row of sixteen. -/
def ldRow (m : Memref sig .tc .vmem S16x64x768 .bf16) (j : Fin 16) (K : Vec F S1x64x768 .bf16 → PR F) : PR F :=
  Prog.lift (.load m (Rect.unit (s := S16x64x768) ![j.val, 0, 0] S1x64x768.size (rowInb j)).toLoadRect (View.loadsAt_vmem h_S1x64x768)) >>= K
/-- Write a row of sixteen. -/
def stRow (m : Memref sig .tc .vmem S16x64x768 .bf16) (hm : m.IsWhole) (j : Fin 16) (v : FVec F S1x64x768 .bf16) (K : PR F) : PR F :=
  Prog.lift (.store m (Rect.unit (s := S16x64x768) ![j.val, 0, 0] S1x64x768.size (rowInb j)) v Finset.univ
    (View.stores_vmem h_S1x64x768 (hm.storeExact_slice rfl _ (rowPacked j)) (fun _ => rfl)) (.inl rfl)) >>= fun _ => K
/-- Read the device's own row. -/
def ldMy (m : Memref sig .tc .vmem S16x64x768 .bf16) (c : Dev nD) (K : Vec F S1x64x768 .bf16 → PR F) : PR F :=
  Prog.lift (.load m (Rect.unit (s := S16x64x768) (myOff c) S1x64x768.size (myInb c)).toLoadRect (View.loadsAt_vmem h_S1x64x768)) >>= K
/-- Write the device's own row. -/
def stMy (m : Memref sig .tc .vmem S16x64x768 .bf16) (hm : m.IsWhole) (c : Dev nD) (v : FVec F S1x64x768 .bf16) (K : PR F) : PR F :=
  Prog.lift (.store m (Rect.unit (s := S16x64x768) (myOff c) S1x64x768.size (myInb c)) v Finset.univ
    (View.stores_vmem h_S1x64x768 (hm.storeExact_slice rfl _ (myPacked c)) (fun _ => rfl)) (.inl rfl)) >>= fun _ => K

theorem headInb (b : Fin 2) (h : Fin 4) : ∀ a, (![512 * b.val, 96 * h.val] : Fin 2 → Nat) a + S512x96.size a ≤ S1024x384.size a := by
  revert b h; decide +kernel
theorem halfInb (b : Fin 2) : ∀ a, (![512 * b.val, 0] : Fin 2 → Nat) a + S512x384.size a ≤ S1024x384.size a := by
  revert b; decide +kernel
theorem eightInb (b : Fin 2) : ∀ a, (![8 * b.val, 0, 0] : Fin 3 → Nat) a + S8x64x768.size a ≤ S16x64x768.size a := by
  revert b; decide +kernel
theorem eightPacked (b : Fin 2) : (Rect.unit (s := S16x64x768) ![8 * b.val, 0, 0] S8x64x768.size (eightInb b)).PackedRows (EltTy.packing .bf16) := by
  revert b; decide +kernel
theorem x1Inb (j : Fin 16) : ∀ a, (![64 * j.val, 0] : Fin 2 → Nat) a + S64x768.size a ≤ S1024x768.size a := by
  revert j; decide +kernel
theorem outInb (j : Fin 16) : ∀ a, (![j.val / 8, 64 * (j.val % 8), 0] : Fin 3 → Nat) a + S1x64x768.size a ≤ S2x512x768.size a := by
  revert j; decide +kernel

/-- One head of one batch. -/
def headStep (b : Fin 2) (q k v : FVec F S512x384 .f32) (h : Fin 4) (K : PR F) : PR F :=
  Prog.lift (.load atM (Rect.unit (s := S1024x384) ![512 * b.val, 96 * h.val] S512x96.size (headInb b h)).toLoadRect (View.loadsAt_vmem h_S512x96)) >>= fun _ =>
  Prog.lift (.store atM (Rect.unit (s := S1024x384) ![512 * b.val, 96 * h.val] S512x96.size (headInb b h)) (headPay h q k v) Finset.univ
    (View.stores_vmem_bits_univ h_S512x96 rfl) (.inl rfl)) >>= fun _ => K

/-- The partial product of one batch: its four heads, then the product with this device's rows of the output weights. -/
def halfStep (b : Fin 2) (v110 : FVec F S384x768 .bf16) (q k v : FVec F S512x384 .f32) (K : PR F) : PR F :=
  List.foldr (headStep b q k v)
    (Prog.lift (.load atM (Rect.unit (s := S1024x384) ![512 * b.val, 0] S512x384.size (halfInb b)).toLoadRect (View.loadsAt_vmem h_S512x384)) >>= fun v214 =>
     Prog.lift (.load pM (Rect.unit (s := S16x64x768) ![8 * b.val, 0, 0] S8x64x768.size (eightInb b)).toLoadRect (View.loadsAt_vmem h_S8x64x768)) >>= fun _ =>
     Prog.lift (.store pM (Rect.unit (s := S16x64x768) ![8 * b.val, 0, 0] S8x64x768.size (eightInb b)) (k0_pay23 v110 v214) Finset.univ
       (View.stores_vmem h_S8x64x768 ((Memref.isWhole_whole _).storeExact_slice rfl _ (eightPacked b)) (fun _ => rfl)) (.inl rfl)) >>= fun _ => K)
    [0, 1, 2, 3]

/-- One block of the feed-forward loop. -/
def mlpStep (c : Dev nD) (v71 v72 v73 : FVec F S2x768 .f32) (v77 : FVec F S1024x768 .bf16) (v493 : FVec F S768x192 .bf16)
    (v495 : FVec F S192x768 .bf16) (j : Fin 16) (K : PR F) : PR F :=
  rcvWait bcRecvA bM (Memref.isWhole_whole _) 0 c j <|
  ldRow bM j fun r =>
  Prog.lift (.load x1M (Rect.unit (s := S1024x768) ![64 * j.val, 0] S64x768.size (x1Inb j)).toLoadRect (View.loadsAt_vmem h_S64x768)) >>= fun _ =>
  Prog.lift (.store x1M (Rect.unit (s := S1024x768) ![64 * j.val, 0] S64x768.size (x1Inb j)) (x1Pay j v71 v77 r) Finset.univ
    (View.stores_vmem_bits_univ h_S64x768 rfl) (.inl rfl)) >>= fun _ =>
  ldRow p2M j fun _ =>
  stRow p2M (Memref.isWhole_whole _) j (mlpPay j v71 v72 v73 v77 v493 v495 r) <|
  scSend p2M a2M (Memref.isWhole_whole _) (Memref.isWhole_whole _) 1 c j K

/-- One block of the result. -/
def outStep (c : Dev nD) (v74 : FVec F S2x768 .f32) (j : Fin 16) (K : PR F) : PR F :=
  rcvWait bcRecvA b2M (Memref.isWhole_whole _) 1 c j <|
  Prog.lift (.load x1M (Rect.unit (s := S1024x768) ![64 * j.val, 0] S64x768.size (x1Inb j)).toLoadRect (View.loadsAt_vmem h_S64x768)) >>= fun x1 =>
  ldRow b2M j fun r =>
  Prog.lift (.load outM (Rect.unit (s := S2x512x768) ![j.val / 8, 64 * (j.val % 8), 0] S1x64x768.size (outInb j)).toLoadRect (View.loadsAt_vmem h_S1x64x768)) >>= fun _ =>
  Prog.lift (.store outM (Rect.unit (s := S2x512x768) ![j.val / 8, 64 * (j.val % 8), 0] S1x64x768.size (outInb j)) (outPay j v74 x1 r) Finset.univ
    (View.stores_vmem_bits_univ h_S1x64x768 rfl) (.inl rfl)) >>= fun _ => K

/-- One signal of the barrier. -/
def sigStep (c : Dev nD) (k : Fin 15) (K : PR F) : PR F :=
  semSignalWord (⟨sigDev c k, sigDev_lt c k⟩ : Dev nD) barS.sem 1#32 >>= fun _ => K

/-- The sixteen rows in order. -/
abbrev rows : List (Fin 16) := [0, 1, 2, 3, 4, 5, 6, 7, 8, 9, 10, 11, 12, 13, 14, 15]
abbrev rowsLo : List (Fin 16) := [0, 1, 2, 3, 4, 5, 6, 7]
abbrev rowsHi : List (Fin 16) := [8, 9, 10, 11, 12, 13, 14, 15]

/-- The last part: the ends of this device's own copies. -/
def drains (c : Dev nD) : PR F :=
  List.foldr (scDrain pM aM (Memref.isWhole_whole _) (Memref.isWhole_whole _) 0 c)
    (List.foldr (bcDrain bM (Memref.isWhole_whole _) 0 c)
      (List.foldr (scDrain p2M a2M (Memref.isWhole_whole _) (Memref.isWhole_whole _) 1 c)
        (List.foldr (bcDrain b2M (Memref.isWhole_whole _) 1 c) (pure ⟨⟩) rows) rows) rows) rows

/-- The second round of exchange and the result. -/
def tail2 (c : Dev nD) (v74 : FVec F S2x768 .f32) : PR F :=
  ldMy p2M c fun v1521 => ldMy a2M c fun _ => stMy a2M (Memref.isWhole_whole _) c (k0_pay36 v1521) <|
  List.foldr (rcvWait scRecvA a2M (Memref.isWhole_whole _) 1 c)
    (Prog.lift (.load a2M (Rect.unit (s := S16x64x768) ![0, 0, 0] S16x64x768.size inb_S16x64x768_S16x64x768_0_0_0).toLoadRect (View.loadsAt_vmem h_S16x64x768)) >>= fun v1575 =>
     ldMy b2M c fun _ => stMy b2M (Memref.isWhole_whole _) c (k0_pay37 v1575) <|
     List.foldr (bcSend b2M (Memref.isWhole_whole _) 1 c)
       (List.foldr (outStep c v74) (drains c) rows) rows) rows

/-- The first round of exchange, then the feed-forward layer. -/
def tail1 (c : Dev nD) (v71 v72 v73 v74 : FVec F S2x768 .f32) (v77 : FVec F S1024x768 .bf16) : PR F :=
  ldMy pM c fun v382 => ldMy aM c fun _ => stMy aM (Memref.isWhole_whole _) c (k0_pay36 v382) <|
  List.foldr (rcvWait scRecvA aM (Memref.isWhole_whole _) 0 c)
    (Prog.lift (.load aM (Rect.unit (s := S16x64x768) ![0, 0, 0] S16x64x768.size inb_S16x64x768_S16x64x768_0_0_0).toLoadRect (View.loadsAt_vmem h_S16x64x768)) >>= fun v436 =>
     ldMy bM c fun _ => stMy bM (Memref.isWhole_whole _) c (k0_pay37 v436) <|
     List.foldr (bcSend bM (Memref.isWhole_whole _) 0 c)
       (Prog.lift (.load f1M (Rect.unit (s := S768x192) ![0, 0] S768x192.size inb_S768x192_S768x192_0_0).toLoadRect (View.loadsAt_vmem h_S768x192)) >>= fun v492 =>
        Prog.lift (.load f2M (Rect.unit (s := S192x768) ![0, 0] S192x768.size inb_S192x768_S192x768_0_0).toLoadRect (View.loadsAt_vmem h_S192x768)) >>= fun v494 =>
        List.foldr (mlpStep c v71 v72 v73 v77 (k0_pay38 v492) (k0_pay39 v494)) (tail2 c v74) rows) rows) rows

/-- Read a whole weight. -/
def ldW (m : Memref sig .tc .vmem S768x384 .bf16) (K : Vec F S768x384 .bf16 → PR F) : PR F :=
  Prog.lift (.load m (Rect.unit (s := S768x384) ![0, 0] S768x384.size inb_S768x384_S768x384_0_0).toLoadRect (View.loadsAt_vmem h_S768x384)) >>= K

/-- One batch's attention from the three weights. -/
def batchStep (b : Fin 2) (js : List (Fin 16)) (c : Dev nD) (v108 : FVec F S2x512x768 .bf16) (v110 : FVec F S384x768 .bf16) (K : PR F) : PR F :=
  ldW wqM fun wq => ldW wkM fun wk => ldW wvM fun wv =>
  halfStep b v110 (proj b v108 wq) (proj b v108 wk) (proj b v108 wv) <|
  List.foldr (scSend pM aM (Memref.isWhole_whole _) (Memref.isWhole_whole _) 0 c) K js

/-- The work after the barrier. -/
def work (c : Dev nD) : PR F :=
  Prog.lift (.load teM (Rect.unit (s := S2x128) ![0, 0] S2x128.size inb_S2x128_S2x128_0_0).toLoadRect (View.loadsAt_vmem h_S2x128)) >>= fun v64 =>
  Prog.lift (.load wmM (Rect.unit (s := S128x4608) ![0, 0] S128x4608.size inb_S128x4608_S128x4608_0_0).toLoadRect (View.loadsAt_vmem h_S128x4608)) >>= fun v66 =>
  Prog.lift (.load xM (Rect.unit (s := S2x512x768) ![0, 0, 0] S2x512x768.size inb_S2x512x768_S2x512x768_0_0_0).toLoadRect (View.loadsAt_vmem h_S2x512x768)) >>= fun v75 =>
  Prog.lift (.load woM (Rect.unit (s := S384x768) ![0, 0] S384x768.size inb_S384x768_S384x768_0_0).toLoadRect (View.loadsAt_vmem h_S384x768)) >>= fun v109 =>
  batchStep 0 rowsLo c (k0_pay9 (k0_pay2 v64 v66) (k0_pay3 v64 v66) v75) (k0_pay10 v109) <|
  batchStep 1 rowsHi c (k0_pay9 (k0_pay2 v64 v66) (k0_pay3 v64 v66) v75) (k0_pay10 v109) <|
  tail1 c (k0_pay4 v64 v66) (k0_pay5 v64 v66) (k0_pay6 v64 v66) (k0_pay7 v64 v66) (k0_pay8 v75)

/-- The whole body for one device. -/
def bodyAt (c : Dev nD) : PR F :=
  List.foldr (sigStep c) (semWaitWord barS.sem 15#32 >>= fun _ => work c) [0, 1, 2, 3, 4, 5, 6, 7, 8, 9, 10, 11, 12, 13, 14]

/-- The whole body. -/
def flatBody : PR F := Prog.lift .deviceId >>= fun c => bodyAt c

end Cert.KernelIdeal.Run

end
-- ==== Proof.Sched.lean ====
/- The exchange between the sixteen devices as a schedule of payments: every device's barrier cell and its
   128 copy cells, what each payment hands over, and the order the cells are waited in. -/
module

public import proofs.«01_k».proof.Proof.Prog
public import Idealize.ShloMosaic.Lib.Pipeline.Launch
public import Idealize.ShloMosaic.Lib.Pipeline.Kit
public import Idealize.ShloMosaic.Lib.Pipeline.BigSepL
public import Idealize.ShloMosaic.Lib.ShareLeaves
public import Idealize.ShloMosaic.Lib.Memref
public import Idealize.ShloMosaic.Lib.Tactic

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- Every element type has a value. -/
instance eltNonempty (e : EltTy) : Nonempty (Elt F e) := by
  cases e
  case i1 | i4 | i8 | i16 | i32 | i64 => exact ⟨0#_⟩
  all_goals exact ⟨Scalar.ofBits _ 0⟩

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- A copy cell of a device: the array, the phase and the other device. -/
abbrev CI := Fin 4 × Fin 2 × Fin 16

/-- The four arrays of semaphores. -/
def arrS : Fin 4 → DmaSems sig S2x16
  | 0 => scSendA | 1 => scRecvA | 2 => bcSendA | 3 => bcRecvA

abbrev dsem (i : CI) : DmaSem sig := (semA (arrS i.1) i.2.1 i.2.2).sem

/-- Which cell a semaphore is. -/
def ixD (q : DmaSem sig) : Option CI :=
  if 10 ≤ q.val then
    some (Fin.ofNat 4 ((q.val - 10) / 32), Fin.ofNat 2 ((q.val - 10) / 16 % 2), Fin.ofNat 16 ((q.val - 10) % 16))
  else none

theorem ixD_dsem (i : CI) : ixD (dsem i) = some i := by revert i; decide +kernel
theorem dsem_inj {i j : CI} (h : dsem i = dsem j) : i = j :=
  Option.some.inj ((ixD_dsem i).symm.trans ((congrArg ixD h).trans (ixD_dsem j)))

abbrev barCell (c : Dev nD) : GSem nD τ sig := ((c : Thread nD τ), .reg barS.sem)
abbrev dcell (c : Dev nD) (i : CI) : GSem nD τ sig := ((c : Thread nD τ), .dma (dsem i))

/-! ## Rows -/

/-- Row `j` of a buffer of sixteen rows, kept at rank three. -/
abbrev rowS (m : Memref sig .tc .vmem S16x64x768 .bf16) (j : Fin 16) : Memref sig .tc .vmem S1x64x768 .bf16 :=
  m.slice (Rect.unit (s := S16x64x768) ![j.val, 0, 0] S1x64x768.size (rowInb j)) (fun _ => rfl)

/-- A row's credit. -/
abbrev N : ℕ := (rowM aM 0).view.dmaCredit
theorem N_pos : 0 < N := View.dmaCredit_pos _ (by decide)
theorem credit_rowM (m : Memref sig .tc .vmem S16x64x768 .bf16) (j : Fin 16) : (rowM m j).view.dmaCredit = N := rfl
theorem credit_myM (m : Memref sig .tc .vmem S16x64x768 .bf16) (c : Dev nD) : (myM m c).view.dmaCredit = N := rfl

/-- What is scattered, where it arrives, and what is broadcast, by phase. -/
def srcM : Fin 2 → Memref sig .tc .vmem S16x64x768 .bf16 | 0 => pM | 1 => p2M
def accM : Fin 2 → Memref sig .tc .vmem S16x64x768 .bf16 | 0 => aM | 1 => a2M
def redM : Fin 2 → Memref sig .tc .vmem S16x64x768 .bf16 | 0 => bM | 1 => b2M

/-- The sixteenth of the whole share that copy `j` borrows. -/
abbrev leafQ (j : Fin 16) : PosShare TreeShare := ShareLeaves.leaf 4 fullShare j

/-- The rows exchanged have these values: `P ph c j` is what device `c` sends device `j` in phase `ph`, `R ph c` the row it broadcasts. -/
structure Vals (F : FTy → Type) where
  P : Fin 2 → Dev nD → Fin 16 → Vec F S1x64x768 .bf16
  R : Fin 2 → Dev nD → Vec F S1x64x768 .bf16

variable (V : Vals F)

/-- What a device's signal hands: its rows numbered by the device it signals, for that device to fill. -/
def barPay (d : Fin 16) (c : Dev nD) : sProp 𝕄 :=
  iprop((∃ X, owns ((d : Dev nD) : Thread nD τ) (rowS aM c) fullShare X) ∗ (∃ X, owns ((d : Dev nD) : Thread nD τ) (rowS bM c) fullShare X)
    ∗ (∃ X, owns ((d : Dev nD) : Thread nD τ) (rowS a2M c) fullShare X) ∗ (∃ X, owns ((d : Dev nD) : Thread nD τ) (rowS b2M c) fullShare X))

/-- What a copy's payment on cell `i` of device `c` hands. -/
def dmaPay (c : Dev nD) : CI → sProp 𝕄
  | (0, ph, j) => owns (c : Thread nD τ) (rowS (srcM ph) j) fullShare (V.P ph c j)
  | (1, ph, j) => owns (c : Thread nD τ) (rowS (accM ph) j) fullShare (V.P ph (j : Dev nD) c)
  | (2, ph, j) => owns (c : Thread nD τ) (rowS (redM ph) c) (leafQ j) (V.R ph c)
  | (3, ph, j) => owns (c : Thread nD τ) (rowS (redM ph) j) fullShare (V.R ph (j : Dev nD))

instance barPay_storable (d : Fin 16) (c : Dev nD) : BI.Storable (upEmb : UEmb _ 𝕄) (barPay (F := F) d c) := by unfold barPay; infer_instance
instance dmaPay_storable (c : Dev nD) (i : CI) : BI.Storable (upEmb : UEmb _ 𝕄) (dmaPay V c i) := by
  obtain ⟨a, ph, j⟩ := i
  fin_cases a <;> (show BI.Storable _ (owns _ _ _ _)) <;> infer_instance

/-- One round. A barrier cell is paid one unit by every other device; a copy cell a row's credit by the other device
    it is numbered by. -/
def Rd : Rounds.Schedule (GSem nD τ sig) (Fin 16) 𝕄 where
  duties g r := if r = 0 ∧ g.1.2 = .tc then
      match g.2 with
      | .reg s => if s = barS.sem then Finset.univ.erase g.1.1 else ∅
      | .dma q => match ixD q with
        | some i => if i.2.2 = g.1.1 then ∅ else {i.2.2}
        | none => ∅
    else ∅
  unitless _ := False
  amount g _ _ := match g.2 with | .reg _ => 1 | .dma _ => N
  payload g _ d := match g.2 with
    | .reg _ => barPay d g.1.1
    | .dma q => match ixD q with | some i => dmaPay V g.1.1 i | none => iprop(emp)
  amount_pos g _ _ _ := by cases g.2 <;> first | exact Nat.one_pos | exact N_pos

instance Rd_payload_storable (g : GSem nD τ sig) (r : ℕ) (d : Fin 16) : BI.Storable (upEmb : UEmb _ 𝕄) ((Rd V).payload g r d) := by
  show BI.Storable _ (match g.2 with | .reg _ => barPay d g.1.1 | .dma q => match ixD q with | some i => dmaPay V g.1.1 i | none => iprop(emp))
  (repeat' split) <;> infer_instance

theorem duties_bar (c : Dev nD) : (Rd V).duties (barCell c) 0 = Finset.univ.erase c := by
  dsimp only [Rd]; rw [if_pos ⟨rfl, rfl⟩]; exact if_pos rfl
theorem duties_dma (c : Dev nD) (i : CI) : (Rd V).duties (dcell c i) 0 = if i.2.2 = c then ∅ else {i.2.2} := by
  dsimp only [Rd]; rw [if_pos ⟨rfl, rfl⟩, ixD_dsem]
theorem duties_later (g : GSem nD τ sig) : ∀ r, 1 ≤ r → (Rd V).duties g r = ∅ :=
  fun r hr => by dsimp only [Rd]; rw [if_neg fun h => by omega]
theorem duties_none (c : Dev nD) (i : CI) (h : i.2.2 = c) : ∀ r, 0 ≤ r → (Rd V).duties (dcell c i) r = ∅ := fun r _ => by
  rcases Nat.eq_zero_or_pos r with rfl | hr
  · rw [duties_dma, if_pos h]
  · exact duties_later V _ r hr
theorem payload_bar (c : Dev nD) (d : Fin 16) : (Rd V).payload (barCell c) 0 d = barPay d c := rfl
theorem payload_dma (c : Dev nD) (i : CI) (d : Fin 16) : (Rd V).payload (dcell c i) 0 d = dmaPay V c i := by
  dsimp only [Rd]; rw [ixD_dsem]
theorem amount_bar (c : Dev nD) (d : Fin 16) : (Rd V).amount (barCell c) 0 d = 1 := rfl
theorem amount_dma (c : Dev nD) (i : CI) (d : Fin 16) : (Rd V).amount (dcell c i) 0 d = N := rfl
theorem expect_bar (c : Dev nD) : (Rd V).expect (barCell c) 0 = 15 := by
  unfold Schedule.expect Schedule.amountOf
  rw [duties_bar, Finset.sum_congr rfl fun d _ => amount_bar V c d, Finset.sum_const, Finset.card_erase_of_mem (Finset.mem_univ _), Finset.card_univ,
    Fintype.card_fin]; rfl
theorem expect_dma (c : Dev nD) (i : CI) (h : i.2.2 ≠ c) : (Rd V).expect (dcell c i) 0 = N := by
  unfold Schedule.expect Schedule.amountOf; rw [duties_dma, if_neg h, Finset.sum_singleton, amount_dma]
theorem rest_bar (c : Dev nD) : bigSep ((Rd V).duties (barCell c) 0 \ ∅) (fun d => (Rd V).payload (barCell c) 0 d) = bigSep (Finset.univ.erase c) fun d => barPay d c := by
  rw [Finset.sdiff_empty, duties_bar]; rfl
theorem rest_dma (c : Dev nD) (i : CI) (h : i.2.2 ≠ c) :
    bigSep ((Rd V).duties (dcell c i) 0 \ ∅) (fun d => (Rd V).payload (dcell c i) 0 d) = dmaPay V c i := by
  rw [Finset.sdiff_empty, duties_dma, if_neg h, bigSep_singleton, payload_dma]

/-! ## What is owed, and the order -/

/-- A list's dues on top of `B`, the first owed last. -/
def osum {ι : Type} (f : ι → CellTallies nD τ sig Unit) : List ι → CellTallies nD τ sig Unit → CellTallies nD τ sig Unit
  | [], B => B
  | j :: l, B => osum f l B + f j

/-- The device the `k`-th signal of device `c` goes to. -/
def sd (c : Dev nD) (k : Fin 15) : Dev nD := ⟨sigDev c k, sigDev_lt c k⟩
/-- The signals in order. -/
abbrev sigs : List (Fin 15) := [0, 1, 2, 3, 4, 5, 6, 7, 8, 9, 10, 11, 12, 13, 14]
/-- What device `c` owes by its `k`-th signal. -/
def dueB (c : Dev nD) (k : Fin 15) : CellTallies nD τ sig Unit := tallyAt (barCell (sd c k)) () 1
/-- What device `c` owes device `j` by the copy of array `a` and phase `ph`. -/
def dueD (c : Dev nD) (a : Fin 4) (ph : Fin 2) (j : Fin 16) : CellTallies nD τ sig Unit :=
  if j = c then 0 else tallyAt (dcell (j : Dev nD) (a, ph, c)) () N

abbrev O4 (c : Dev nD) : CellTallies nD τ sig Unit := osum (dueD c 3 1) rows 0
abbrev O3 (c : Dev nD) : CellTallies nD τ sig Unit := osum (dueD c 1 1) rows (O4 c)
abbrev O2 (c : Dev nD) : CellTallies nD τ sig Unit := osum (dueD c 3 0) rows (O3 c)
abbrev O1 (c : Dev nD) : CellTallies nD τ sig Unit := osum (dueD c 1 0) rows (O2 c)

abbrev O0 (c : Dev nD) : CellTallies nD τ sig Unit := osum (dueB c) sigs (O1 c)

def L (g : GSem nD τ sig) : Finset Unit := if g.1.2 = .tc then {()} else ∅
/-- Barrier first, then the arrivals in the order of the phases; everything else before. -/
def lvD (q : DmaSem sig) : ℕ := match ixD q with
  | some (1, ph, _) => 2 + 2 * ph.val
  | some (3, ph, _) => 3 + 2 * ph.val
  | _ => 0
def lv (g : GSem nD τ sig) (_ : Unit) : ℕ := match g.2 with
  | .reg _ => 1
  | .dma q => lvD q

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_dma (c : Dev nD) (i : CI) (u : Unit) : lv (dcell c i) u = match i with
  | (1, ph, _) => 2 + 2 * ph.val
  | (3, ph, _) => 3 + 2 * ph.val
  | _ => 0 := by
  show lvD (dsem i) = _
  unfold lvD; rw [ixD_dsem]
  obtain ⟨a, ph, j⟩ := i
  fin_cases a <;> rfl

/-- Every cell owed to is a core's and lies above level `n`. -/
def Above (n : ℕ) (O : CellTallies nD τ sig Unit) : Prop := ∀ g u, 0 < O g u → u ∈ L g ∧ n < lv g u

theorem above_zero (n : ℕ) : Above n 0 := fun g u h => absurd h (Nat.lt_irrefl 0)
theorem above_mono {n n' : ℕ} (h : n' ≤ n) {O : CellTallies nD τ sig Unit} (ha : Above n O) : Above n' O := fun g u hg =>
  ⟨(ha g u hg).1, lt_of_le_of_lt h (ha g u hg).2⟩
theorem above_tally {n : ℕ} (c : Dev nD) (sm : SemLoc sig) (k : ℕ) (h : n < lv ((c : Thread nD τ), sm) ()) :
    Above n (tallyAt ((c : Thread nD τ), sm) () k) := fun g u hg => by
  rw [tallyAt_apply] at hg
  by_cases e : g = ((c : Thread nD τ), sm) ∧ u = ()
  · obtain ⟨rfl, -⟩ := e; exact ⟨by rw [L_tc]; exact Finset.mem_singleton_self _, h⟩
  · rw [if_neg e] at hg; exact absurd hg (Nat.lt_irrefl 0)
theorem above_osum {ι : Type} {n : ℕ} {f : ι → CellTallies nD τ sig Unit} (hf : ∀ j, Above n (f j)) :
    ∀ (l : List ι) {B : CellTallies nD τ sig Unit}, Above n B → Above n (osum f l B)
  | [], B, hB => hB
  | j :: l, B, hB => fun g u hg => by
    have hg' : 0 < osum f l B g u + f j g u := hg
    rcases Nat.eq_zero_or_pos (f j g u) with h0 | h0
    · rw [h0, Nat.add_zero] at hg'; exact above_osum hf l hB g u hg'
    · exact hf j g u h0
theorem above_dueB (c : Dev nD) (k : Fin 15) : Above 0 (dueB c k) := above_tally _ _ _ (Nat.lt_succ_self 0)
theorem above_due1 (c : Dev nD) (ph : Fin 2) (j : Fin 16) : Above (1 + 2 * ph.val) (dueD c 1 ph j) := by
  unfold dueD; split
  · exact above_zero _
  · refine above_tally _ _ _ ?_
    have := lv_dma j (1, ph, c) (); simp only at this; rw [this]; omega
theorem above_due3 (c : Dev nD) (ph : Fin 2) (j : Fin 16) : Above (2 + 2 * ph.val) (dueD c 3 ph j) := by
  unfold dueD; split
  · exact above_zero _
  · refine above_tally _ _ _ ?_
    have := lv_dma j (3, ph, c) (); simp only at this; rw [this]; omega

theorem above_O4 (c : Dev nD) : Above 4 (O4 c) := above_osum (above_due3 c 1) _ (above_zero _)
theorem above_O3 (c : Dev nD) (l : List (Fin 16)) : Above 3 (osum (dueD c 1 1) l (O4 c)) := above_osum (above_due1 c 1) _ (above_mono (by omega) (above_O4 c))
theorem above_O2 (c : Dev nD) : Above 2 (O2 c) := above_osum (above_due3 c 0) _ (above_mono (by omega) (above_O3 c _))
theorem above_O1 (c : Dev nD) : Above 1 (O1 c) := above_osum (above_due1 c 0) _ (above_mono (by omega) (above_O2 c))
theorem above_O0 (c : Dev nD) (l : List (Fin 15)) : Above 0 (osum (dueB c) l (O1 c)) := above_osum (above_dueB c) _ (above_mono (by omega) (above_O1 c))

/-- A cell at level at most `n` may be waited on while only cells above `n` are owed. -/
theorem mayWait (c : Dev nD) (sm : SemLoc sig) (n : ℕ) (h : lv ((c : Thread nD τ), sm) () ≤ n) (O : CellTallies nD τ sig Unit) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1) (fun p hp => by rw [Finset.mem_singleton.mp hp]; exact h) (fun g u hg => (hO g u hg).2)

end Cert.KernelIdeal.Run
-- ==== Proof.Mem.lean ====
/- Owning parts of buffers: rows, sixteenths of a share, loads and stores through a rectangle, and what a row copied onto a row reads. -/
module

public import proofs.«01_k».proof.Proof.Sched

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

abbrev 𝒱₀ : Variants := Variants.none

/-- The program `p` run by device `c` ends in `Q`. -/
abbrev WP (c : Dev nD) (p : PR F) (Q : PUnit → sProp 𝕄) : sProp 𝕄 :=
  wp frame (wpE (defs₀ (F := F)) 𝒱₀ (c : Thread nD τ) none) Set.univ p Q

section Gen

variable (c : Dev nD) {s : Shape} {e : EltTy} (m : Memref sig .tc .vmem s e) (q : PosShare TreeShare)

/-- Owning a memref at `X` is its points-to at any contents that read as `X`. -/
theorem owns_pt {X : s.Idx → Elt F e} (g : m.view.ty.Contents (Elt F)) (hg : m.view.read (Elt F) g = X) :
    (owns (c : Thread nD τ) m q X : sProp 𝕄) = m.view.loc (c : Thread nD τ) ↦[m.view.set]{q} g := by
  have h₁ : (owns (c : Thread nD τ) m q X : sProp 𝕄) ⊢ m.view.loc (c : Thread nD τ) ↦[m.view.set]{q} g := by
    unfold owns
    iintro ⟨%f, %hf, H⟩
    have e : (m.view.loc (c : Thread nD τ) ↦[m.view.set]{q} f : sProp 𝕄) = m.view.loc (c : Thread nD τ) ↦[m.view.set]{q} g :=
      pointsTo_congr fun i hi => by
        rw [View.set, Finset.mem_map] at hi
        obtain ⟨x, -, rfl⟩ := hi
        have := congrFun (hf.trans hg.symm) x
        simp only [View.read] at this
        exact (cast_inj _).mp this
    rw [← e]; iexact H
  exact BI.equiv_iff.mp ⟨h₁, hg ▸ owns_intro (c : Thread nD τ) m q g⟩

/-- Owning a memref is owning it at each of sixteen shares at once. -/
theorem owns_leaves (X : s.Idx → Elt F e) :
    (owns (c : Thread nD τ) m fullShare X : sProp 𝕄) = bigSep (Finset.univ : Finset (Fin 16)) fun j => owns (c : Thread nD τ) m (leafQ j) X := by
  have h₁ : (owns (c : Thread nD τ) m fullShare X : sProp 𝕄) ⊢ bigSep (Finset.univ : Finset (Fin 16)) fun j => owns (c : Thread nD τ) m (leafQ j) X := by
    iintro H
    ihave H' := (show owns (c : Thread nD τ) m fullShare X ⊢ iprop(∃ g, ⌜m.view.read (Elt F) g = X⌝ ∗ m.view.loc (c : Thread nD τ) ↦[m.view.set]{fullShare} g) from .rfl) $$ H
    icases H' with ⟨%f, %hf, H⟩
    have hl := ShareLeaves.pointsTo_leaves (Ix := Unit) (Name := ℕ) (U := UU) (Lvl := ℕ) (ℓ := m.view.loc (c : Thread nD τ)) m.view.set f 4 fullShare
    rw [bigSep_congr fun j _ => owns_pt c m (leafQ j) f hf]
    iapply (Entails.of_eq hl)
    iexact H
  have h₂ : (bigSep (Finset.univ : Finset (Fin 16)) fun j => owns (c : Thread nD τ) m (leafQ j) X) ⊢ (owns (c : Thread nD τ) m fullShare X : sProp 𝕄) := by
    iintro H
    ihave H' := (show (bigSep (Finset.univ : Finset (Fin 16)) fun j => owns (c : Thread nD τ) m (leafQ j) X)
        ⊢ (iprop(owns (c : Thread nD τ) m (leafQ 0) X ∗ bigSep (Finset.univ.erase (0 : Fin 16)) fun j => owns (c : Thread nD τ) m (leafQ j) X) : sProp 𝕄) from
      Entails.of_eq (bigSep_univ_split (0 : Fin 16))) $$ H
    icases H' with ⟨H0, H⟩
    ihave H0' := (show owns (c : Thread nD τ) m (leafQ 0) X ⊢ iprop(∃ g, ⌜m.view.read (Elt F) g = X⌝ ∗ m.view.loc (c : Thread nD τ) ↦[m.view.set]{leafQ 0} g) from .rfl) $$ H0
    icases H0' with ⟨%f, %hf, H0⟩
    have e : (owns (c : Thread nD τ) m fullShare X : sProp 𝕄) = iprop((m.view.loc (c : Thread nD τ) ↦[m.view.set]{leafQ 0} f) ∗
        bigSep (Finset.univ.erase (0 : Fin 16)) fun j => owns (c : Thread nD τ) m (leafQ j) X) := by
      rw [owns_pt c m fullShare f hf]
      refine (ShareLeaves.pointsTo_leaves (ℓ := m.view.loc (c : Thread nD τ)) m.view.set f 4 fullShare).trans ?_
      rw [bigSep_congr (s := Finset.univ.erase (0 : Fin 16)) fun j _ => owns_pt c m (leafQ j) f hf]
      exact bigSep_univ_split (Φ := fun j => (m.view.loc (c : Thread nD τ) ↦[m.view.set]{leafQ j} f : sProp 𝕄)) (0 : Fin 16)
    rw [e]
    isplitl [H0] <;> iassumption
  exact BI.equiv_iff.mp ⟨h₁, h₂⟩

variable {T : Type} [Fintype T] [DecidableEq T]

/-- Owning a rectangle of a memref is owning the rectangles it is cut into. -/
theorem owns_sub (R : Rect s) (hR : ∀ a, R.stride a = 1) (r : T → Rect s) (hr : ∀ t a, (r t).stride a = 1)
    (hd : ∀ t t', t ≠ t' → Disjoint (r t).set (r t').set) (hcov : (Finset.univ : Finset T).biUnion (fun t => (r t).set) = R.set)
    (φ : (t : T) → (r t).shape.Idx → R.shape.Idx) (hφ : ∀ t k, R.emb (φ t k) = (r t).emb k) (X : R.shape.Idx → Elt F e) :
    (owns (c : Thread nD τ) (m.slice R hR) q X : sProp 𝕄) ⊢ bigSep Finset.univ fun t => owns (c : Thread nD τ) (m.slice (r t) (hr t)) q fun k => X (φ t k) := by
  iintro H
  ihave H' := (show owns (c : Thread nD τ) (m.slice R hR) q X ⊢ iprop(∃ g, ⌜(m.slice R hR).view.read (Elt F) g = X⌝ ∗ m.view.loc (c : Thread nD τ) ↦[(m.view.slice R).set]{q} g) from .rfl) $$ H
  icases H' with ⟨%g, %hg, H⟩
  have e : (fun t => (owns (c : Thread nD τ) (m.slice (r t) (hr t)) q fun k => X (φ t k) : sProp 𝕄))
      = fun t => m.view.loc (c : Thread nD τ) ↦[(m.view.slice (r t)).set]{q} g := funext fun t =>
    owns_pt c (m.slice (r t) (hr t)) q g (funext fun k => by
      rw [← hg]
      show m.view.read (Elt F) g ((r t).emb k) = m.view.read (Elt F) g (R.emb (φ t k))
      rw [hφ])
  rw [e]
  have hset : (m.view.slice R).set = (Finset.univ : Finset T).biUnion fun t => (m.view.slice (r t)).set := by
    rw [View.set_slice, ← hcov]
    ext i
    simp only [Finset.mem_map, Finset.mem_biUnion, View.set_slice]
    constructor
    · rintro ⟨x, ⟨t, ht, hx⟩, rfl⟩; exact ⟨t, ht, x, hx, rfl⟩
    · rintro ⟨t, ht, x, hx, rfl⟩; exact ⟨x, ⟨t, ht, hx⟩, rfl⟩
  have hb := pointsTo_biUnion (Ix := Unit) (Name := ℕ) (U := UU) (Lvl := ℕ) (q := q) (f := g) (ℓ := m.view.loc (c : Thread nD τ)) (Finset.univ : Finset T)
    (fun t => (m.view.slice (r t)).set) fun t _ t' _ htt => by
      rw [View.set_slice, View.set_slice]; exact (Finset.disjoint_map _).mpr (hd t t' htt)
  rw [hset]
  iapply (Entails.of_eq hb)
  iexact H

/-! ## Loads and stores through a rectangle -/

variable (r : Rect s) (hr : ∀ a, r.stride a = 1)

theorem wp_ld {hl : m.view.LoadsAt r.toLoadRect} {K : (r.shape.Idx → Elt F e) → PR F} {X : r.shape.Idx → Elt F e} {Q : PUnit → sProp 𝕄} :
    (owns (c : Thread nD τ) (m.slice r hr) q X : sProp 𝕄)
      ⊢ iprop((owns (c : Thread nD τ) (m.slice r hr) q X -∗ WP c (K X) Q) -∗ WP c (Prog.lift (.load m r.toLoadRect hl) >>= K) Q) := by
  simp only [Prog.lift, Prog.bind_op, Prog.bind_ret]
  iintro H Hk
  ihave H' := (show owns (c : Thread nD τ) (m.slice r hr) q X ⊢ iprop(∃ g, ⌜(m.slice r hr).view.read (Elt F) g = X⌝ ∗ (m.access r).loc (c : Thread nD τ) ↦[(m.access r).set]{q} g) from .rfl) $$ H
  icases H' with ⟨%g, %hg, H⟩
  iapply (wp_load_rect 𝒱₀ (c : Thread nD τ) none Set.univ (m := m) (r := r) (Finset.Subset.refl _)) $$ H
  iintro H
  rw [show (m.access r).read (Elt F) g = X from hg]
  iapply Hk
  rw [owns_pt c (m.slice r hr) q g hg]
  iexact H

theorem wp_st {w : r.shape.Idx → Elt F e} {hx : (m.access r).Stores Finset.univ} {hm : Finset.univ = Finset.univ ∨ ∀ a, r.stride a = 1}
    {K : PR F} {X : r.shape.Idx → Elt F e} {Q : PUnit → sProp 𝕄} :
    (owns (c : Thread nD τ) (m.slice r hr) fullShare X : sProp 𝕄)
      ⊢ iprop((owns (c : Thread nD τ) (m.slice r hr) fullShare w -∗ WP c K Q)
        -∗ WP c (Prog.lift (.store m r w Finset.univ hx hm) >>= fun _ => K) Q) := by
  simp only [Prog.lift, Prog.bind_op, Prog.bind_ret]
  iintro H Hk
  ihave H' := (show owns (c : Thread nD τ) (m.slice r hr) fullShare X ⊢ iprop(∃ g, ⌜(m.slice r hr).view.read (Elt F) g = X⌝ ∗ (m.access r).loc (c : Thread nD τ) ↦[(m.access r).set]{fullShare} g) from .rfl) $$ H
  icases H' with ⟨%g, %hg, H⟩
  iapply (wp_store 𝒱₀ (c : Thread nD τ) none Set.univ (m := m) (r := r) (Mk := Finset.univ) (by rw [View.setOn_univ])) $$ H
  iintro H
  iapply Hk
  rw [owns_pt c (m.slice r hr) fullShare ((m.access r).write (Elt F) g w Finset.univ) (View.read_write_univ _ _)]
  iexact H

/-- A load through a rectangle of a memref owned whole reads its part. -/
theorem wp_ldw {hl : m.view.LoadsAt r.toLoadRect} {K : (r.shape.Idx → Elt F e) → PR F} {X : s.Idx → Elt F e} {Q : PUnit → sProp 𝕄} :
    (owns (c : Thread nD τ) m q X : sProp 𝕄)
      ⊢ iprop((owns (c : Thread nD τ) m q X -∗ WP c (K fun k => X (r.emb k)) Q) -∗ WP c (Prog.lift (.load m r.toLoadRect hl) >>= K) Q) := by
  simp only [Prog.lift, Prog.bind_op, Prog.bind_ret]
  iintro H Hk
  ihave H' := (show owns (c : Thread nD τ) m q X ⊢ iprop(∃ g, ⌜m.view.read (Elt F) g = X⌝ ∗ m.view.loc (c : Thread nD τ) ↦[m.view.set]{q} g) from .rfl) $$ H
  icases H' with ⟨%g, %hg, H⟩
  iapply (wp_load_rect 𝒱₀ (c : Thread nD τ) none Set.univ (m := m) (r := r) (View.set_slice_subset _ _)) $$ H
  iintro H
  rw [show (m.access r).read (Elt F) g = fun k => X (r.emb k) from by rw [← hg]; rfl]
  iapply Hk
  rw [owns_pt c m q g hg]
  iexact H

end Gen

/-! ## A row copied onto a row -/

/-- A row's elements are the same at either rank. -/
theorem owns_row (c : Dev nD) (m : Memref sig .tc .vmem S16x64x768 .bf16) (j : Fin 16) (q : PosShare TreeShare) (X : Vec F S1x64x768 .bf16) :
    (owns (c : Thread nD τ) (rowS m j) q X : sProp 𝕄)
      ⊢ iprop(∃ f, ⌜(rowS m j).view.read (Elt F) f = X⌝ ∗ ((rowM m j).view.loc (c : Thread nD τ) ↦[(rowM m j).view.set]{q} f)) := by
  unfold owns
  iintro ⟨%f, %hf, H⟩
  iexists f
  isplitr; · ipureintro; exact hf
  rw [show (rowM m j).view.set = (rowS m j).view.set from View.set_reshape _ _]
  iexact H

theorem row_owns (c : Dev nD) (m : Memref sig .tc .vmem S16x64x768 .bf16) (j : Fin 16) (q : PosShare TreeShare) (X : Vec F S1x64x768 .bf16)
    (f : (rowM m j).view.ty.Contents (Elt F)) (hf : (rowS m j).view.read (Elt F) f = X) :
    ((rowM m j).view.loc (c : Thread nD τ) ↦[(rowM m j).view.set]{q} f : sProp 𝕄) ⊢ owns (c : Thread nD τ) (rowS m j) q X := by
  rw [show (rowM m j).view.set = (rowS m j).view.set from View.set_reshape _ _, owns_pt c (rowS m j) q f hf]

theorem dma_read (d m : Memref sig .tc .vmem S16x64x768 .bf16) (i j : Fin 16) (fd : (rowM d i).view.ty.Contents (Elt F))
    (fs : (rowM m j).view.ty.Contents (Elt F)) :
    (rowS d i).view.read (Elt F) ((rowM d i).view.write (Elt F) fd ((rowM m j).view.read (Elt F) fs) Finset.univ) = (rowS m j).view.read (Elt F) fs := by
  have h := View.read_write_univ (Val := Elt F) (v := (rowM d i).view) fd ((rowM m j).view.read (Elt F) fs)
  funext k
  obtain ⟨k', rfl⟩ := (Shape.reshapeEquiv (s' := S64x768) (s := S1x64x768) squeezes_S1x64x768_S64x768.numel_eq).surjective k
  exact congrFun h k'

theorem myM_eq (m : Memref sig .tc .vmem S16x64x768 .bf16) (c : Dev nD) : myM m c = rowM m c := by
  have h : ∀ (o : Fin 3 → Nat) (ho : ∀ a, o a + S1x64x768.size a ≤ S16x64x768.size a), o = ![c.val, 0, 0] →
      ((m.slice (Rect.unit (s := S16x64x768) o S1x64x768.size ho) (fun _ => rfl)).squeeze S64x768 squeezes_S1x64x768_S64x768 : Memref sig .tc .vmem S64x768 .bf16)
        = rowM m c := by
    rintro o ho rfl; rfl
  exact h _ (myInb c) (myOff_eq c)

theorem mySem_eq (a : DmaSems sig S2x16) (ph : Fin 2) (c : Dev nD) : mySem a ph c = semA a ph c := by
  have h : ∀ (o : Fin 2 → Nat) (ho : ∀ x, o x + S1x1.size x ≤ S2x16.size x), o = ![ph.val, c.val] →
      ((a.slice (Rect.unit (s := S2x16) o S1x1.size ho)).squeeze S_ squeezes_S1x1_S_ : DmaSems sig S_) = semA a ph c := by
    rintro o ho rfl; rfl
  exact h _ (mySInb ph c) (mySOff_eq ph c)

end Cert.KernelIdeal.Run
-- ==== Proof.Steps.lean ====
/- Each step of the body as a rule: what it takes, what it gives, for a symbolic device and row; and the rule for a run of steps. -/
module

public import proofs.«01_k».proof.Proof.Mem

@[expose] public section

set_option maxRecDepth 20000

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (V : Vals F)

/-- All of a device's cells: the barrier's and the copies'. -/
abbrev kcell (ck : Dev nD × Option CI) : GSem nD τ sig := match ck.2 with
  | none => barCell ck.1
  | some i => dcell ck.1 i

variable (K : Dev nD × Option CI → ℕ)

/-- What every device knows throughout: all cells follow the schedule, all are at their round, and the order of the cells. -/
def ctx : sProp 𝕄 :=
  iprop((bigSep Finset.univ fun ck : Dev nD × Option CI => cellInv ER (Rd V) (K ck) (kcell ck))
    ∗ (bigSep Finset.univ fun ck : Dev nD × Option CI => reached ER (kcell ck) 0) ∗ levAts L lv)

instance ctx_persistent : BI.Persistent (ctx V K) := by unfold ctx; infer_instance

theorem ctx_inv (ck : Dev nD × Option CI) : (ctx V K : sProp 𝕄) ⊢ (cellInv ER (Rd V) (K ck) (kcell ck) : sProp 𝕄) := by
  unfold ctx
  iintro ⟨H, -, -⟩
  iapply (show (bigSep Finset.univ fun ck : Dev nD × Option CI => cellInv ER (Rd V) (K ck) (kcell ck)) ⊢ (cellInv ER (Rd V) (K ck) (kcell ck) : sProp 𝕄) from
    bigSep_elim (Finset.mem_univ ck))
  iexact H
theorem ctx_reached (ck : Dev nD × Option CI) : (ctx V K : sProp 𝕄) ⊢ (reached ER (kcell ck) 0 : sProp 𝕄) := by
  unfold ctx
  iintro ⟨-, H, -⟩
  iapply (show (bigSep Finset.univ fun ck : Dev nD × Option CI => reached ER (kcell ck) 0) ⊢ (reached ER (kcell ck) 0 : sProp 𝕄) from
    bigSep_elim (Finset.mem_univ ck))
  iexact H
theorem ctx_lev : (ctx V K : sProp 𝕄) ⊢ (levAts L lv : sProp 𝕄) := by
  unfold ctx
  iintro ⟨-, -, H⟩
  iexact H

theorem ctx_mayWait (c : Dev nD) (sm : SemLoc sig) (n : ℕ) (h : lv ((c : Thread nD τ), sm) () ≤ n) (O : CellTallies nD τ sig Unit) (hO : Above n O) :
    (ctx V K : sProp 𝕄) ⊢ (MayWait (c : Thread nD τ) sm () O : sProp 𝕄) := by
  have h₁ := ctx_lev V K
  have h₂ := mayWait (F := F) c sm n h O hO
  exact BIBase.Entails.trans h₁ h₂

/-- What device `c` owes, whatever it waited for. -/
def owesE (c : Dev nD) (O : CellTallies nD τ sig Unit) : sProp 𝕄 := iprop(∃ W, owes (c : Thread nD τ) O W)

variable (c : Dev nD)

/-! ## A run of steps -/

theorem loop {ι : Type} (s : ι → PR F → PR F) (O : List ι → CellTallies nD τ sig Unit) (todo done : ι → sProp 𝕄) {Q : PUnit → sProp 𝕄}
    (hstep : ∀ (j : ι) (l : List ι) (k : PR F), iprop(ctx V K ∗ owesE c (O (j :: l)) ∗ todo j)
      ⊢ iprop(((owesE c (O l) ∗ done j) -∗ WP c k Q) -∗ WP c (s j k) Q)) (k : PR F) :
    ∀ l : List ι, iprop(ctx V K ∗ owesE c (O l) ∗ bigSepL l todo)
      ⊢ iprop(((owesE c (O []) ∗ bigSepL l done) -∗ WP c k Q) -∗ WP c (l.foldr s k) Q)
  | [] => by
    iintro ⟨-, Ho, H⟩ Hk
    iapply Hk
    isplitl [Ho]; · iexact Ho
    iexact H
  | j :: l => by
    rw [bigSepL_cons', bigSepL_cons', List.foldr_cons]
    iintro ⟨#Hc, Ho, Hj, Hl⟩ Hk
    iapply (hstep j l (l.foldr s k)) $$ [Ho Hj]
    · isplitr; · iexact Hc
      isplitl [Ho] <;> iassumption
    iintro ⟨Ho, Hd⟩
    iapply (loop s O todo done hstep k l) $$ [Ho Hl]
    · isplitr; · iexact Hc
      isplitl [Ho] <;> iassumption
    iintro ⟨Ho, Hds⟩
    iapply Hk
    isplitl [Ho]; · iexact Ho
    isplitl [Hd] <;> iassumption

/-! ## Signals and the barrier -/

theorem wp_sig (k : Fin 15) {O : CellTallies nD τ sig Unit} {p : PR F} {Q : PUnit → sProp 𝕄} (hne : sd c k ≠ c) :
    iprop(ctx V K ∗ owesE c (O + dueB c k) ∗ dutyTok ER (barCell (sd c k)) 0 c ∗ barPay c (sd c k))
      ⊢ iprop((owesE c O -∗ WP c p Q) -∗ WP c (sigStep c k p) Q) := by
  unfold sigStep owesE
  simp only [semSignalWord, Prog.lift, Prog.bind_op, Prog.bind_ret, Prog.pure_eq_ret]
  iintro ⟨#Hc, ⟨%W, Ho⟩, Ht, Hp⟩ Hk
  iapply (Rounds.wp_signal 𝒱₀ ER (Rd V) (c : Thread nD τ) none (dst := (sd c k : Thread nD τ)) (κ := K (sd c k, none))
      (d := c) (by rw [duties_bar]; exact Finset.mem_erase.mpr ⟨fun h => hne h.symm, Finset.mem_univ _⟩)
      ((amount_bar V (sd c k) c).trans (by decide)) () O rfl) $$ [Ho Ht Hp]
  · isplitr; · iapply (ctx_inv V K (sd c k, none)); iexact Hc
    isplitl [Ho]; · iexact Ho
    isplitl [Ht]; · iexact Ht
    isplitl [Hp]; · rw [payload_bar]; iexact Hp
    iapply (ctx_reached V K (sd c k, none)); iexact Hc
  iintro Ho
  iapply Hk
  iexists W; iexact Ho

theorem wp_bar {O : CellTallies nD τ sig Unit} (hO : Above 1 O) {p : PR F} {Q : PUnit → sProp 𝕄} :
    iprop(ctx V K ∗ owesE c O ∗ atPos ER (barCell c) 0 ∅ 0 ∗ cred (tallyAt (barCell c) () 15))
      ⊢ iprop(((owesE c O ∗ semVal (barCell c) 0 ∗ bigSep (Finset.univ.erase c) fun d => barPay d c) -∗ WP c p Q)
        -∗ WP c (semWaitWord barS.sem 15#32 >>= fun _ => p) Q) := by
  unfold owesE
  simp only [semWaitWord, Prog.lift, Prog.bind_op, Prog.bind_ret, Prog.pure_eq_ret]
  iintro ⟨#Hc, ⟨%W, Ho⟩, Ha, Hcr⟩ Hk
  iapply (Rounds.wp_wait_rest_token 𝒱₀ ER (Rd V) (c : Thread nD τ) none (κ := K (c, none))
      (wpE_semWait_eq 𝒱₀ (c : Thread nD τ) none Set.univ) (Set.mem_univ _) () (O := O) (W := W) (R := 0) (m := 0) (T := ∅)
      (by rw [expect_bar]; decide)) $$ [Hcr Ho Ha]
  · isplitr; · iapply (ctx_inv V K (c, none)); iexact Hc
    isplitl [Hcr]; · iexact Hcr
    isplitl [Ho]; · iexact Ho
    isplitr; · iapply (ctx_mayWait V K c (.reg barS.sem) 1 (lv_bar c).le O hO); iexact Hc
    iexact Ha
  iintro ⟨Ho, Ha, -, Hpay⟩
  ihave Hp := (Entails.of_eq (rest_bar V c)) $$ Hpay
  imod (Rounds.cell_close ER (Rd V) (Set.mem_univ (K (c, none))) (fun h => h) (R := 0 + 1) (duties_later V (barCell c))) $$ [Ha] with Hz
  · isplitr; · iapply (ctx_inv V K (c, none)); iexact Hc
    iexact Ha
  iapply Hk
  isplitl [Ho]; · iexists _; iexact Ho
  isplitl [Hz] <;> iassumption

/-! ## Copies -/

theorem ne1_self : ¬ ne1 c c = 1#1 := fun h => (ne1_eq c c).mp h rfl
theorem ne1_other {j : Fin 16} (h : j ≠ c) : ne1 c j = 1#1 := (ne1_eq c j).mpr fun e => h (Fin.ext e.symm)

/-- What a scatter to device `j` needs, and what it leaves. -/
def scIn (ph : Fin 2) (j : Fin 16) : sProp 𝕄 :=
  if j = c then iprop(emp) else iprop(owns (c : Thread nD τ) (rowS (srcM ph) j) fullShare (V.P ph c j)
    ∗ (∃ X, owns ((j : Dev nD) : Thread nD τ) (rowS (accM ph) c) fullShare X)
    ∗ dutyTok ER (dcell c (0, ph, j)) 0 j ∗ dutyTok ER (dcell (j : Dev nD) (1, ph, c)) 0 c)
def scOut (ph : Fin 2) (j : Fin 16) : sProp 𝕄 :=
  if j = c then iprop(emp) else cred (tallyAt (dcell c (0, ph, j)) () N)

/-- What a broadcast to device `j` needs, and what it leaves. -/
def bcIn (ph : Fin 2) (j : Fin 16) : sProp 𝕄 :=
  if j = c then iprop(emp) else iprop(owns (c : Thread nD τ) (rowS (redM ph) c) (leafQ j) (V.R ph c)
    ∗ (∃ X, owns ((j : Dev nD) : Thread nD τ) (rowS (redM ph) c) fullShare X)
    ∗ dutyTok ER (dcell c (2, ph, j)) 0 j ∗ dutyTok ER (dcell (j : Dev nD) (3, ph, c)) 0 c)
def bcOut (ph : Fin 2) (j : Fin 16) : sProp 𝕄 :=
  if j = c then iprop(emp) else cred (tallyAt (dcell c (2, ph, j)) () N)

/-- A copy of row `i` of `src` onto row `c` of `dst` on device `j`. -/
theorem wp_copy (src dst : Memref sig .tc .vmem S16x64x768 .bf16) (i : Fin 16) (a a' : Fin 4) (ph : Fin 2) (j : Fin 16) (hj : j ≠ c)
    (q : PosShare TreeShare) (X : Vec F S1x64x768 .bf16)
    (h₁ : dmaPay V c (a, ph, j) = owns (c : Thread nD τ) (rowS src i) q X)
    (h₂ : dmaPay V (j : Dev nD) (a', ph, c) = owns ((j : Dev nD) : Thread nD τ) (rowS dst c) fullShare X)
    {sm : Memref sig .tc .vmem S64x768 .bf16} (hsm : sm = rowM src i) {dm : Memref sig .tc .vmem S64x768 .bf16} (hdm : dm = rowM dst c)
    {ss sr : DmaSem sig} (hss : ss = dsem (a, ph, j)) (hsr : sr = dsem (a', ph, c))
    {hsc : dm.view.ref.isScScratch = false} {hsrc : sm.view.WordExact} {hdst : dm.view.WordExact}
    {hsem : DmaTarget.Typed .vmem (.dma sr) (.remote (Dev.tc (⟨j.val, j.isLt⟩ : Dev nD) : Thread nD τ) dm (.dma ss) hsc)}
    {O : CellTallies nD τ sig Unit} {p : PR F} {Q : PUnit → sProp 𝕄} :
    iprop(ctx V K ∗ owesE c (O + tallyAt (dcell (j : Dev nD) (a', ph, c)) () N) ∗ owns (c : Thread nD τ) (rowS src i) q X
        ∗ (∃ Y, owns ((j : Dev nD) : Thread nD τ) (rowS dst c) fullShare Y)
        ∗ dutyTok ER (dcell c (a, ph, j)) 0 j ∗ dutyTok ER (dcell (j : Dev nD) (a', ph, c)) 0 c)
      ⊢ iprop(((owesE c O ∗ cred (tallyAt (dcell c (a, ph, j)) () N)) -∗ WP c p Q)
        -∗ WP c (Prog.lift (.enqueueDma sm (.remote (Dev.tc (⟨j.val, j.isLt⟩ : Dev nD)) dm (.dma ss) hsc) (.dma sr) hsrc hdst hsem) >>= fun _ => p) Q) := by
  subst hsm hdm hss hsr
  simp only [Prog.lift, Prog.bind_op, Prog.bind_ret, Prog.pure_eq_ret]
  unfold owesE
  iintro ⟨#Hc, ⟨%W, Ho⟩, Hs, ⟨%Y, Hd⟩, Ht, Ht'⟩ Hk
  ihave Hs' := (owns_row c src i q X) $$ Hs
  icases Hs' with ⟨%fs, %hfs, Hs⟩
  ihave Hd' := (owns_row (j : Dev nD) dst c fullShare Y) $$ Hd
  icases Hd' with ⟨%fd, %hfd, Hd⟩
  iapply (Rounds.wp_send_pointsTo 𝒱₀ ER (Rd V) (c : Thread nD τ) none (c' := ((j : Dev nD) : Thread nD τ)) (src := rowM src i) (dst := rowM dst c)
    (sS := .dma (dsem (a, ph, j))) (sem := .dma (dsem (a', ph, c))) (κ₁ := K (c, some (a, ph, j))) (κ₂ := K ((j : Dev nD), some (a', ph, c)))
    (r₁ := 0) (r₂ := 0) (d₁ := j) (d₂ := c) (fs := fs) (fd := fd)
    (by rw [duties_dma, if_neg hj]; exact Finset.mem_singleton_self _)
    (by rw [duties_dma, if_neg (fun h => hj h.symm)]; exact Finset.mem_singleton_self _)
    () () N (credit_rowM dst c) (amount_dma V c (a, ph, j) j) (amount_dma V (j : Dev nD) (a', ph, c) c) O rfl (W := W)
    (by rw [payload_dma, h₁]; exact row_owns c src i q X fs hfs)
    (by rw [payload_dma, h₂]; exact row_owns (j : Dev nD) dst c fullShare X _ ((dma_read dst src c i fd fs).trans hfs))) $$ [Hs Hd Ho Ht Ht']
  · isplitr; · iapply (ctx_inv V K (c, some (a, ph, j))); iexact Hc
    isplitr; · iapply (ctx_inv V K ((j : Dev nD), some (a', ph, c))); iexact Hc
    isplitl [Hs]; · iexact Hs
    isplitl [Hd]; · iexact Hd
    isplitl [Ho]; · iexact Ho
    isplitl [Ht]; · iexact Ht
    isplitr; · iapply (ctx_reached V K (c, some (a, ph, j))); iexact Hc
    isplitl [Ht']; · iexact Ht'
    iapply (ctx_reached V K ((j : Dev nD), some (a', ph, c))); iexact Hc
  iintro ⟨Hcr, Ho⟩
  iapply Hk
  isplitl [Ho]; · iexists W; iexact Ho
  iexact Hcr

theorem wp_scSend (src dst : Memref sig .tc .vmem S16x64x768 .bf16) (hsrc : src.IsWhole) (hdst : dst.IsWhole) (ph : Fin 2) (j : Fin 16)
    (hs : srcM ph = src) (hd : accM ph = dst) {O : CellTallies nD τ sig Unit} {p : PR F} {Q : PUnit → sProp 𝕄} :
    iprop(ctx V K ∗ owesE c (O + dueD c 1 ph j) ∗ scIn V c ph j)
      ⊢ iprop(((owesE c O ∗ scOut c ph j) -∗ WP c p Q) -∗ WP c (scSend src dst hsrc hdst ph c j p) Q) := by
  unfold scSend scIn scOut dueD
  by_cases hj : j = c
  · rw [if_pos hj, if_pos hj, if_pos hj, dif_neg (hj ▸ ne1_self c), add_zero]
    iintro ⟨#Hc, Ho, -⟩ Hk
    iapply Hk
    isplitl [Ho]; · iexact Ho
    iempintro
  · rw [if_neg hj, if_neg hj, if_neg hj, dif_pos (ne1_other c hj)]
    subst hs hd
    exact wp_copy V K c (srcM ph) (accM ph) j 0 1 ph j hj fullShare (V.P ph c j) rfl rfl rfl (myM_eq _ c) rfl
      (by rw [mySem_eq]; rfl)

theorem wp_bcSend (m : Memref sig .tc .vmem S16x64x768 .bf16) (hm : m.IsWhole) (ph : Fin 2) (j : Fin 16)
    (hs : redM ph = m) {O : CellTallies nD τ sig Unit} {p : PR F} {Q : PUnit → sProp 𝕄} :
    iprop(ctx V K ∗ owesE c (O + dueD c 3 ph j) ∗ bcIn V c ph j)
      ⊢ iprop(((owesE c O ∗ bcOut c ph j) -∗ WP c p Q) -∗ WP c (bcSend m hm ph c j p) Q) := by
  unfold bcSend bcIn bcOut dueD
  by_cases hj : j = c
  · rw [if_pos hj, if_pos hj, if_pos hj, dif_neg (hj ▸ ne1_self c), add_zero]
    iintro ⟨#Hc, Ho, -⟩ Hk
    iapply Hk
    isplitl [Ho]; · iexact Ho
    iempintro
  · rw [if_neg hj, if_neg hj, if_neg hj, dif_pos (ne1_other c hj)]
    subst hs
    exact wp_copy V K c (redM ph) (redM ph) c 2 3 ph j hj (leafQ j) (V.R ph c) rfl rfl (myM_eq _ c) (myM_eq _ c) rfl
      (by rw [mySem_eq]; rfl)

/-! ## Waits -/

/-- What waiting on a copy cell needs, and what it leaves. -/
def wIn (i : CI) : sProp 𝕄 :=
  iprop(atPos ER (dcell c i) 0 ∅ 0 ∗ if i.2.2 = c then iprop(emp) else cred (tallyAt (dcell c i) () N))
def wOut (i : CI) : sProp 𝕄 :=
  iprop((if i.2.2 = c then iprop(emp) else dmaPay V c i) ∗ semVal (dcell c i) 0)

theorem wp_wait (i : CI) (n : ℕ) (hn : lv (dcell c i) () ≤ n) {O : CellTallies nD τ sig Unit} (hO : Above n O)
    {s : DmaSem sig} (hs : s = dsem i) {a b : Memref sig .tc .vmem S64x768 .bf16} (hb : b.view.dmaCredit = N)
    {ha : a.view.WordExact} {hb' : b.view.WordExact} {p : PR F} {Q : PUnit → sProp 𝕄} :
    iprop(ctx V K ∗ owesE c O ∗ wIn c i)
      ⊢ iprop(((owesE c O ∗ wOut V c i) -∗ WP c p Q)
        -∗ WP c (if h : ne1 c i.2.2 = 1#1 then Prog.lift (.waitDma2 s a b ha hb') >>= fun _ => p else p) Q) := by
  subst hs
  unfold wIn wOut
  by_cases hj : i.2.2 = c
  · rw [if_pos hj, if_pos hj, dif_neg (hj ▸ ne1_self c)]
    iintro ⟨#Hc, Ho, Ha, -⟩ Hk
    imod (Rounds.cell_close ER (Rd V) (Set.mem_univ (K (c, some i))) (fun h => h) (R := 0) (duties_none V c i hj)) $$ [Ha] with Hz
    · isplitr; · iapply (ctx_inv V K (c, some i)); iexact Hc
      iexact Ha
    iapply Hk
    isplitl [Ho]; · iexact Ho
    isplitr; · iempintro
    iexact Hz
  · rw [if_neg hj, if_neg hj, dif_pos (ne1_other c hj)]
    unfold owesE
    simp only [Prog.lift, Prog.bind_op, Prog.bind_ret, Prog.pure_eq_ret]
    iintro ⟨#Hc, ⟨%W, Ho⟩, Ha, Hcr⟩ Hk
    iapply (Rounds.wp_wait_rest_token 𝒱₀ ER (Rd V) (c : Thread nD τ) none (κ := K (c, some i))
        (wpE_waitDma2_eq 𝒱₀ (c : Thread nD τ) none Set.univ) (Set.mem_univ _) () (O := O) (W := W) (R := 0) (m := 0) (T := ∅)
        (by rw [Nat.zero_add, expect_dma V c i hj, hb])) $$ [Hcr Ho Ha]
    · isplitr; · iapply (ctx_inv V K (c, some i)); iexact Hc
      isplitl [Hcr]; · rw [hb]; iexact Hcr
      isplitl [Ho]; · iexact Ho
      isplitr; · iapply (ctx_mayWait V K c (.dma (dsem i)) n hn O hO); iexact Hc
      iexact Ha
    iintro ⟨Ho, Ha, -, Hpay⟩
    ihave Hp := (Entails.of_eq (rest_dma V c i hj)) $$ Hpay
    imod (Rounds.cell_close ER (Rd V) (Set.mem_univ (K (c, some i))) (fun h => h) (R := 0 + 1) (duties_later V (dcell c i))) $$ [Ha] with Hz
    · isplitr; · iapply (ctx_inv V K (c, some i)); iexact Hc
      iexact Ha
    iapply Hk
    isplitl [Ho]; · iexists _; iexact Ho
    isplitl [Hp] <;> iassumption

end Cert.KernelIdeal.Run
-- ==== Proof.Loops.lean ====
/- The runs of sixteen steps: the signals, the scatters, the waits, the broadcasts, the feed-forward blocks, the
   result's blocks and the ends of a device's own copies, each as one rule over all the rows. -/
module

public import proofs.«01_k».proof.Proof.Steps

@[expose] public section

set_option maxRecDepth 20000

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (V : Vals F) (K : Dev nD × Option CI → ℕ) (c : Dev nD)

/-! ## Families over the rows -/

/-- For the other rows only. -/
def oth (j : Fin 16) (A : sProp 𝕄) : sProp 𝕄 := if j = c then iprop(emp) else A
/-- For the device's own row only. -/
def slf (j : Fin 16) (A : sProp 𝕄) : sProp 𝕄 := if j = c then A else iprop(emp)

theorem oth_self (A : sProp 𝕄) : oth c c A = iprop(emp) := if_pos rfl
theorem oth_ne {j : Fin 16} (h : j ≠ c) (A : sProp 𝕄) : oth c j A = A := if_neg h
theorem slf_self (A : sProp 𝕄) : slf c c A = A := if_pos rfl
theorem slf_ne {j : Fin 16} (h : j ≠ c) (A : sProp 𝕄) : slf c j A = iprop(emp) := if_neg h

theorem emp_sep_eq (A : sProp 𝕄) : iprop(emp ∗ A) = A := BI.equiv_iff.mp BI.emp_sep
theorem sep_emp_eq (A : sProp 𝕄) : iprop(A ∗ emp) = A := BI.equiv_iff.mp BI.sep_emp
theorem sep_comm_eq (A B : sProp 𝕄) : iprop(A ∗ B) = iprop(B ∗ A) := BI.equiv_iff.mp ⟨BI.sep_comm, BI.sep_comm⟩

theorem slf_oth (j : Fin 16) (A : sProp 𝕄) : iprop(slf c j A ∗ oth c j A) = A := by
  by_cases h : j = c
  · subst h; rw [slf_self, oth_self, sep_emp_eq]
  · rw [slf_ne c h, oth_ne c h, emp_sep_eq]

theorem bigSepL_emp : ∀ l : List (Fin 16), (bigSepL l fun _ => (iprop(emp) : sProp 𝕄)) = iprop(emp)
  | [] => rfl
  | j :: l => by rw [bigSepL_cons', bigSepL_emp l]; exact emp_sep_eq _

/-- Over all sixteen rows. -/
abbrev BR (Φ : Fin 16 → sProp 𝕄) : sProp 𝕄 := bigSepL rows Φ

theorem BR_eq (Φ : Fin 16 → sProp 𝕄) : BR Φ = bigSep (Finset.univ : Finset (Fin 16)) Φ :=
  (bigSep_univ_eq_bigSepL rows (by decide) (by decide) Φ).symm
theorem BR_sep (Φ Ψ : Fin 16 → sProp 𝕄) : BR (fun j => iprop(Φ j ∗ Ψ j)) = iprop(BR Φ ∗ BR Ψ) := by
  rw [BR_eq, BR_eq, BR_eq]; exact BI.bigSep_sep _ _ _
theorem BR_mono {Φ Ψ : Fin 16 → sProp 𝕄} (h : ∀ j, Φ j ⊢ Ψ j) : BR Φ ⊢ BR Ψ := bigSepL_mono fun j _ => h j
theorem BR_congr {Φ Ψ : Fin 16 → sProp 𝕄} (h : ∀ j, Φ j = Ψ j) : BR Φ = BR Ψ := by rw [show Φ = Ψ from funext h]

theorem BR_oth (Φ : Fin 16 → sProp 𝕄) : BR (fun j => oth c j (Φ j)) = bigSep (Finset.univ.erase c) Φ := by
  rw [BR_eq]
  refine (bigSep_univ_split (Φ := fun j => oth c j (Φ j)) c).trans ?_
  rw [show oth c c (Φ c) = (iprop(emp) : sProp 𝕄) from oth_self c _]
  refine (emp_sep_eq _).trans ?_
  exact bigSep_congr fun j hj => oth_ne c (Finset.ne_of_mem_erase hj) _

/-- The device's own row apart. -/
theorem BR_pull (Φ : Fin 16 → sProp 𝕄) : BR Φ = iprop(Φ c ∗ BR fun j => oth c j (Φ j)) := by
  rw [BR_oth, BR_eq]; exact bigSep_univ_split c
theorem BR_slf (Φ : Fin 16 → sProp 𝕄) : BR (fun j => slf c j (Φ j)) = Φ c := by
  rw [BR_pull c, slf_self, show (fun j => oth c j (slf c j (Φ j))) = fun j => (iprop(emp) : sProp 𝕄) from funext fun j => by
    by_cases h : j = c
    · subst h; exact oth_self _ _
    · rw [oth_ne c h, slf_ne c h]]
  rw [BR, bigSepL_emp, sep_emp_eq]
theorem BR_lohi (Φ : Fin 16 → sProp 𝕄) : BR Φ = iprop(bigSepL rowsLo Φ ∗ bigSepL rowsHi Φ) := bigSepL_append rowsLo rowsHi Φ

/-! ## What the steps hold -/

/-- Row `j` of `m` on device `c`. -/
abbrev row (m : Memref sig .tc .vmem S16x64x768 .bf16) (j : Fin 16) (q : PosShare TreeShare) (X : Vec F S1x64x768 .bf16) : sProp 𝕄 :=
  owns (c : Thread nD τ) (rowS m j) q X
/-- The same at some contents. -/
abbrev rowE (m : Memref sig .tc .vmem S16x64x768 .bf16) (j : Fin 16) : sProp 𝕄 := iprop(∃ X, row (F := F) c m j fullShare X)
/-- Row `c` of `m` on device `j`, at some contents. -/
abbrev dstE (m : Memref sig .tc .vmem S16x64x768 .bf16) (j : Fin 16) : sProp 𝕄 :=
  iprop(∃ X, owns (Val := Elt F) ((j : Dev nD) : Thread nD τ) (rowS m c) fullShare X)
/-- The two payments of a copy to device `j`, from array `a` onto array `a'`. -/
abbrev toks (a a' : Fin 4) (ph : Fin 2) (j : Fin 16) : sProp 𝕄 :=
  iprop(dutyTok ER (dcell c (a, ph, j)) 0 j ∗ dutyTok ER (dcell (j : Dev nD) (a', ph, c)) 0 c)
/-- Being at the one round of a copy cell. -/
abbrev at0 (i : CI) : sProp 𝕄 := atPos ER (dcell c i) 0 ∅ 0
/-- A copy cell at its end. -/
abbrev z (i : CI) : sProp 𝕄 := semVal (dcell c i) 0
abbrev x1S (j : Fin 16) : Memref sig .tc .vmem S64x768 .f32 :=
  x1M.slice (Rect.unit (s := S1024x768) ![64 * j.val, 0] S64x768.size (x1Inb j)) (fun _ => rfl)
abbrev outS (j : Fin 16) : Memref sig .tc .vmem S1x64x768 .f32 :=
  outM.slice (Rect.unit (s := S2x512x768) ![j.val / 8, 64 * (j.val % 8), 0] S1x64x768.size (outInb j)) (fun _ => rfl)
abbrev x1B (j : Fin 16) (X : Vec F S64x768 .f32) : sProp 𝕄 := owns (c : Thread nD τ) (x1S j) fullShare X
abbrev outB (j : Fin 16) (X : Vec F S1x64x768 .f32) : sProp 𝕄 := owns (c : Thread nD τ) (outS j) fullShare X

/-- After a scatter: the own row kept, of the others the copies' credit. -/
def scDone (ph : Fin 2) (j : Fin 16) : sProp 𝕄 :=
  if j = c then row c (srcM ph) j fullShare (V.P ph c j) else cred (tallyAt (dcell c (0, ph, j)) () N)
def scTodo (ph : Fin 2) (j : Fin 16) : sProp 𝕄 :=
  iprop(row c (srcM ph) j fullShare (V.P ph c j) ∗ oth c j (dstE (F := F) c (accM ph) j) ∗ oth c j (toks c 0 1 ph j))
/-- After a broadcast likewise. -/
def bcDone (ph : Fin 2) (j : Fin 16) : sProp 𝕄 :=
  if j = c then row c (redM ph) c (leafQ c) (V.R ph c) else cred (tallyAt (dcell c (2, ph, j)) () N)
def bcTodo (ph : Fin 2) (j : Fin 16) : sProp 𝕄 :=
  iprop(row c (redM ph) c (leafQ j) (V.R ph c) ∗ oth c j (dstE (F := F) c (redM ph) j) ∗ oth c j (toks c 2 3 ph j))
/-- The share of a broadcast row that is held while it is read. -/
def rq (j : Fin 16) : PosShare TreeShare := if j = c then leafQ c else fullShare
/-- A broadcast row once it has come. -/
abbrev rowR (ph : Fin 2) (j : Fin 16) : sProp 𝕄 := row c (redM ph) j (rq c j) (V.R ph (j : Dev nD))

theorem wIn_eq (i : CI) : (wIn c i : sProp 𝕄) = iprop(at0 c i ∗ oth c i.2.2 (cred (tallyAt (dcell c i) () N))) := rfl
theorem wOut_eq (i : CI) : (wOut V c i : sProp 𝕄) = iprop(oth c i.2.2 (dmaPay V c i) ∗ z c i) := rfl

/-! ## The steps -/

section Steps

theorem st_scat (src dst : Memref sig .tc .vmem S16x64x768 .bf16) (hsrc : src.IsWhole) (hdst : dst.IsWhole) (ph : Fin 2)
    (hs : srcM ph = src) (hd : accM ph = dst) (O : CellTallies nD τ sig Unit) (j : Fin 16) (p : PR F) {Q : PUnit → sProp 𝕄} :
    iprop(ctx V K ∗ owesE c (O + dueD c 1 ph j) ∗ scTodo V c ph j)
      ⊢ iprop(((owesE c O ∗ scDone V c ph j) -∗ WP c p Q) -∗ WP c (scSend src dst hsrc hdst ph c j p) Q) := by
  have hw := wp_scSend V K c src dst hsrc hdst ph j hs hd (O := O) (p := p) (Q := Q)
  unfold scTodo scDone
  unfold scIn scOut at hw
  by_cases h : j = c
  · rw [if_pos h] at hw ⊢
    rw [if_pos h] at hw
    iintro ⟨#Hc, Ho, Hr, -, -⟩ Hk
    iapply hw $$ [Ho]
    · isplitr; · iexact Hc
      isplitl [Ho]; · iexact Ho
      iempintro
    iintro ⟨Ho, -⟩
    iapply Hk
    isplitl [Ho] <;> iassumption
  · rw [if_neg h] at hw ⊢
    rw [if_neg h] at hw
    rw [oth_ne c h, oth_ne c h]
    iintro ⟨#Hc, Ho, Hr, Hd, Ht⟩ Hk
    iapply hw $$ [Ho Hr Hd Ht]
    · isplitr; · iexact Hc
      isplitl [Ho]; · iexact Ho
      isplitl [Hr]; · iexact Hr
      isplitl [Hd] <;> iassumption
    iexact Hk

theorem st_bc (m : Memref sig .tc .vmem S16x64x768 .bf16) (hm : m.IsWhole) (ph : Fin 2)
    (hs : redM ph = m) (O : CellTallies nD τ sig Unit) (j : Fin 16) (p : PR F) {Q : PUnit → sProp 𝕄} :
    iprop(ctx V K ∗ owesE c (O + dueD c 3 ph j) ∗ bcTodo V c ph j)
      ⊢ iprop(((owesE c O ∗ bcDone V c ph j) -∗ WP c p Q) -∗ WP c (bcSend m hm ph c j p) Q) := by
  have hw := wp_bcSend V K c m hm ph j hs (O := O) (p := p) (Q := Q)
  unfold bcTodo bcDone
  unfold bcIn bcOut at hw
  by_cases h : j = c
  · rw [if_pos h] at hw ⊢
    rw [if_pos h] at hw
    subst h
    iintro ⟨#Hc, Ho, Hr, -, -⟩ Hk
    iapply hw $$ [Ho]
    · isplitr; · iexact Hc
      isplitl [Ho]; · iexact Ho
      iempintro
    iintro ⟨Ho, -⟩
    iapply Hk
    isplitl [Ho] <;> iassumption
  · rw [if_neg h] at hw ⊢
    rw [if_neg h] at hw
    rw [oth_ne c h, oth_ne c h]
    iintro ⟨#Hc, Ho, Hr, Hd, Ht⟩ Hk
    iapply hw $$ [Ho Hr Hd Ht]
    · isplitr; · iexact Hc
      isplitl [Ho]; · iexact Ho
      isplitl [Hr]; · iexact Hr
      isplitl [Hd] <;> iassumption
    iexact Hk

/-- A scattered row waited for. -/
theorem st_recv (m : Memref sig .tc .vmem S16x64x768 .bf16) (hm : m.IsWhole) (ph : Fin 2) (hs : accM ph = m)
    (n : ℕ) (hn : ∀ j, lv (dcell c (1, ph, j)) () ≤ n) {O : CellTallies nD τ sig Unit} (hO : Above n O) (j : Fin 16) (p : PR F) {Q : PUnit → sProp 𝕄} :
    iprop(ctx V K ∗ owesE c O ∗ wIn c (1, ph, j) ∗ slf c j (row c (accM ph) j fullShare (V.P ph (j : Dev nD) c)))
      ⊢ iprop(((owesE c O ∗ row c (accM ph) j fullShare (V.P ph (j : Dev nD) c) ∗ z c (1, ph, j)) -∗ WP c p Q)
        -∗ WP c (rcvWait scRecvA m hm ph c j p) Q) := by
  have hw := wp_wait V K c (1, ph, j) n (hn j) (O := O) hO (s := (semA scRecvA ph j).sem) rfl (a := rowM m j) (b := rowM m j) (credit_rowM m j)
    (ha := (hm.wordExact_slice rfl _ (rowWords j)).reshape _ _) (hb' := (hm.wordExact_slice rfl _ (rowWords j)).reshape _ _) (p := p) (Q := Q)
  rw [wOut_eq] at hw
  unfold rcvWait
  iintro ⟨#Hc, Ho, Hw, Hr⟩ Hk
  iapply hw $$ [Ho Hw]
  · isplitr; · iexact Hc
    isplitl [Ho] <;> iassumption
  iintro ⟨Ho, Hp, Hz⟩
  iapply Hk
  isplitl [Ho]; · iexact Ho
  isplitl [Hr Hp]
  · iapply (Entails.of_eq (slf_oth c j (row c (accM ph) j fullShare (V.P ph (j : Dev nD) c))))
    isplitl [Hr]; · iexact Hr
    iexact Hp
  iexact Hz

/-- A broadcast row waited for. -/
theorem st_brecv (m : Memref sig .tc .vmem S16x64x768 .bf16) (hm : m.IsWhole) (ph : Fin 2) (hs : redM ph = m)
    (n : ℕ) (hn : ∀ j, lv (dcell c (3, ph, j)) () ≤ n) {O : CellTallies nD τ sig Unit} (hO : Above n O) (j : Fin 16) (p : PR F) {Q : PUnit → sProp 𝕄} :
    iprop(ctx V K ∗ owesE c O ∗ wIn c (3, ph, j) ∗ slf c j (row c (redM ph) c (leafQ c) (V.R ph c)))
      ⊢ iprop(((owesE c O ∗ rowR V c ph j ∗ z c (3, ph, j)) -∗ WP c p Q)
        -∗ WP c (rcvWait bcRecvA m hm ph c j p) Q) := by
  have hw := wp_wait V K c (3, ph, j) n (hn j) (O := O) hO (s := (semA bcRecvA ph j).sem) rfl (a := rowM m j) (b := rowM m j) (credit_rowM m j)
    (ha := (hm.wordExact_slice rfl _ (rowWords j)).reshape _ _) (hb' := (hm.wordExact_slice rfl _ (rowWords j)).reshape _ _) (p := p) (Q := Q)
  rw [wOut_eq] at hw
  unfold rcvWait
  iintro ⟨#Hc, Ho, Hw, Hr⟩ Hk
  iapply hw $$ [Ho Hw]
  · isplitr; · iexact Hc
    isplitl [Ho] <;> iassumption
  iintro ⟨Ho, Hp, Hz⟩
  iapply Hk
  isplitl [Ho]; · iexact Ho
  isplitl [Hr Hp]
  · have he : iprop(slf c j (row c (redM ph) c (leafQ c) (V.R ph c)) ∗ oth c j (dmaPay V c (3, ph, j))) ⊢ (rowR V c ph j : sProp 𝕄) := by
      by_cases h : j = c
      · subst h
        rw [slf_self, show oth j (3, ph, j).2.2 (dmaPay V j (3, ph, j)) = (iprop(emp) : sProp 𝕄) from oth_self _ _, sep_emp_eq]
        unfold rowR rq; rw [if_pos rfl]
      · rw [slf_ne c h, oth_ne c h, emp_sep_eq]
        unfold rowR rq; rw [if_neg h]; exact .rfl
    iapply he
    isplitl [Hr] <;> iassumption
  iexact Hz

/-- The end of a scatter's copy. -/
theorem st_scDrain (src dst : Memref sig .tc .vmem S16x64x768 .bf16) (hsrc : src.IsWhole) (hdst : dst.IsWhole) (ph : Fin 2) (hs : srcM ph = src)
    (j : Fin 16) (p : PR F) {Q : PUnit → sProp 𝕄} :
    iprop(ctx V K ∗ owesE c 0 ∗ at0 c (0, ph, j) ∗ scDone V c ph j)
      ⊢ iprop(((owesE c 0 ∗ row c (srcM ph) j fullShare (V.P ph c j) ∗ z c (0, ph, j)) -∗ WP c p Q)
        -∗ WP c (scDrain src dst hsrc hdst ph c j p) Q) := by
  have hw := wp_wait V K c (0, ph, j) (lv (dcell c (0, ph, j)) ()) le_rfl (O := 0) (above_zero _) (s := (semA scSendA ph j).sem) rfl (a := myM dst c) (b := rowM src j) (credit_rowM src j)
    (ha := (hdst.wordExact_slice rfl _ (myWords c)).reshape _ _) (hb' := (hsrc.wordExact_slice rfl _ (rowWords j)).reshape _ _) (p := p) (Q := Q)
  rw [wOut_eq, wIn_eq] at hw
  unfold scDrain scDone
  by_cases h : j = c
  · rw [if_pos h]
    rw [show oth c (0, ph, j).2.2 (dmaPay V c (0, ph, j)) = (iprop(emp) : sProp 𝕄) from if_pos h,
      show oth c (0, ph, j).2.2 (cred (tallyAt (dcell c (0, ph, j)) () N)) = (iprop(emp) : sProp 𝕄) from if_pos h] at hw
    iintro ⟨#Hc, Ho, Ha, Hr⟩ Hk
    iapply hw $$ [Ho Ha]
    · isplitr; · iexact Hc
      isplitl [Ho]; · iexact Ho
      isplitl [Ha]; · iexact Ha
      iempintro
    iintro ⟨Ho, -, Hz⟩
    iapply Hk
    isplitl [Ho]; · iexact Ho
    isplitl [Hr] <;> iassumption
  · rw [if_neg h]
    rw [show oth c (0, ph, j).2.2 (dmaPay V c (0, ph, j)) = (dmaPay V c (0, ph, j) : sProp 𝕄) from if_neg h,
      show oth c (0, ph, j).2.2 (cred (tallyAt (dcell c (0, ph, j)) () N)) = (cred (tallyAt (dcell c (0, ph, j)) () N) : sProp 𝕄) from if_neg h] at hw
    iintro ⟨#Hc, Ho, Ha, Hr⟩ Hk
    iapply hw $$ [Ho Ha Hr]
    · isplitr; · iexact Hc
      isplitl [Ho]; · iexact Ho
      isplitl [Ha] <;> iassumption
    iexact Hk

/-- The end of a broadcast's copy. -/
theorem st_bcDrain (m : Memref sig .tc .vmem S16x64x768 .bf16) (hm : m.IsWhole) (ph : Fin 2) (j : Fin 16) (p : PR F) {Q : PUnit → sProp 𝕄} :
    iprop(ctx V K ∗ owesE c 0 ∗ wIn c (2, ph, j))
      ⊢ iprop(((owesE c 0 ∗ wOut V c (2, ph, j)) -∗ WP c p Q) -∗ WP c (bcDrain m hm ph c j p) Q) :=
  wp_wait V K c (2, ph, j) (lv (dcell c (2, ph, j)) ()) le_rfl (O := 0) (above_zero _) (s := (semA bcSendA ph j).sem) rfl (a := myM m c) (b := myM m c) (credit_myM m c)
    (ha := (hm.wordExact_slice rfl _ (myWords c)).reshape _ _) (hb' := (hm.wordExact_slice rfl _ (myWords c)).reshape _ _) (p := p) (Q := Q)

/-- One block of the feed-forward layer: what it takes and gives. -/
def mlpTodo (j : Fin 16) : sProp 𝕄 :=
  iprop(wIn c (3, 0, j) ∗ slf c j (row c (redM 0) c (leafQ c) (V.R 0 c)) ∗ (∃ X, x1B (F := F) c j X) ∗ rowE (F := F) c (srcM 1) j
    ∗ oth c j (dstE (F := F) c (accM 1) j) ∗ oth c j (toks c 0 1 1 j))
def mlpDone (X1 : Fin 16 → Vec F S64x768 .f32) (j : Fin 16) : sProp 𝕄 :=
  iprop(rowR V c 0 j ∗ z c (3, 0, j) ∗ x1B c j (X1 j) ∗ scDone V c 1 j)

theorem st_mlp (v71 v72 v73 : FVec F S2x768 .f32) (v77 : FVec F S1024x768 .bf16) (v493 : FVec F S768x192 .bf16) (v495 : FVec F S192x768 .bf16)
    (X1 : Fin 16 → Vec F S64x768 .f32) (hX : ∀ j : Fin 16, X1 j = x1Pay j v71 v77 (V.R 0 (j : Dev nD)))
    (hP : ∀ j : Fin 16, V.P 1 c j = mlpPay j v71 v72 v73 v77 v493 v495 (V.R 0 (j : Dev nD)))
    {O : CellTallies nD τ sig Unit} (j : Fin 16) (hO : Above 3 (O + dueD c 1 1 j)) (hn : ∀ j, lv (dcell c (3, 0, j)) () ≤ 3) (p : PR F) {Q : PUnit → sProp 𝕄} :
    iprop(ctx V K ∗ owesE c (O + dueD c 1 1 j) ∗ mlpTodo V c j)
      ⊢ iprop(((owesE c O ∗ mlpDone V c X1 j) -∗ WP c p Q) -∗ WP c (mlpStep c v71 v72 v73 v77 v493 v495 j p) Q) := by
  unfold mlpTodo mlpDone mlpStep ldRow stRow
  rw [hX j]
  iintro ⟨#Hc, Ho, Hw, Hs, ⟨%X, Hx⟩, ⟨%Y, Hp⟩, Hd, Ht⟩ Hk
  iapply (st_brecv V K c bM (Memref.isWhole_whole _) 0 rfl 3 hn hO j _) $$ [Ho Hw Hs]
  · isplitr; · iexact Hc
    isplitl [Ho]; · iexact Ho
    isplitl [Hw] <;> iassumption
  iintro ⟨Ho, Hr, Hz⟩
  iapply (wp_ld c bM (rq c j) (Rect.unit (s := S16x64x768) ![j.val, 0, 0] S1x64x768.size (rowInb j)) (fun _ => rfl) (X := V.R 0 (j : Dev nD))) $$ [Hr]
  · iexact Hr
  iintro Hr
  iapply (wp_ld c x1M fullShare (Rect.unit (s := S1024x768) ![64 * j.val, 0] S64x768.size (x1Inb j)) (fun _ => rfl) (X := X)) $$ Hx
  iintro Hx
  iapply (wp_st c x1M (Rect.unit (s := S1024x768) ![64 * j.val, 0] S64x768.size (x1Inb j)) (fun _ => rfl) (X := X)) $$ Hx
  iintro Hx
  iapply (wp_ld c p2M fullShare (Rect.unit (s := S16x64x768) ![j.val, 0, 0] S1x64x768.size (rowInb j)) (fun _ => rfl) (X := Y)) $$ [Hp]
  · iexact Hp
  iintro Hp
  iapply (wp_st c p2M (Rect.unit (s := S16x64x768) ![j.val, 0, 0] S1x64x768.size (rowInb j)) (fun _ => rfl) (X := Y)) $$ Hp
  iintro Hp
  iapply (st_scat V K c p2M a2M (Memref.isWhole_whole _) (Memref.isWhole_whole _) 1 rfl rfl O j p) $$ [Ho Hp Hd Ht]
  · isplitr; · iexact Hc
    isplitl [Ho]; · iexact Ho
    unfold scTodo
    isplitl [Hp]; · rw [hP j]; iexact Hp
    isplitl [Hd] <;> iassumption
  iintro ⟨Ho, Hd⟩
  iapply Hk
  isplitl [Ho]; · iexact Ho
  isplitl [Hr]; · iexact Hr
  isplitl [Hz]; · iexact Hz
  isplitl [Hx] <;> iassumption

/-- One block of the result: what it takes and gives. -/
def outTodo (X1 : Fin 16 → Vec F S64x768 .f32) (j : Fin 16) : sProp 𝕄 :=
  iprop(wIn c (3, 1, j) ∗ slf c j (row c (redM 1) c (leafQ c) (V.R 1 c)) ∗ x1B c j (X1 j) ∗ (∃ X, outB (F := F) c j X))
def outDone (X1 : Fin 16 → Vec F S64x768 .f32) (Y : Fin 16 → Vec F S1x64x768 .f32) (j : Fin 16) : sProp 𝕄 :=
  iprop(rowR V c 1 j ∗ z c (3, 1, j) ∗ x1B c j (X1 j) ∗ outB c j (Y j))

theorem st_out (v74 : FVec F S2x768 .f32) (X1 : Fin 16 → Vec F S64x768 .f32) (Y : Fin 16 → Vec F S1x64x768 .f32)
    (hY : ∀ j : Fin 16, Y j = outPay j v74 (X1 j) (V.R 1 (j : Dev nD))) (j : Fin 16) (hn : ∀ j, lv (dcell c (3, 1, j)) () ≤ 5) (p : PR F) {Q : PUnit → sProp 𝕄} :
    iprop(ctx V K ∗ owesE c 0 ∗ outTodo V c X1 j)
      ⊢ iprop(((owesE c 0 ∗ outDone V c X1 Y j) -∗ WP c p Q) -∗ WP c (outStep c v74 j p) Q) := by
  unfold outTodo outDone outStep ldRow
  rw [hY j]
  iintro ⟨#Hc, Ho, Hw, Hs, Hx, ⟨%X, Hy⟩⟩ Hk
  iapply (st_brecv V K c b2M (Memref.isWhole_whole _) 1 rfl 5 hn (above_zero _) j _) $$ [Ho Hw Hs]
  · isplitr; · iexact Hc
    isplitl [Ho]; · iexact Ho
    isplitl [Hw] <;> iassumption
  iintro ⟨Ho, Hr, Hz⟩
  iapply (wp_ld c x1M fullShare (Rect.unit (s := S1024x768) ![64 * j.val, 0] S64x768.size (x1Inb j)) (fun _ => rfl) (X := X1 j)) $$ Hx
  iintro Hx
  iapply (wp_ld c b2M (rq c j) (Rect.unit (s := S16x64x768) ![j.val, 0, 0] S1x64x768.size (rowInb j)) (fun _ => rfl) (X := V.R 1 (j : Dev nD))) $$ [Hr]
  · iexact Hr
  iintro Hr
  iapply (wp_ld c outM fullShare (Rect.unit (s := S2x512x768) ![j.val / 8, 64 * (j.val % 8), 0] S1x64x768.size (outInb j)) (fun _ => rfl) (X := X)) $$ Hy
  iintro Hy
  iapply (wp_st c outM (Rect.unit (s := S2x512x768) ![j.val / 8, 64 * (j.val % 8), 0] S1x64x768.size (outInb j)) (fun _ => rfl) (X := X)) $$ Hy
  iintro Hy
  iapply Hk
  isplitl [Ho]; · iexact Ho
  isplitl [Hr]; · iexact Hr
  isplitl [Hz]; · iexact Hz
  isplitl [Hx] <;> iassumption

end Steps

end Cert.KernelIdeal.Run
-- ==== Proof.Parts.lean ====
/- Buffers cut into their rows and blocks and put together again, and the accesses of the body to them. -/
module

public import proofs.«01_k».proof.Proof.Loops

@[expose] public section

set_option maxRecDepth 20000

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Indices -/

/-- An index of rank two, -/
def mk2 {a b : ℕ} (i : Fin a) (j : Fin b) : (⟨2, ![a, b]⟩ : Shape).Idx
  | 0 => i
  | 1 => j
/-- of rank three. -/
def mk3 {a b c : ℕ} (i : Fin a) (j : Fin b) (k : Fin c) : (⟨3, ![a, b, c]⟩ : Shape).Idx
  | 0 => i
  | 1 => j
  | 2 => k

theorem ext2 {a b : ℕ} {x y : (⟨2, ![a, b]⟩ : Shape).Idx} (h₀ : (x 0).val = (y 0).val) (h₁ : (x 1).val = (y 1).val) : x = y := by
  funext t
  match t with
  | 0 => exact Fin.ext h₀
  | 1 => exact Fin.ext h₁
theorem ext3 {a b c : ℕ} {x y : (⟨3, ![a, b, c]⟩ : Shape).Idx} (h₀ : (x 0).val = (y 0).val) (h₁ : (x 1).val = (y 1).val)
    (h₂ : (x 2).val = (y 2).val) : x = y := by
  funext t
  match t with
  | 0 => exact Fin.ext h₀
  | 1 => exact Fin.ext h₁
  | 2 => exact Fin.ext h₂

theorem emb_unit {s : Shape} (off size : Fin s.rank → Nat) (inb : ∀ a, off a + size a ≤ s.size a) (k : (Rect.unit off size inb).shape.Idx) (a : Fin s.rank) :
    ((Rect.unit off size inb).emb k a).val = off a + (k a).val := by
  have h : ((Rect.unit off size inb).emb k a).val = off a + 1 * (k a).val := rfl
  rw [h, Nat.one_mul]

/-! ## The rectangles -/

abbrev rowRect (j : Fin 16) : Rect S16x64x768 := Rect.unit (s := S16x64x768) ![j.val, 0, 0] S1x64x768.size (rowInb j)
abbrev eightRect (b : Fin 2) : Rect S16x64x768 := Rect.unit (s := S16x64x768) ![8 * b.val, 0, 0] S8x64x768.size (eightInb b)
abbrev x1Rect (j : Fin 16) : Rect S1024x768 := Rect.unit (s := S1024x768) ![64 * j.val, 0] S64x768.size (x1Inb j)
abbrev outRect (j : Fin 16) : Rect S2x512x768 := Rect.unit (s := S2x512x768) ![j.val / 8, 64 * (j.val % 8), 0] S1x64x768.size (outInb j)
abbrev headRect (b : Fin 2) (h : Fin 4) : Rect S1024x384 := Rect.unit (s := S1024x384) ![512 * b.val, 96 * h.val] S512x96.size (headInb b h)
abbrev halfRect (b : Fin 2) : Rect S1024x384 := Rect.unit (s := S1024x384) ![512 * b.val, 0] S512x384.size (halfInb b)

theorem mem_row (j : Fin 16) (i : S16x64x768.Idx) : i ∈ (rowRect j).set ↔ (i 0).val = j.val := by
  rw [Rect.mem_set_unit]
  have h1 : (i 1).val < 64 := (i 1).isLt
  have h2 : (i 2).val < 768 := (i 2).isLt
  constructor
  · intro h
    have h0 : j.val ≤ (i 0).val ∧ (i 0).val < j.val + 1 := h 0
    omega
  · intro h a
    match a with
    | 0 => exact ⟨h.ge, h.le.trans_lt (Nat.lt_succ_self _)⟩
    | 1 => exact ⟨Nat.zero_le _, by show (i 1).val < 0 + 64; omega⟩
    | 2 => exact ⟨Nat.zero_le _, by show (i 2).val < 0 + 768; omega⟩

theorem mem_eight (b : Fin 2) (i : S16x64x768.Idx) : i ∈ (eightRect b).set ↔ (i 0).val / 8 = b.val := by
  rw [Rect.mem_set_unit]
  have h1 : (i 1).val < 64 := (i 1).isLt
  have h2 : (i 2).val < 768 := (i 2).isLt
  constructor
  · intro h
    have h0 : 8 * b.val ≤ (i 0).val ∧ (i 0).val < 8 * b.val + 8 := h 0
    omega
  · intro h a
    match a with
    | 0 => exact ⟨by show 8 * b.val ≤ (i 0).val; omega, by show (i 0).val < 8 * b.val + 8; omega⟩
    | 1 => exact ⟨Nat.zero_le _, by show (i 1).val < 0 + 64; omega⟩
    | 2 => exact ⟨Nat.zero_le _, by show (i 2).val < 0 + 768; omega⟩

theorem mem_x1 (j : Fin 16) (i : S1024x768.Idx) : i ∈ (x1Rect j).set ↔ (i 0).val / 64 = j.val := by
  rw [Rect.mem_set_unit]
  have h1 : (i 1).val < 768 := (i 1).isLt
  constructor
  · intro h
    have h0 : 64 * j.val ≤ (i 0).val ∧ (i 0).val < 64 * j.val + 64 := h 0
    omega
  · intro h a
    match a with
    | 0 => exact ⟨by show 64 * j.val ≤ (i 0).val; omega, by show (i 0).val < 64 * j.val + 64; omega⟩
    | 1 => exact ⟨Nat.zero_le _, by show (i 1).val < 0 + 768; omega⟩

theorem mem_out (j : Fin 16) (i : S2x512x768.Idx) : i ∈ (outRect j).set ↔ 8 * (i 0).val + (i 1).val / 64 = j.val := by
  rw [Rect.mem_set_unit]
  have h0 : (i 0).val < 2 := (i 0).isLt
  have h1 : (i 1).val < 512 := (i 1).isLt
  have h2 : (i 2).val < 768 := (i 2).isLt
  have hj := j.isLt
  constructor
  · intro h
    have h0 : j.val / 8 ≤ (i 0).val ∧ (i 0).val < j.val / 8 + 1 := h 0
    have h1 : 64 * (j.val % 8) ≤ (i 1).val ∧ (i 1).val < 64 * (j.val % 8) + 64 := h 1
    omega
  · intro h a
    match a with
    | 0 => exact ⟨by show j.val / 8 ≤ (i 0).val; omega, by show (i 0).val < j.val / 8 + 1; omega⟩
    | 1 => exact ⟨by show 64 * (j.val % 8) ≤ (i 1).val; omega, by show (i 1).val < 64 * (j.val % 8) + 64; omega⟩
    | 2 => exact ⟨Nat.zero_le _, by show (i 2).val < 0 + 768; omega⟩

theorem disj_of {s : Shape} {T : Type} (r : T → Rect s) (f : s.Idx → ℕ) (g : T → ℕ) (hg : Function.Injective g)
    (h : ∀ t i, i ∈ (r t).set ↔ f i = g t) (t t' : T) (htt : t ≠ t') : Disjoint (r t).set (r t').set :=
  Finset.disjoint_left.mpr fun i hi hi' => htt (hg (((h t i).mp hi).symm.trans ((h t' i).mp hi')))

theorem row_disj : ∀ t t' : Fin 16, t ≠ t' → Disjoint (rowRect t).set (rowRect t').set :=
  disj_of rowRect (fun i => (i 0).val) Fin.val Fin.val_injective mem_row
theorem row_cov : (Finset.univ : Finset (Fin 16)).biUnion (fun t => (rowRect t).set) = Finset.univ :=
  Finset.eq_univ_iff_forall.mpr fun i => Finset.mem_biUnion.mpr ⟨⟨(i 0).val, (i 0).isLt⟩, Finset.mem_univ _, (mem_row _ i).mpr rfl⟩
theorem eight_disj : ∀ t t' : Fin 2, t ≠ t' → Disjoint (eightRect t).set (eightRect t').set :=
  disj_of eightRect (fun i => (i 0).val / 8) Fin.val Fin.val_injective mem_eight
theorem eight_cov : (Finset.univ : Finset (Fin 2)).biUnion (fun t => (eightRect t).set) = Finset.univ :=
  Finset.eq_univ_iff_forall.mpr fun i => Finset.mem_biUnion.mpr
    ⟨⟨(i 0).val / 8, by have : (i 0).val < 16 := (i 0).isLt; omega⟩, Finset.mem_univ _, (mem_eight _ i).mpr rfl⟩
theorem x1_disj : ∀ t t' : Fin 16, t ≠ t' → Disjoint (x1Rect t).set (x1Rect t').set :=
  disj_of x1Rect (fun i => (i 0).val / 64) Fin.val Fin.val_injective mem_x1
theorem x1_cov : (Finset.univ : Finset (Fin 16)).biUnion (fun t => (x1Rect t).set) = Finset.univ :=
  Finset.eq_univ_iff_forall.mpr fun i => Finset.mem_biUnion.mpr
    ⟨⟨(i 0).val / 64, by have : (i 0).val < 1024 := (i 0).isLt; omega⟩, Finset.mem_univ _, (mem_x1 _ i).mpr rfl⟩
theorem out_disj : ∀ t t' : Fin 16, t ≠ t' → Disjoint (outRect t).set (outRect t').set :=
  disj_of outRect (fun i => 8 * (i 0).val + (i 1).val / 64) Fin.val Fin.val_injective mem_out
theorem out_cov : (Finset.univ : Finset (Fin 16)).biUnion (fun t => (outRect t).set) = Finset.univ :=
  Finset.eq_univ_iff_forall.mpr fun i => Finset.mem_biUnion.mpr
    ⟨⟨8 * (i 0).val + (i 1).val / 64, by
      have h0 : (i 0).val < 2 := (i 0).isLt
      have h1 : (i 1).val < 512 := (i 1).isLt
      omega⟩, Finset.mem_univ _, (mem_out _ i).mpr rfl⟩

/-! ## Put together -/

section Cat
variable {α : Type}

/-- Sixteen rows put together, -/
def cat (f : Fin 16 → S1x64x768.Idx → α) : S16x64x768.Idx → α := fun k => f (k 0) (mk3 (0 : Fin 1) (k 1 : Fin 64) (k 2 : Fin 768))
/-- sixteen blocks of 64 rows, -/
def catX (f : Fin 16 → S64x768.Idx → α) : S1024x768.Idx → α := fun k =>
  f ⟨(k 0).val / 64, by have : (k 0).val < 1024 := (k 0).isLt; omega⟩ (mk2 (⟨(k 0).val % 64, by omega⟩ : Fin 64) (k 1 : Fin 768))
/-- sixteen blocks of the result, -/
def catO (f : Fin 16 → S1x64x768.Idx → α) : S2x512x768.Idx → α := fun k =>
  f ⟨8 * (k 0).val + (k 1).val / 64, by
    have h0 : (k 0).val < 2 := (k 0).isLt
    have h1 : (k 1).val < 512 := (k 1).isLt
    omega⟩ (mk3 (0 : Fin 1) (⟨(k 1).val % 64, by omega⟩ : Fin 64) (k 2 : Fin 768))
/-- four heads side by side. -/
def catH (f : Fin 4 → S512x96.Idx → α) : S512x384.Idx → α := fun k =>
  f ⟨(k 1).val / 96, by have : (k 1).val < 384 := (k 1).isLt; omega⟩ (mk2 (k 0 : Fin 512) (⟨(k 1).val % 96, by omega⟩ : Fin 96))
/-- Row `j` of eight. -/
def pick8 (Y : S8x64x768.Idx → α) (j : Fin 16) : S1x64x768.Idx → α := fun k =>
  Y (mk3 (⟨j.val % 8, by omega⟩ : Fin 8) (k 1 : Fin 64) (k 2 : Fin 768))

theorem cat_row (f : Fin 16 → S1x64x768.Idx → α) (j : Fin 16) (k : S1x64x768.Idx) : cat f ((rowRect j).emb k) = f j k := by
  unfold cat
  have h0 : (k 0).val = 0 := by have : (k 0).val < 1 := (k 0).isLt; omega
  have e0 := emb_unit (s := S16x64x768) ![j.val, 0, 0] S1x64x768.size (rowInb j) k 0
  have e1 := emb_unit (s := S16x64x768) ![j.val, 0, 0] S1x64x768.size (rowInb j) k 1
  have e2 := emb_unit (s := S16x64x768) ![j.val, 0, 0] S1x64x768.size (rowInb j) k 2
  congr 1
  · exact Fin.ext (e0.trans (by show j.val + (k 0).val = j.val; omega))
  · exact ext3 h0.symm (e1.trans (Nat.zero_add _)) (e2.trans (Nat.zero_add _))

theorem catX_row (f : Fin 16 → S64x768.Idx → α) (j : Fin 16) (k : S64x768.Idx) : catX f ((x1Rect j).emb k) = f j k := by
  unfold catX
  have h0 : (k 0).val < 64 := (k 0).isLt
  have e0 : ((x1Rect j).emb k 0).val = 64 * j.val + (k 0).val := emb_unit (s := S1024x768) ![64 * j.val, 0] S64x768.size (x1Inb j) k 0
  have e1 := emb_unit (s := S1024x768) ![64 * j.val, 0] S64x768.size (x1Inb j) k 1
  congr 1
  · exact Fin.ext (by show ((x1Rect j).emb k 0).val / 64 = j.val; omega)
  · exact ext2 (by show ((x1Rect j).emb k 0).val % 64 = (k 0).val; omega) (e1.trans (Nat.zero_add _))

theorem catO_row (f : Fin 16 → S1x64x768.Idx → α) (j : Fin 16) (k : S1x64x768.Idx) : catO f ((outRect j).emb k) = f j k := by
  unfold catO
  have h0 : (k 0).val = 0 := by have : (k 0).val < 1 := (k 0).isLt; omega
  have h1 : (k 1).val < 64 := (k 1).isLt
  have hj := j.isLt
  have e0 : ((outRect j).emb k 0).val = j.val / 8 + (k 0).val := emb_unit (s := S2x512x768) ![j.val / 8, 64 * (j.val % 8), 0] S1x64x768.size (outInb j) k 0
  have e1 : ((outRect j).emb k 1).val = 64 * (j.val % 8) + (k 1).val := emb_unit (s := S2x512x768) ![j.val / 8, 64 * (j.val % 8), 0] S1x64x768.size (outInb j) k 1
  have e2 := emb_unit (s := S2x512x768) ![j.val / 8, 64 * (j.val % 8), 0] S1x64x768.size (outInb j) k 2
  congr 1
  · exact Fin.ext (by show 8 * ((outRect j).emb k 0).val + ((outRect j).emb k 1).val / 64 = j.val; omega)
  · exact ext3 h0.symm (by show ((outRect j).emb k 1).val % 64 = (k 1).val; omega) (e2.trans (Nat.zero_add _))

end Cat

variable (c : Dev nD)

/-- A buffer of sixteen rows, in rows, -/
theorem rows_split (m : Memref sig .tc .vmem S16x64x768 .bf16) (X : Vec F S16x64x768 .bf16) :
    (owns (c : Thread nD τ) m fullShare X : sProp 𝕄) ⊢ BR fun j => rowE (F := F) c m j := by
  rw [BR_eq]
  refine (owns_rects (c : Thread nD τ) m fullShare rowRect (fun _ _ => rfl) row_disj row_cov X).trans (bigSep_mono fun j _ => ?_)
  exact (show (owns (c : Thread nD τ) (m.slice (rowRect j) (fun _ => rfl)) fullShare (fun k => X ((rowRect j).emb k)) : sProp 𝕄) ⊢ rowE (F := F) c m j from by
    iintro H
    iexists _
    iexact H)
/-- and back. -/
theorem rows_join (m : Memref sig .tc .vmem S16x64x768 .bf16) (f : Fin 16 → Vec F S1x64x768 .bf16) :
    (BR fun j => row c m j fullShare (f j) : sProp 𝕄) ⊢ owns (c : Thread nD τ) m fullShare (cat f) := by
  rw [BR_eq]
  refine BIBase.Entails.trans ?_ (owns_of_rects (c : Thread nD τ) m fullShare rowRect (fun _ _ => rfl) row_disj row_cov (cat f))
  exact bigSep_mono fun j _ => Eq.subst (motive := fun Z => Idealize.SL.BI.Entails _ (owns (c : Thread nD τ) (m.slice (rowRect j) (fun _ => rfl)) fullShare Z : sProp 𝕄))
    (show f j = fun k => cat f ((rowRect j).emb k) from funext fun k => (cat_row f j k).symm) (show (row c m j fullShare (f j) : sProp 𝕄) ⊢ row c m j fullShare (f j) from .rfl)

theorem x1_split (X : Vec F S1024x768 .f32) :
    (owns (c : Thread nD τ) x1M fullShare X : sProp 𝕄) ⊢ BR fun j => iprop(∃ X, x1B (F := F) c j X) := by
  rw [BR_eq]
  refine (owns_rects (c : Thread nD τ) x1M fullShare x1Rect (fun _ _ => rfl) x1_disj x1_cov X).trans (bigSep_mono fun j _ => ?_)
  exact (show (owns (c : Thread nD τ) (x1M.slice (x1Rect j) (fun _ => rfl)) fullShare (fun k => X ((x1Rect j).emb k)) : sProp 𝕄) ⊢ iprop(∃ X, x1B (F := F) c j X) from by
    iintro H
    iexists _
    iexact H)
theorem x1_join (f : Fin 16 → Vec F S64x768 .f32) :
    (BR fun j => x1B c j (f j) : sProp 𝕄) ⊢ owns (c : Thread nD τ) x1M fullShare (catX f) := by
  rw [BR_eq]
  refine BIBase.Entails.trans ?_ (owns_of_rects (c : Thread nD τ) x1M fullShare x1Rect (fun _ _ => rfl) x1_disj x1_cov (catX f))
  exact bigSep_mono fun j _ => Eq.subst (motive := fun Z => Idealize.SL.BI.Entails _ (owns (c : Thread nD τ) (x1M.slice (x1Rect j) (fun _ => rfl)) fullShare Z : sProp 𝕄))
    (show f j = fun k => catX f ((x1Rect j).emb k) from funext fun k => (catX_row f j k).symm) (show (x1B c j (f j) : sProp 𝕄) ⊢ x1B c j (f j) from .rfl)

theorem out_split (X : Vec F S2x512x768 .f32) :
    (owns (c : Thread nD τ) outM fullShare X : sProp 𝕄) ⊢ BR fun j => iprop(∃ X, outB (F := F) c j X) := by
  rw [BR_eq]
  refine (owns_rects (c : Thread nD τ) outM fullShare outRect (fun _ _ => rfl) out_disj out_cov X).trans (bigSep_mono fun j _ => ?_)
  exact (show (owns (c : Thread nD τ) (outM.slice (outRect j) (fun _ => rfl)) fullShare (fun k => X ((outRect j).emb k)) : sProp 𝕄) ⊢ iprop(∃ X, outB (F := F) c j X) from by
    iintro H
    iexists _
    iexact H)
theorem out_join (f : Fin 16 → Vec F S1x64x768 .f32) :
    (BR fun j => outB c j (f j) : sProp 𝕄) ⊢ owns (c : Thread nD τ) outM fullShare (catO f) := by
  rw [BR_eq]
  refine BIBase.Entails.trans ?_ (owns_of_rects (c : Thread nD τ) outM fullShare outRect (fun _ _ => rfl) out_disj out_cov (catO f))
  exact bigSep_mono fun j _ => Eq.subst (motive := fun Z => Idealize.SL.BI.Entails _ (owns (c : Thread nD τ) (outM.slice (outRect j) (fun _ => rfl)) fullShare Z : sProp 𝕄))
    (show f j = fun k => catO f ((outRect j).emb k) from funext fun k => (catO_row f j k).symm) (show (outB c j (f j) : sProp 𝕄) ⊢ outB c j (f j) from .rfl)

/-- Eight rows of a buffer. -/
abbrev eightS (b : Fin 2) : Memref sig .tc .vmem S8x64x768 .bf16 := pM.slice (eightRect b) (fun _ => rfl)

theorem eights_split (X : Vec F S16x64x768 .bf16) :
    (owns (c : Thread nD τ) pM fullShare X : sProp 𝕄) ⊢ iprop((∃ Y, owns (Val := Elt F) (c : Thread nD τ) (eightS 0) fullShare Y)
      ∗ (∃ Y, owns (Val := Elt F) (c : Thread nD τ) (eightS 1) fullShare Y)) := by
  refine (owns_rects (c : Thread nD τ) pM fullShare eightRect (fun _ _ => rfl) eight_disj eight_cov X).trans ?_
  rw [show (bigSep (Finset.univ : Finset (Fin 2)) fun t => (owns (c : Thread nD τ) (pM.slice (eightRect t) (fun _ => rfl)) fullShare (fun j => X ((eightRect t).emb j)) : sProp 𝕄))
    = iprop(owns (c : Thread nD τ) (eightS 0) fullShare (fun j => X ((eightRect 0).emb j)) ∗ owns (c : Thread nD τ) (eightS 1) fullShare (fun j => X ((eightRect 1).emb j)))
    from bigSep_univ_eq_bigSepL [0, 1] (by decide) (by decide) _]
  iintro ⟨H0, H1⟩
  isplitl [H0]
  · iexists _; iexact H0
  · iexists _; iexact H1

/-- The rows of a batch. -/
abbrev rowsOf (b : Fin 2) : List (Fin 16) := if b = 0 then rowsLo else rowsHi
abbrev e8 (b : Fin 2) (t : Fin 8) : Fin 16 := ⟨8 * b.val + t.val, by omega⟩
theorem rowsOf_eq (b : Fin 2) : rowsOf b = ([0, 1, 2, 3, 4, 5, 6, 7] : List (Fin 8)).map (e8 b) := by revert b; decide

theorem eight_rows (b : Fin 2) (Y : Vec F S8x64x768 .bf16) :
    (owns (c : Thread nD τ) (eightS b) fullShare Y : sProp 𝕄) ⊢ bigSepL (rowsOf b) fun j => row c pM j fullShare (pick8 Y j) := by
  rw [rowsOf_eq, bigSepL_map, ← bigSep_univ_eq_bigSepL ([0, 1, 2, 3, 4, 5, 6, 7] : List (Fin 8)) (by decide) (by decide)]
  refine (owns_sub c pM fullShare (eightRect b) (fun _ => rfl) (fun t : Fin 8 => rowRect (e8 b t)) (fun _ _ => rfl)
    (fun t t' h => row_disj _ _ fun e => h (Fin.ext (by have := congrArg Fin.val e; simp only [e8] at this; omega)))
    (by
      ext i
      rw [Finset.mem_biUnion, mem_eight]
      have h0 : (i 0).val < 16 := (i 0).isLt
      constructor
      · rintro ⟨t, -, h⟩
        have := (mem_row _ i).mp h
        simp only [e8] at this
        have := t.isLt
        omega
      · intro h
        exact ⟨⟨(i 0).val % 8, by omega⟩, Finset.mem_univ _, (mem_row _ i).mpr (by simp only [e8]; omega)⟩)
    (fun t k => mk3 t (k 1 : Fin 64) (k 2 : Fin 768))
    (fun t k => by
      have h0 : (k 0).val = 0 := by have : (k 0).val < 1 := (k 0).isLt; omega
      refine ext3 ?_ ?_ ?_ <;> rw [emb_unit, emb_unit]
      · show 8 * b.val + t.val = (8 * b.val + t.val) + (k 0).val
        omega
      · rfl
      · rfl) Y).trans (bigSep_mono fun t _ => ?_)
  exact Eq.subst (motive := fun Z => Idealize.SL.BI.Entails _ (owns (c : Thread nD τ) (rowS pM (e8 b t)) fullShare Z : sProp 𝕄))
    (show (fun k : S1x64x768.Idx => Y (mk3 t (k 1 : Fin 64) (k 2 : Fin 768))) = pick8 Y (e8 b t) from funext fun k => congrArg Y (ext3 (by
      show t.val = (8 * b.val + t.val) % 8
      have := t.isLt; omega) rfl rfl)) (show (row c pM (e8 b t) fullShare (fun k : S1x64x768.Idx => Y (mk3 t (k 1 : Fin 64) (k 2 : Fin 768))) : sProp 𝕄) ⊢ row c pM (e8 b t) fullShare (fun k : S1x64x768.Idx => Y (mk3 t (k 1 : Fin 64) (k 2 : Fin 768))) from .rfl)

/-! ## Whole buffers and the own row -/

section Acc

/-- A load of all of a memref. -/
theorem wp_ldfull {s : Shape} {e : EltTy} (m : Memref sig .tc .vmem s e) (q : PosShare TreeShare) (off : Fin s.rank → Nat)
    (h0 : off = fun _ => 0) (inb : ∀ a, off a + s.size a ≤ s.size a) {hl : m.view.LoadsAt (Rect.unit off s.size inb).toLoadRect}
    {K : (s.Idx → Elt F e) → PR F} {X : s.Idx → Elt F e} {Q : PUnit → sProp 𝕄} :
    (owns (c : Thread nD τ) m q X : sProp 𝕄)
      ⊢ iprop((owns (c : Thread nD τ) m q X -∗ WP c (K X) Q) -∗ WP c (Prog.lift (.load m (Rect.unit off s.size inb).toLoadRect hl) >>= K) Q) := by
  have h := wp_ldw c m q (Rect.unit off s.size inb) (hl := hl) (K := K) (X := X) (Q := Q)
  rw [show (fun k => X ((Rect.unit off s.size inb).emb k)) = X from funext fun k => congrArg X (funext fun a => Fin.ext (by
    rw [emb_unit]; simp only [h0, Nat.zero_add]))] at h
  exact h

theorem wp_ldMy (m : Memref sig .tc .vmem S16x64x768 .bf16) (q : PosShare TreeShare) {K : Vec F S1x64x768 .bf16 → PR F} {X : Vec F S1x64x768 .bf16} {Q : PUnit → sProp 𝕄} :
    (row c m c q X : sProp 𝕄) ⊢ iprop((row c m c q X -∗ WP c (K X) Q) -∗ WP c (ldMy m c K) Q) := by
  have h : ∀ (o : Fin 3 → Nat) (ho : ∀ a, o a + S1x64x768.size a ≤ S16x64x768.size a) (hl : m.view.LoadsAt (Rect.unit (s := S16x64x768) o S1x64x768.size ho).toLoadRect), o = ![c.val, 0, 0] →
      ((row c m c q X : sProp 𝕄) ⊢ iprop((row c m c q X -∗ WP c (K X) Q)
        -∗ WP c (Prog.lift (.load m (Rect.unit (s := S16x64x768) o S1x64x768.size ho).toLoadRect hl) >>= K) Q)) := by
    rintro o ho hl rfl
    exact wp_ld c m q (rowRect c) (fun _ => rfl)
  exact h _ _ _ (myOff_eq c)

theorem wp_stMy (m : Memref sig .tc .vmem S16x64x768 .bf16) (hm : m.IsWhole) {w : Vec F S1x64x768 .bf16} {p : PR F} {X : Vec F S1x64x768 .bf16} {Q : PUnit → sProp 𝕄} :
    (row c m c fullShare X : sProp 𝕄) ⊢ iprop((row c m c fullShare w -∗ WP c p Q) -∗ WP c (stMy m hm c w p) Q) := by
  have h : ∀ (o : Fin 3 → Nat) (ho : ∀ a, o a + S1x64x768.size a ≤ S16x64x768.size a)
      (hx : (m.access (Rect.unit (s := S16x64x768) o S1x64x768.size ho)).Stores Finset.univ)
      (hu : (Finset.univ : Finset (Rect.unit (s := S16x64x768) o S1x64x768.size ho).shape.Idx) = Finset.univ ∨ ∀ a, (Rect.unit (s := S16x64x768) o S1x64x768.size ho).stride a = 1), o = ![c.val, 0, 0] →
      ((row c m c fullShare X : sProp 𝕄) ⊢ iprop((row c m c fullShare w -∗ WP c p Q)
        -∗ WP c (Prog.lift (.store m (Rect.unit (s := S16x64x768) o S1x64x768.size ho) w Finset.univ hx hu) >>= fun _ => p) Q)) := by
    rintro o ho hx hu rfl
    exact wp_st c m (rowRect c) (fun _ => rfl)
  exact h _ _ _ _ (myOff_eq c)

/-! ## The heads -/

/-- The first `n` heads of batch `b` are there. -/
def atOK (b : Fin 2) (f : Fin 4 → Vec F S512x96 .f32) (n : ℕ) : sProp 𝕄 :=
  iprop(∃ X, ⌜∀ h : Fin 4, h.val < n → ∀ k, X ((headRect b h).emb k) = f h k⌝ ∗ owns (c : Thread nD τ) atM fullShare X)

theorem head_disj (b : Fin 2) (h h' : Fin 4) (hh : h ≠ h') : Disjoint (headRect b h).set (headRect b h').set :=
  Rect.unit_disjoint 1 (by
    show 96 * h.val + 96 ≤ 96 * h'.val ∨ 96 * h'.val + 96 ≤ 96 * h.val
    have : h.val ≠ h'.val := fun e => hh (Fin.ext e)
    omega)

theorem st_head (b : Fin 2) (q k v : FVec F S512x384 .f32) (h : Fin 4) (p : PR F) {Q : PUnit → sProp 𝕄} :
    (atOK c b (fun h => headPay h q k v) h.val : sProp 𝕄)
      ⊢ iprop((atOK c b (fun h => headPay h q k v) (h.val + 1) -∗ WP c p Q) -∗ WP c (headStep b q k v h p) Q) := by
  unfold atOK headStep
  iintro ⟨%X, %hX, H⟩ Hk
  iapply (wp_ldw c atM fullShare (headRect b h) (X := X)) $$ H
  iintro H
  ihave Hs := (owns_slice_split (c : Thread nD τ) atM fullShare (headRect b h) (fun _ => rfl) X) $$ H
  icases Hs with ⟨Hs, ⟨%f, %hf, Hr⟩⟩
  iapply (wp_st c atM (headRect b h) (fun _ => rfl)) $$ Hs
  iintro Hs
  ihave H := (owns_slice_join (c : Thread nD τ) atM fullShare (headRect b h) (fun _ => rfl) (headPay h q k v) f) $$ [Hs Hr]
  · isplitl [Hs] <;> iassumption
  iapply Hk
  iexists _
  isplitr [H]
  rotate_left
  · iexact H
  · ipureintro
    intro h' hh' i
    by_cases e : h' = h
    · subst e; exact Rect.overlay_emb _ _ _ _
    · rw [Rect.overlay_of_not_mem _ _ _ (Finset.disjoint_left.mp (head_disj b h' h e)
        ((headRect b h').map_emb_univ ▸ Finset.mem_map_of_mem _ (Finset.mem_univ i))), hf]
      exact hX h' (by have : h'.val ≠ h.val := fun e' => e (Fin.ext e'); omega) i

theorem half_of_heads (b : Fin 2) (f : Fin 4 → Vec F S512x96 .f32) (X : Vec F S1024x384 .f32)
    (hX : ∀ h : Fin 4, h.val < 4 → ∀ k, X ((headRect b h).emb k) = f h k) : (fun k => X ((halfRect b).emb k)) = catH f := by
  funext k
  have h1 : (k 1).val < 384 := (k 1).isLt
  unfold catH
  rw [← hX _ (Fin.isLt _)]
  refine congrArg X (ext2 ?_ ?_) <;> rw [emb_unit, emb_unit]
  · rfl
  · show 0 + (k 1).val = 96 * ((k 1).val / 96) + (k 1).val % 96
    omega

/-- A batch's partial product, in its eight rows. -/
theorem st_half (b : Fin 2) (v110 : FVec F S384x768 .bf16) (q k v : FVec F S512x384 .f32) (p : PR F) {Q : PUnit → sProp 𝕄} :
    iprop((∃ X, owns (Val := Elt F) (c : Thread nD τ) atM fullShare X) ∗ (∃ Y, owns (Val := Elt F) (c : Thread nD τ) (eightS b) fullShare Y) : sProp 𝕄)
      ⊢ iprop((((∃ X, owns (Val := Elt F) (c : Thread nD τ) atM fullShare X)
          ∗ bigSepL (rowsOf b) fun j => row c pM j fullShare (pick8 (k0_pay23 v110 (catH fun h => headPay h q k v)) j)) -∗ WP c p Q)
        -∗ WP c (halfStep b v110 q k v p) Q) := by
  unfold halfStep
  simp only [List.foldr_cons, List.foldr_nil]
  iintro ⟨⟨%X, HA⟩, ⟨%Y, HP⟩⟩ Hk
  iapply (st_head c b q k v 0 _) $$ [HA]
  · unfold atOK
    iexists X
    isplitr
    · ipureintro; intro h hh; exact absurd hh (Nat.not_lt_zero _)
    iexact HA
  iintro HA
  iapply (st_head c b q k v 1 _) $$ [HA]
  · iexact HA
  iintro HA
  iapply (st_head c b q k v 2 _) $$ [HA]
  · iexact HA
  iintro HA
  iapply (st_head c b q k v 3 _) $$ [HA]
  · iexact HA
  iintro HA
  ihave HA' := (show atOK c b (fun h => headPay h q k v) ((3 : Fin 4).val + 1) ⊢ (iprop(∃ X, ⌜∀ h : Fin 4, h.val < 4 → ∀ i, X ((headRect b h).emb i) = headPay h q k v i⌝
    ∗ owns (c : Thread nD τ) atM fullShare X) : sProp 𝕄) from .rfl) $$ HA
  icases HA' with ⟨%Z, %hZ, HA⟩
  iapply (wp_ldw c atM fullShare (halfRect b) (X := Z)) $$ HA
  iintro HA
  rw [half_of_heads b (fun h => headPay h q k v) Z hZ]
  iapply (wp_ld c pM fullShare (eightRect b) (fun _ => rfl) (X := Y)) $$ HP
  iintro HP
  iapply (wp_st c pM (eightRect b) (fun _ => rfl) (X := Y)) $$ HP
  iintro HP
  iapply Hk
  isplitl [HA]
  · iexists Z; iexact HA
  iapply (eight_rows c b _)
  iexact HP

end Acc

end Cert.KernelIdeal.Run
-- ==== Proof.Body.lean ====
/- The whole body for one device: from the buffers, payments and credits it starts with to the result. -/
module

public import proofs.«01_k».proof.Proof.Parts
public import Idealize.ShloMosaic.Lib.Pipeline.Value

@[expose] public section

set_option maxRecDepth 20000

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (V : Vals F) (K : Dev nD × Option CI → ℕ) (c : Dev nD)

/-- A memref at some contents. -/
abbrev ownE {s : Shape} {e : EltTy} (m : Memref sig .tc .vmem s e) : sProp 𝕄 := iprop(∃ X, owns (Val := Elt F) (c : Thread nD τ) m fullShare X)
/-- A memref at given contents. -/
abbrev own {s : Shape} {e : EltTy} (m : Memref sig .tc .vmem s e) (X : s.Idx → Elt F e) : sProp 𝕄 := owns (c : Thread nD τ) m fullShare X

/-! ## Between the steps -/

/-- After a scatter: the own row, and the others' credits. -/
theorem sc_pull (ph : Fin 2) : (BR (scDone V c ph) : sProp 𝕄)
    = iprop(row c (srcM ph) c fullShare (V.P ph c c) ∗ BR fun j => oth c j (scDone V c ph j)) := by
  rw [BR_pull c, show scDone V c ph c = row c (srcM ph) c fullShare (V.P ph c c) from if_pos rfl]

/-- After a broadcast likewise. -/
theorem bc_pull (ph : Fin 2) : (BR (bcDone V c ph) : sProp 𝕄)
    = iprop(row c (redM ph) c (leafQ c) (V.R ph c) ∗ BR fun j => oth c j (cred (tallyAt (dcell c (2, ph, j)) () N))) := by
  rw [BR_pull c, show bcDone V c ph c = row c (redM ph) c (leafQ c) (V.R ph c) from if_pos rfl]
  congr 2
  funext j
  by_cases h : j = c
  · subst h; rw [oth_self, oth_self]
  · rw [oth_ne c h, oth_ne c h]; exact if_neg h

/-- What a broadcast to all needs. -/
theorem bc_todo (ph : Fin 2) : iprop(row c (redM ph) c fullShare (V.R ph c) ∗ (BR fun j => oth c j (dstE (F := F) c (redM ph) j)) ∗ BR fun j => oth c j (toks c 2 3 ph j))
    ⊢ (BR (bcTodo V c ph) : sProp 𝕄) := by
  have h : (BR (bcTodo V c ph) : sProp 𝕄) = iprop((BR fun j => row c (redM ph) c (leafQ j) (V.R ph c)) ∗ (BR fun j => oth c j (dstE (F := F) c (redM ph) j)) ∗ BR fun j => oth c j (toks c 2 3 ph j)) := by
    unfold bcTodo; rw [BR_sep, BR_sep]
  have hl := owns_leaves c (rowS (redM ph) c) (V.R ph c)
  rw [← BR_eq] at hl
  rw [h]
  iintro ⟨Hr, Hd⟩
  isplitl [Hr]
  · iapply (Entails.of_eq hl); iexact Hr
  iexact Hd

/-- All the broadcast rows back. -/
theorem bc_back (ph : Fin 2) : iprop((BR fun j => rowR V c ph j) ∗ BR fun j => wOut V c (2, ph, j))
    ⊢ (iprop(ownE (F := F) c (redM ph) ∗ BR fun j => z c (2, ph, j)) : sProp 𝕄) := by
  have hw : (BR fun j => wOut V c (2, ph, j) : sProp 𝕄)
      = iprop((BR fun j => oth c j (row c (redM ph) c (leafQ j) (V.R ph c))) ∗ BR fun j => z c (2, ph, j)) := by
    rw [← BR_sep]; rfl
  have hr : (BR fun j => rowR V c ph j : sProp 𝕄)
      = iprop(row c (redM ph) c (leafQ c) (V.R ph c) ∗ BR fun j => oth c j (row c (redM ph) j fullShare (V.R ph (j : Dev nD)))) := by
    rw [BR_pull c, show rowR V c ph c = row c (redM ph) c (leafQ c) (V.R ph c) from by unfold rowR rq; rw [if_pos rfl]]
    congr 2
    funext j
    by_cases h : j = c
    · subst h; rw [oth_self, oth_self]
    · rw [oth_ne c h, oth_ne c h]; unfold rowR rq; rw [if_neg h]
  have hl := owns_leaves c (rowS (redM ph) c) (V.R ph c)
  rw [← BR_eq, BR_pull c] at hl
  have hf := BR_pull c (fun j => (row c (redM ph) j fullShare (V.R ph (j : Dev nD)) : sProp 𝕄))
  rw [hw, hr]
  iintro ⟨⟨Hc, Ho⟩, Hl, Hz⟩
  isplitr [Hz]
  · iexists cat fun s => V.R ph (s : Dev nD)
    iapply (rows_join c (redM ph) fun s => V.R ph (s : Dev nD))
    iapply (Entails.of_eq hf.symm)
    isplitr [Ho]
    · iapply (Entails.of_eq hl.symm)
      isplitl [Hc] <;> iassumption
    iexact Ho
  iexact Hz

/-! ## The ends of the copies -/

theorem wp_drains {Q : PUnit → sProp 𝕄} :
    iprop(ctx V K ∗ owesE c 0 ∗ ((BR fun j => at0 c (0, 0, j)) ∗ BR (scDone V c 0)) ∗ (BR fun j => wIn c (2, 0, j))
        ∗ ((BR fun j => at0 c (0, 1, j)) ∗ BR (scDone V c 1)) ∗ (BR fun j => wIn c (2, 1, j)))
      ⊢ iprop(((owesE c 0 ∗ (ownE (F := F) c pM ∗ BR fun j => z c (0, 0, j)) ∗ (BR fun j => wOut V c (2, 0, j))
        ∗ (ownE (F := F) c p2M ∗ BR fun j => z c (0, 1, j)) ∗ (BR fun j => wOut V c (2, 1, j))) -∗ Q ⟨⟩) -∗ WP c (drains c) Q) := by
  have hb : ∀ ph, iprop((BR fun j => at0 c (0, ph, j)) ∗ BR (scDone V c ph)) ⊢ (BR fun j => iprop(at0 c (0, ph, j) ∗ scDone V c ph j) : sProp 𝕄) := fun ph =>
    Entails.of_eq (BR_sep _ _).symm
  have he : ∀ ph, (BR fun j => iprop(row c (srcM ph) j fullShare (V.P ph c j) ∗ z c (0, ph, j)) : sProp 𝕄)
      ⊢ iprop(ownE (F := F) c (srcM ph) ∗ BR fun j => z c (0, ph, j)) := fun ph => by
    rw [BR_sep]
    iintro ⟨H, Hz⟩
    isplitr [Hz]
    · iexists _; iapply (rows_join c (srcM ph) fun j => V.P ph c j); iexact H
    iexact Hz
  unfold drains
  iintro ⟨#Hc, Ho, H0, Hb0, H1, Hb1⟩ Hk
  iapply (loop V K c (scDrain pM aM (Memref.isWhole_whole _) (Memref.isWhole_whole _) 0 c) (fun _ => 0)
    (fun j => iprop(at0 c (0, 0, j) ∗ scDone V c 0 j)) (fun j => iprop(row c (srcM 0) j fullShare (V.P 0 c j) ∗ z c (0, 0, j)))
    (fun j l k => st_scDrain V K c pM aM _ _ 0 rfl j k) _ rows) $$ [Ho H0]
  · isplitr; · iexact Hc
    isplitl [Ho]; · iexact Ho
    iapply (hb 0); iexact H0
  iintro ⟨Ho, H0⟩
  iapply (loop V K c (bcDrain bM (Memref.isWhole_whole _) 0 c) (fun _ => 0) (fun j => wIn c (2, 0, j)) (fun j => wOut V c (2, 0, j))
    (fun j l k => st_bcDrain V K c bM _ 0 j k) _ rows) $$ [Ho Hb0]
  · isplitr; · iexact Hc
    isplitl [Ho] <;> iassumption
  iintro ⟨Ho, Hb0⟩
  iapply (loop V K c (scDrain p2M a2M (Memref.isWhole_whole _) (Memref.isWhole_whole _) 1 c) (fun _ => 0)
    (fun j => iprop(at0 c (0, 1, j) ∗ scDone V c 1 j)) (fun j => iprop(row c (srcM 1) j fullShare (V.P 1 c j) ∗ z c (0, 1, j)))
    (fun j l k => st_scDrain V K c p2M a2M _ _ 1 rfl j k) _ rows) $$ [Ho H1]
  · isplitr; · iexact Hc
    isplitl [Ho]; · iexact Ho
    iapply (hb 1); iexact H1
  iintro ⟨Ho, H1⟩
  iapply (loop V K c (bcDrain b2M (Memref.isWhole_whole _) 1 c) (fun _ => 0) (fun j => wIn c (2, 1, j)) (fun j => wOut V c (2, 1, j))
    (fun j l k => st_bcDrain V K c b2M _ 1 j k) _ rows) $$ [Ho Hb1]
  · isplitr; · iexact Hc
    isplitl [Ho] <;> iassumption
  iintro ⟨Ho, Hb1⟩
  have hret : iprop(|={Set.univ}=> Q ⟨⟩) ⊢ WP c (pure ⟨⟩) Q := by unfold WP; rw [Prog.pure_eq_ret, wp_ret]
  iapply hret
  imodintro
  iapply Hk
  isplitl [Ho]; · iexact Ho
  isplitl [H0]; · iapply (he 0); iexact H0
  isplitl [Hb0]; · iexact Hb0
  isplitl [H1]; · iapply (he 1); iexact H1
  iexact Hb1

/-! ## The second exchange and the result -/

/-- What the first part of the work leaves for the ends of its copies. -/
def later : sProp 𝕄 :=
  iprop(((BR fun j => at0 c (0, 0, j)) ∗ BR (scDone V c 0)) ∗ (BR fun j => wIn c (2, 0, j)) ∗ (BR fun j => rowR V c 0 j)
    ∗ (BR fun j => at0 c (0, 1, j)) ∗ (BR fun j => at0 c (2, 1, j)))

theorem wp_tail2 (v74 : FVec F S2x768 .f32) (X1 : Fin 16 → Vec F S64x768 .f32) (Y : Fin 16 → Vec F S1x64x768 .f32)
    (hR : V.R 1 c = k0_pay37 (cat fun s => V.P 1 (s : Dev nD) c)) (hY : ∀ j : Fin 16, Y j = outPay j v74 (X1 j) (V.R 1 (j : Dev nD)))
    {Q : PUnit → sProp 𝕄} :
    iprop(ctx V K ∗ owesE c (O4 c) ∗ BR (scDone V c 1) ∗ rowE (F := F) c a2M c ∗ (BR fun j => wIn c (1, 1, j)) ∗ rowE (F := F) c b2M c
        ∗ (BR fun j => oth c j (dstE (F := F) c b2M j)) ∗ (BR fun j => oth c j (toks c 2 3 1 j)) ∗ (BR fun j => wIn c (3, 1, j))
        ∗ (BR fun j => x1B c j (X1 j)) ∗ (BR fun j => iprop(∃ X, outB (F := F) c j X)) ∗ later V c)
      ⊢ iprop(((owesE c 0 ∗ (ownE (F := F) c pM ∗ BR fun j => z c (0, 0, j)) ∗ (ownE (F := F) c bM ∗ BR fun j => z c (2, 0, j))
        ∗ (ownE (F := F) c p2M ∗ BR fun j => z c (0, 1, j)) ∗ (ownE (F := F) c b2M ∗ BR fun j => z c (2, 1, j))
        ∗ (ownE (F := F) c a2M ∗ BR fun j => z c (1, 1, j)) ∗ (BR fun j => z c (3, 1, j))
        ∗ ownE (F := F) c x1M ∗ own c outM (catO Y)) -∗ Q ⟨⟩) -∗ WP c (tail2 c v74) Q) := by
  have hpay : ∀ v : Vec F S1x64x768 .bf16, k0_pay36 v = v := fun v => shapeCast_shapeCast v _ _
  have hw1 : (BR fun j => iprop(wIn c (1, 1, j) ∗ slf c j (row c (accM 1) j fullShare (V.P 1 (j : Dev nD) c))) : sProp 𝕄)
      = iprop((BR fun j => wIn c (1, 1, j)) ∗ row c a2M c fullShare (V.P 1 c c)) := by
    rw [BR_sep, BR_slf c fun j => row c (accM 1) j fullShare (V.P 1 (j : Dev nD) c)]; rfl
  have hd1 : (BR fun j => iprop(row c (accM 1) j fullShare (V.P 1 (j : Dev nD) c) ∗ z c (1, 1, j)) : sProp 𝕄)
      = iprop((BR fun j => row c a2M j fullShare (V.P 1 (j : Dev nD) c)) ∗ BR fun j => z c (1, 1, j)) := by rw [BR_sep]; rfl
  have hot : (BR (outTodo V c X1) : sProp 𝕄) = iprop((BR fun j => wIn c (3, 1, j)) ∗ row c (redM 1) c (leafQ c) (V.R 1 c)
      ∗ (BR fun j => x1B c j (X1 j)) ∗ BR fun j => iprop(∃ X, outB (F := F) c j X)) := by
    unfold outTodo; rw [BR_sep, BR_sep, BR_sep, BR_slf c fun _ => row c (redM 1) c (leafQ c) (V.R 1 c)]
  have hod : (BR (outDone V c X1 Y) : sProp 𝕄) = iprop((BR fun j => rowR V c 1 j) ∗ (BR fun j => z c (3, 1, j))
      ∗ (BR fun j => x1B c j (X1 j)) ∗ BR fun j => outB c j (Y j)) := by
    unfold outDone; rw [BR_sep, BR_sep, BR_sep]
  have hwi : (BR fun j => wIn c (2, 1, j) : sProp 𝕄) = iprop((BR fun j => at0 c (2, 1, j)) ∗ BR fun j => oth c j (cred (tallyAt (dcell c (2, 1, j)) () N))) := by
    rw [← BR_sep]; rfl
  have hn1 : ∀ j : Fin 16, lv (dcell c (1, 1, j)) () ≤ 4 := fun j => (lv_dma c (1, 1, j) ()).le
  have hn3 : ∀ j : Fin 16, lv (dcell c (3, 1, j)) () ≤ 5 := fun j => (lv_dma c (3, 1, j) ()).le
  unfold tail2 later
  iintro ⟨#Hc, Ho, Hsc, ⟨%A, Ha⟩, Hw1, ⟨%B, Hb⟩, Hdst, Htk, Hw3, Hx, Hout, Hl0, Hl2, HrR, Hl01, Hl21⟩ Hk
  ihave Hsc := (Entails.of_eq (sc_pull V c 1)) $$ Hsc
  icases Hsc with ⟨Hp, Hsc⟩
  iapply (wp_ldMy c p2M fullShare (X := V.P 1 c c)) $$ [Hp]
  · iexact Hp
  iintro Hp
  iapply (wp_ldMy c a2M fullShare (X := A)) $$ Ha
  iintro Ha
  iapply (wp_stMy c a2M _ (X := A)) $$ Ha
  iintro Ha
  rw [hpay]
  iapply (loop V K c (rcvWait scRecvA a2M (Memref.isWhole_whole _) 1 c) (fun _ => O4 c)
    (fun j => iprop(wIn c (1, 1, j) ∗ slf c j (row c (accM 1) j fullShare (V.P 1 (j : Dev nD) c))))
    (fun j => iprop(row c (accM 1) j fullShare (V.P 1 (j : Dev nD) c) ∗ z c (1, 1, j)))
    (fun j l k => st_recv V K c a2M _ 1 rfl 4 hn1 (above_O4 c) j k) _ rows) $$ [Ho Hw1 Ha]
  · isplitr; · iexact Hc
    isplitl [Ho]; · iexact Ho
    iapply (Entails.of_eq hw1.symm)
    isplitl [Hw1] <;> iassumption
  iintro ⟨Ho, Hd⟩
  ihave Hd := (Entails.of_eq hd1) $$ Hd
  icases Hd with ⟨Ha, Hz1⟩
  ihave Ha := (rows_join c a2M fun s => V.P 1 (s : Dev nD) c) $$ Ha
  iapply (wp_ldfull c a2M fullShare ![0, 0, 0] (by decide) _) $$ Ha
  iintro Ha
  iapply (wp_ldMy c b2M fullShare (X := B)) $$ Hb
  iintro Hb
  iapply (wp_stMy c b2M _ (X := B)) $$ Hb
  iintro Hb
  rw [← hR]
  iapply (loop V K c (bcSend b2M (Memref.isWhole_whole _) 1 c) (fun l => osum (dueD c 3 1) l 0) (bcTodo V c 1) (bcDone V c 1)
    (fun j l k => st_bc V K c b2M _ 1 rfl _ j k) _ rows) $$ [Ho Hb Hdst Htk]
  · isplitr; · iexact Hc
    isplitl [Ho]; · iexact Ho
    iapply (bc_todo V c 1)
    isplitl [Hb]; · iexact Hb
    isplitl [Hdst]; · iexact Hdst
    iexact Htk
  iintro ⟨Ho, Hbd⟩
  ihave Hbd := (Entails.of_eq (bc_pull V c 1)) $$ Hbd
  icases Hbd with ⟨Hb, Hcr⟩
  iapply (loop V K c (outStep c v74) (fun _ => 0) (outTodo V c X1) (outDone V c X1 Y)
    (fun j l k => st_out V K c v74 X1 Y hY j hn3 k) _ rows) $$ [Ho Hw3 Hb Hx Hout]
  · isplitr; · iexact Hc
    isplitl [Ho]; · iexact Ho
    iapply (Entails.of_eq hot.symm)
    isplitl [Hw3]; · iexact Hw3
    isplitl [Hb]; · iexact Hb
    isplitl [Hx] <;> iassumption
  iintro ⟨Ho, Hod⟩
  ihave Hod := (Entails.of_eq hod) $$ Hod
  icases Hod with ⟨HrR1, Hz3, Hx, Hout⟩
  iapply (wp_drains V K c) $$ [Ho Hl0 Hl2 Hl01 Hp Hsc Hl21 Hcr]
  · isplitr; · iexact Hc
    isplitl [Ho]; · iexact Ho
    isplitl [Hl0]; · iexact Hl0
    isplitl [Hl2]; · iexact Hl2
    isplitl [Hl01 Hp Hsc]
    · isplitl [Hl01]; · iexact Hl01
      iapply (Entails.of_eq (sc_pull V c 1).symm)
      isplitl [Hp]; · iexact Hp
      iexact Hsc
    iapply (Entails.of_eq hwi.symm)
    isplitl [Hl21] <;> iassumption
  iintro ⟨Ho, H00, Hb0, H01, Hb1⟩
  iapply Hk
  isplitl [Ho]; · iexact Ho
  isplitl [H00]; · iexact H00
  isplitl [Hb0 HrR]
  · iapply (bc_back V c 0)
    isplitl [HrR] <;> iassumption
  isplitl [H01]; · iexact H01
  isplitl [Hb1 HrR1]
  · iapply (bc_back V c 1)
    isplitl [HrR1] <;> iassumption
  isplitl [Ha Hz1]
  · isplitl [Ha]
    · iexists _; iexact Ha
    iexact Hz1
  isplitl [Hz3]; · iexact Hz3
  isplitl [Hx]
  · iexists _; iapply (x1_join c X1); iexact Hx
  iapply (out_join c Y); iexact Hout

/-! ## The first exchange and the feed-forward layer -/

/-- What stays aside until the second exchange. -/
def after1 : sProp 𝕄 :=
  iprop((BR fun j => at0 c (0, 0, j)) ∗ (BR fun j => at0 c (2, 0, j)) ∗ (BR fun j => at0 c (0, 1, j)) ∗ (BR fun j => at0 c (2, 1, j))
    ∗ rowE (F := F) c a2M c ∗ (BR fun j => wIn c (1, 1, j)) ∗ rowE (F := F) c b2M c
    ∗ (BR fun j => oth c j (dstE (F := F) c b2M j)) ∗ (BR fun j => oth c j (toks c 2 3 1 j)) ∗ (BR fun j => wIn c (3, 1, j))
    ∗ (BR fun j => iprop(∃ X, outB (F := F) c j X)))

theorem wp_tail1 (v71 v72 v73 v74 : FVec F S2x768 .f32) (v77 : FVec F S1024x768 .bf16) (f1 : Vec F S768x192 .bf16) (f2 : Vec F S192x768 .bf16)
    (X1 : Fin 16 → Vec F S64x768 .f32) (Y : Fin 16 → Vec F S1x64x768 .f32)
    (hR0 : V.R 0 c = k0_pay37 (cat fun s => V.P 0 (s : Dev nD) c)) (hX : ∀ j : Fin 16, X1 j = x1Pay j v71 v77 (V.R 0 (j : Dev nD)))
    (hP : ∀ j : Fin 16, V.P 1 c j = mlpPay j v71 v72 v73 v77 (k0_pay38 f1) (k0_pay39 f2) (V.R 0 (j : Dev nD)))
    (hR : V.R 1 c = k0_pay37 (cat fun s => V.P 1 (s : Dev nD) c)) (hY : ∀ j : Fin 16, Y j = outPay j v74 (X1 j) (V.R 1 (j : Dev nD)))
    {Q : PUnit → sProp 𝕄} :
    iprop(ctx V K ∗ owesE c (O2 c) ∗ BR (scDone V c 0) ∗ rowE (F := F) c aM c ∗ (BR fun j => wIn c (1, 0, j)) ∗ rowE (F := F) c bM c
        ∗ (BR fun j => oth c j (dstE (F := F) c bM j)) ∗ (BR fun j => oth c j (toks c 2 3 0 j)) ∗ (BR fun j => wIn c (3, 0, j))
        ∗ (own c f1M f1 ∗ own c f2M f2)
        ∗ (BR fun j => iprop(∃ X, x1B (F := F) c j X)) ∗ (BR fun j => rowE (F := F) c p2M j) ∗ (BR fun j => oth c j (dstE (F := F) c a2M j))
        ∗ (BR fun j => oth c j (toks c 0 1 1 j)) ∗ after1 c)
      ⊢ iprop(((owesE c 0 ∗ (ownE (F := F) c aM ∗ BR fun j => z c (1, 0, j)) ∗ (BR fun j => z c (3, 0, j)) ∗ (own c f1M f1 ∗ own c f2M f2)
        ∗ (ownE (F := F) c pM ∗ BR fun j => z c (0, 0, j)) ∗ (ownE (F := F) c bM ∗ BR fun j => z c (2, 0, j))
        ∗ (ownE (F := F) c p2M ∗ BR fun j => z c (0, 1, j)) ∗ (ownE (F := F) c b2M ∗ BR fun j => z c (2, 1, j))
        ∗ (ownE (F := F) c a2M ∗ BR fun j => z c (1, 1, j)) ∗ (BR fun j => z c (3, 1, j))
        ∗ ownE (F := F) c x1M ∗ own c outM (catO Y)) -∗ Q ⟨⟩) -∗ WP c (tail1 c v71 v72 v73 v74 v77) Q) := by
  have hpay : ∀ v : Vec F S1x64x768 .bf16, k0_pay36 v = v := fun v => shapeCast_shapeCast v _ _
  have hw1 : (BR fun j => iprop(wIn c (1, 0, j) ∗ slf c j (row c (accM 0) j fullShare (V.P 0 (j : Dev nD) c))) : sProp 𝕄)
      = iprop((BR fun j => wIn c (1, 0, j)) ∗ row c aM c fullShare (V.P 0 c c)) := by
    rw [BR_sep, BR_slf c fun j => row c (accM 0) j fullShare (V.P 0 (j : Dev nD) c)]; rfl
  have hd1 : (BR fun j => iprop(row c (accM 0) j fullShare (V.P 0 (j : Dev nD) c) ∗ z c (1, 0, j)) : sProp 𝕄)
      = iprop((BR fun j => row c aM j fullShare (V.P 0 (j : Dev nD) c)) ∗ BR fun j => z c (1, 0, j)) := by rw [BR_sep]; rfl
  have hmt : (BR (mlpTodo V c) : sProp 𝕄) = iprop((BR fun j => wIn c (3, 0, j)) ∗ row c (redM 0) c (leafQ c) (V.R 0 c)
      ∗ (BR fun j => iprop(∃ X, x1B (F := F) c j X)) ∗ (BR fun j => rowE (F := F) c p2M j) ∗ (BR fun j => oth c j (dstE (F := F) c a2M j))
      ∗ (BR fun j => oth c j (toks c 0 1 1 j))) := by
    unfold mlpTodo; rw [BR_sep, BR_sep, BR_sep, BR_sep, BR_sep, BR_slf c fun _ => row c (redM 0) c (leafQ c) (V.R 0 c)]; rfl
  have hmd : (BR (mlpDone V c X1) : sProp 𝕄) = iprop((BR fun j => rowR V c 0 j) ∗ (BR fun j => z c (3, 0, j))
      ∗ (BR fun j => x1B c j (X1 j)) ∗ BR (scDone V c 1)) := by
    unfold mlpDone; rw [BR_sep, BR_sep, BR_sep]
  have hwi : (BR fun j => wIn c (2, 0, j) : sProp 𝕄) = iprop((BR fun j => at0 c (2, 0, j)) ∗ BR fun j => oth c j (cred (tallyAt (dcell c (2, 0, j)) () N))) := by
    rw [← BR_sep]; rfl
  have hn1 : ∀ j : Fin 16, lv (dcell c (1, 0, j)) () ≤ 2 := fun j => (lv_dma c (1, 0, j) ()).le
  have hn3 : ∀ j : Fin 16, lv (dcell c (3, 0, j)) () ≤ 3 := fun j => (lv_dma c (3, 0, j) ()).le
  unfold tail1 after1
  iintro ⟨#Hc, Ho, Hsc, ⟨%A, Ha⟩, Hw1, ⟨%B, Hb⟩, Hdst, Htk, Hw3, ⟨Hf1, Hf2⟩, Hx, Hp2, Hd2, Ht2, Hl0, Hl2, Hl01, Hl21, Hrest⟩ Hk
  ihave Hsc := (Entails.of_eq (sc_pull V c 0)) $$ Hsc
  icases Hsc with ⟨Hp, Hsc⟩
  iapply (wp_ldMy c pM fullShare (X := V.P 0 c c)) $$ [Hp]
  · iexact Hp
  iintro Hp
  iapply (wp_ldMy c aM fullShare (X := A)) $$ Ha
  iintro Ha
  iapply (wp_stMy c aM _ (X := A)) $$ Ha
  iintro Ha
  rw [hpay]
  iapply (loop V K c (rcvWait scRecvA aM (Memref.isWhole_whole _) 0 c) (fun _ => O2 c)
    (fun j => iprop(wIn c (1, 0, j) ∗ slf c j (row c (accM 0) j fullShare (V.P 0 (j : Dev nD) c))))
    (fun j => iprop(row c (accM 0) j fullShare (V.P 0 (j : Dev nD) c) ∗ z c (1, 0, j)))
    (fun j l k => st_recv V K c aM _ 0 rfl 2 hn1 (above_O2 c) j k) _ rows) $$ [Ho Hw1 Ha]
  · isplitr; · iexact Hc
    isplitl [Ho]; · iexact Ho
    iapply (Entails.of_eq hw1.symm)
    isplitl [Hw1] <;> iassumption
  iintro ⟨Ho, Hd⟩
  ihave Hd := (Entails.of_eq hd1) $$ Hd
  icases Hd with ⟨Ha, Hz1⟩
  ihave Ha := (rows_join c aM fun s => V.P 0 (s : Dev nD) c) $$ Ha
  iapply (wp_ldfull c aM fullShare ![0, 0, 0] (by decide) _) $$ Ha
  iintro Ha
  iapply (wp_ldMy c bM fullShare (X := B)) $$ Hb
  iintro Hb
  iapply (wp_stMy c bM _ (X := B)) $$ Hb
  iintro Hb
  rw [← hR0]
  iapply (loop V K c (bcSend bM (Memref.isWhole_whole _) 0 c) (fun l => osum (dueD c 3 0) l (O3 c)) (bcTodo V c 0) (bcDone V c 0)
    (fun j l k => st_bc V K c bM _ 0 rfl _ j k) _ rows) $$ [Ho Hb Hdst Htk]
  · isplitr; · iexact Hc
    isplitl [Ho]; · iexact Ho
    iapply (bc_todo V c 0)
    isplitl [Hb]; · iexact Hb
    isplitl [Hdst]; · iexact Hdst
    iexact Htk
  iintro ⟨Ho, Hbd⟩
  ihave Hbd := (Entails.of_eq (bc_pull V c 0)) $$ Hbd
  icases Hbd with ⟨Hb, Hcr⟩
  iapply (wp_ldfull c f1M fullShare ![0, 0] (by decide) _) $$ Hf1
  iintro Hf1
  iapply (wp_ldfull c f2M fullShare ![0, 0] (by decide) _) $$ Hf2
  iintro Hf2
  iapply (loop V K c (mlpStep c v71 v72 v73 v77 (k0_pay38 f1) (k0_pay39 f2)) (fun l => osum (dueD c 1 1) l (O4 c)) (mlpTodo V c) (mlpDone V c X1)
    (fun j l k => st_mlp V K c v71 v72 v73 v77 _ _ X1 hX hP j (above_O3 c (j :: l)) hn3 k) _ rows) $$ [Ho Hw3 Hb Hx Hp2 Hd2 Ht2]
  · isplitr; · iexact Hc
    isplitl [Ho]; · iexact Ho
    iapply (Entails.of_eq hmt.symm)
    isplitl [Hw3]; · iexact Hw3
    isplitl [Hb]; · iexact Hb
    isplitl [Hx]; · iexact Hx
    isplitl [Hp2]; · iexact Hp2
    isplitl [Hd2] <;> iassumption
  iintro ⟨Ho, Hmd⟩
  ihave Hmd := (Entails.of_eq hmd) $$ Hmd
  icases Hmd with ⟨HrR, Hz3, Hx, Hsc1⟩
  icases Hrest with ⟨Ha2, Hw11, Hb2, Hdb2, Htb2, Hw31, Hout⟩
  iapply (wp_tail2 V K c v74 X1 Y hR hY) $$ [Ho Hsc1 Ha2 Hw11 Hb2 Hdb2 Htb2 Hw31 Hx Hout Hl0 Hp Hsc Hl2 Hcr HrR Hl01 Hl21]
  · isplitr; · iexact Hc
    isplitl [Ho]; · iexact Ho
    isplitl [Hsc1]; · iexact Hsc1
    isplitl [Ha2]; · iexact Ha2
    isplitl [Hw11]; · iexact Hw11
    isplitl [Hb2]; · iexact Hb2
    isplitl [Hdb2]; · iexact Hdb2
    isplitl [Htb2]; · iexact Htb2
    isplitl [Hw31]; · iexact Hw31
    isplitl [Hx]; · iexact Hx
    isplitl [Hout]; · iexact Hout
    unfold later
    isplitl [Hl0 Hp Hsc]
    · isplitl [Hl0]; · iexact Hl0
      iapply (Entails.of_eq (sc_pull V c 0).symm)
      isplitl [Hp]; · iexact Hp
      iexact Hsc
    isplitl [Hl2 Hcr]
    · iapply (Entails.of_eq hwi.symm)
      isplitl [Hl2] <;> iassumption
    isplitl [HrR]; · iexact HrR
    isplitl [Hl01] <;> iassumption
  iintro ⟨Ho, Hrest⟩
  iapply Hk
  isplitl [Ho]; · iexact Ho
  isplitl [Ha Hz1]
  · isplitl [Ha]
    · iexists _; iexact Ha
    iexact Hz1
  isplitl [Hz3]; · iexact Hz3
  isplitl [Hf1 Hf2]
  · isplitl [Hf1] <;> iassumption
  iexact Hrest

end Cert.KernelIdeal.Run
-- ==== Proof.Work.lean ====
/- The body for one device from its inputs: the values exchanged, the attention, and the whole. -/
module

public import proofs.«01_k».proof.Proof.Body

@[expose] public section

set_option maxRecDepth 20000

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The values -/

/-- Every device's inputs. -/
structure Ins (F : FTy → Type) where
  x : Dev nD → Vec F S2x512x768 .bf16
  wq : Dev nD → Vec F S768x384 .bf16
  wk : Dev nD → Vec F S768x384 .bf16
  wv : Dev nD → Vec F S768x384 .bf16
  wo : Dev nD → Vec F S384x768 .bf16
  te : Dev nD → Vec F S2x128 .bf16
  wm : Dev nD → Vec F S128x4608 .bf16
  f1 : Dev nD → Vec F S768x192 .bf16
  f2 : Dev nD → Vec F S192x768 .bf16

variable (I : Ins F)

/-- The normalised input. -/
def xn (c : Dev nD) : FVec F S2x512x768 .bf16 := k0_pay9 (k0_pay2 (I.te c) (I.wm c)) (k0_pay3 (I.te c) (I.wm c)) (I.x c)
/-- A batch's partial attention on a device. -/
def att8 (c : Dev nD) (b : Fin 2) : FVec F S8x64x768 .bf16 :=
  k0_pay23 (k0_pay10 (I.wo c)) (catH fun h => headPay h (proj b (xn I c) (I.wq c)) (proj b (xn I c) (I.wk c)) (proj b (xn I c) (I.wv c)))
/-- Block `j` of it, which goes to device `j`. -/
def part1 (c : Dev nD) (j : Fin 16) : Vec F S1x64x768 .bf16 := pick8 (att8 I c (bOf j)) j
/-- The sum over the devices of block `c`. -/
def red1 (c : Dev nD) : Vec F S1x64x768 .bf16 := k0_pay37 (cat fun s => part1 I (s : Dev nD) c)
/-- Block `j` of the input with the attention added, on device `c`. -/
def x1Of (c : Dev nD) (j : Fin 16) : Vec F S64x768 .f32 := x1Pay j (k0_pay4 (I.te c) (I.wm c)) (k0_pay8 (I.x c)) (red1 I (j : Dev nD))
/-- Block `j` of a device's part of the feed-forward layer. -/
def part2 (c : Dev nD) (j : Fin 16) : Vec F S1x64x768 .bf16 :=
  mlpPay j (k0_pay4 (I.te c) (I.wm c)) (k0_pay5 (I.te c) (I.wm c)) (k0_pay6 (I.te c) (I.wm c)) (k0_pay8 (I.x c)) (k0_pay38 (I.f1 c)) (k0_pay39 (I.f2 c)) (red1 I (j : Dev nD))
def red2 (c : Dev nD) : Vec F S1x64x768 .bf16 := k0_pay37 (cat fun s => part2 I (s : Dev nD) c)
/-- Block `j` of the result on device `c`. -/
def outOf (c : Dev nD) (j : Fin 16) : Vec F S1x64x768 .f32 := outPay j (k0_pay7 (I.te c) (I.wm c)) (x1Of I c j) (red2 I (j : Dev nD))
/-- The result on device `c`. -/
def resOf (c : Dev nD) : Vec F S2x512x768 .f32 := catO (outOf I c)

/-- The values of the exchange. -/
def vals : Vals F where
  P ph c j := match ph with | 0 => part1 I c j | 1 => part2 I c j
  R ph c := match ph with | 0 => red1 I c | 1 => red2 I c

variable (V : Vals F) (K : Dev nD × Option CI → ℕ) (c : Dev nD)

/-! ## A batch -/

theorem bigSepL_three {ι : Type} (A B C : ι → sProp 𝕄) : ∀ l : List ι,
    iprop(bigSepL l A ∗ bigSepL l B ∗ bigSepL l C) ⊢ (bigSepL l fun j => iprop(A j ∗ B j ∗ C j) : sProp 𝕄)
  | [] => by iintro -; iempintro
  | j :: l => by
    rw [bigSepL_cons', bigSepL_cons', bigSepL_cons', bigSepL_cons']
    iintro ⟨⟨Ha, Hla⟩, ⟨Hb, Hlb⟩, Hc, Hlc⟩
    isplitl [Ha Hb Hc]
    · isplitl [Ha]; · iexact Ha
      isplitl [Hb] <;> iassumption
    iapply (bigSepL_three A B C l)
    isplitl [Hla]; · iexact Hla
    isplitl [Hlb] <;> iassumption

theorem wp_batch (b : Fin 2) (js : List (Fin 16)) (hjs : rowsOf b = js) (v108 : FVec F S2x512x768 .bf16) (v110 : FVec F S384x768 .bf16)
    (wq wk wv : Vec F S768x384 .bf16) (O : CellTallies nD τ sig Unit)
    (hV : ∀ j ∈ js, pick8 (k0_pay23 v110 (catH fun h => headPay h (proj b v108 wq) (proj b v108 wk) (proj b v108 wv))) j = V.P 0 c j)
    (p : PR F) {Q : PUnit → sProp 𝕄} :
    iprop(ctx V K ∗ owesE c (osum (dueD c 1 0) js O) ∗ own c wqM wq ∗ own c wkM wk ∗ own c wvM wv ∗ ownE (F := F) c atM
        ∗ (∃ Y, owns (Val := Elt F) (c : Thread nD τ) (eightS b) fullShare Y)
        ∗ (bigSepL js fun j => oth c j (dstE (F := F) c aM j)) ∗ (bigSepL js fun j => oth c j (toks c 0 1 0 j)))
      ⊢ iprop(((owesE c O ∗ own c wqM wq ∗ own c wkM wk ∗ own c wvM wv ∗ ownE (F := F) c atM ∗ bigSepL js (scDone V c 0)) -∗ WP c p Q)
        -∗ WP c (batchStep b js c v108 v110 p) Q) := by
  subst hjs
  unfold batchStep ldW
  iintro ⟨#Hc, Ho, Hq, Hk, Hv, Hat, Hp, Hd, Ht⟩ Hwp
  iapply (wp_ldfull c wqM fullShare ![0, 0] (by decide) _) $$ Hq
  iintro Hq
  iapply (wp_ldfull c wkM fullShare ![0, 0] (by decide) _) $$ Hk
  iintro Hk
  iapply (wp_ldfull c wvM fullShare ![0, 0] (by decide) _) $$ Hv
  iintro Hv
  iapply (st_half c b v110 _ _ _ _) $$ [Hat Hp]
  · isplitl [Hat]; · iexact Hat
    iexact Hp
  iintro ⟨Hat, Hrows⟩
  have hr : (bigSepL (rowsOf b) fun j => row c pM j fullShare (pick8 (k0_pay23 v110 (catH fun h => headPay h (proj b v108 wq) (proj b v108 wk) (proj b v108 wv))) j) : sProp 𝕄)
      ⊢ (bigSepL (rowsOf b) fun j => row c (srcM 0) j fullShare (V.P 0 c j) : sProp 𝕄) :=
    bigSepL_mono fun j hj => by rw [hV j hj]; exact Entails.rfl
  ihave Hrows := hr $$ Hrows
  iapply (loop V K c (scSend pM aM (Memref.isWhole_whole _) (Memref.isWhole_whole _) 0 c) (fun l => osum (dueD c 1 0) l O) (scTodo V c 0) (scDone V c 0)
    (fun j l k => st_scat V K c pM aM _ _ 0 rfl rfl _ j k) _ (rowsOf b)) $$ [Ho Hrows Hd Ht]
  · isplitr; · iexact Hc
    isplitl [Ho]; · iexact Ho
    iapply (bigSepL_three (fun j => row c (srcM 0) j fullShare (V.P 0 c j)) (fun j => oth c j (dstE (F := F) c (accM 0) j)) (fun j => oth c j (toks c 0 1 0 j)) (rowsOf b))
    isplitl [Hrows]; · iexact Hrows
    isplitl [Hd]; · iexact Hd
    iexact Ht
  iintro ⟨Ho, Hs⟩
  iapply Hwp
  isplitl [Ho]; · iexact Ho
  isplitl [Hq]; · iexact Hq
  isplitl [Hk]; · iexact Hk
  isplitl [Hv]; · iexact Hv
  isplitl [Hat]; · iexact Hat
  iexact Hs

/-! ## All the work -/

/-- A device's inputs in their buffers. -/
def insAt : sProp 𝕄 :=
  iprop(own c xM (I.x c) ∗ own c wqM (I.wq c) ∗ own c wkM (I.wk c) ∗ own c wvM (I.wv c) ∗ own c woM (I.wo c)
    ∗ own c teM (I.te c) ∗ own c wmM (I.wm c) ∗ own c f1M (I.f1 c) ∗ own c f2M (I.f2 c))

/-- The places, payments and credits of a device's own copy cells. -/
def cells0 : sProp 𝕄 :=
  iprop(((BR fun j => at0 c (0, 0, j)) ∗ (BR fun j => at0 c (2, 0, j)) ∗ (BR fun j => at0 c (0, 1, j)) ∗ (BR fun j => at0 c (2, 1, j)))
    ∗ ((BR fun j => wIn c (1, 0, j)) ∗ (BR fun j => wIn c (3, 0, j)) ∗ (BR fun j => wIn c (1, 1, j)) ∗ (BR fun j => wIn c (3, 1, j)))
    ∗ ((BR fun j => oth c j (toks c 0 1 0 j)) ∗ (BR fun j => oth c j (toks c 2 3 0 j)) ∗ (BR fun j => oth c j (toks c 0 1 1 j)) ∗ (BR fun j => oth c j (toks c 2 3 1 j))))

/-- The other devices' rows for a device to fill. -/
def dsts : sProp 𝕄 :=
  iprop((BR fun j => oth c j (dstE (F := F) c aM j)) ∗ (BR fun j => oth c j (dstE (F := F) c bM j))
    ∗ (BR fun j => oth c j (dstE (F := F) c a2M j)) ∗ (BR fun j => oth c j (dstE (F := F) c b2M j)))

/-- The device's own rows of the exchanged buffers. -/
def myRows : sProp 𝕄 :=
  iprop(rowE (F := F) c aM c ∗ rowE (F := F) c bM c ∗ rowE (F := F) c a2M c ∗ rowE (F := F) c b2M c)

/-- All the copy cells at their end. -/
def cellsZ : sProp 𝕄 :=
  iprop(((BR fun j => z c (0, 0, j)) ∗ (BR fun j => z c (2, 0, j)) ∗ (BR fun j => z c (0, 1, j)) ∗ (BR fun j => z c (2, 1, j)))
    ∗ ((BR fun j => z c (1, 0, j)) ∗ (BR fun j => z c (3, 0, j)) ∗ (BR fun j => z c (1, 1, j)) ∗ (BR fun j => z c (3, 1, j))))

/-- The eight scratch buffers. -/
def bufs : sProp 𝕄 :=
  iprop(ownE (F := F) c pM ∗ ownE (F := F) c aM ∗ ownE (F := F) c bM ∗ ownE (F := F) c p2M ∗ ownE (F := F) c a2M ∗ ownE (F := F) c b2M
    ∗ ownE (F := F) c atM ∗ ownE (F := F) c x1M)

theorem wp_work {Q : PUnit → sProp 𝕄} :
    iprop(ctx (vals I) K ∗ owesE c (O1 c) ∗ insAt I c ∗ cells0 c ∗ dsts c ∗ myRows c
        ∗ (ownE (F := F) c pM ∗ ownE (F := F) c p2M ∗ ownE (F := F) c atM ∗ ownE (F := F) c x1M ∗ ownE (F := F) c outM))
      ⊢ iprop(((owesE c 0 ∗ insAt I c ∗ cellsZ c ∗ bufs c ∗ own c outM (resOf I c)) -∗ Q ⟨⟩) -∗ WP c (work c) Q) := by
  unfold work insAt cells0 dsts myRows
  iintro ⟨#Hc, Ho, ⟨Hx, Hq, Hk, Hv, Hwo, Hte, Hwm, Hf1, Hf2⟩, ⟨⟨Ha00, Ha20, Ha01, Ha21⟩, ⟨Hw10, Hw30, Hw11, Hw31⟩, Ht0, Ht2, Ht01, Ht21⟩,
    ⟨Hda, Hdb, Hda2, Hdb2⟩, ⟨Hra, Hrb, Hra2, Hrb2⟩, ⟨%P, Hp⟩, ⟨%P2, Hp2⟩, Hat, ⟨%X, Hx1⟩, ⟨%Y, Hout⟩⟩ Hwp
  iapply (wp_ldfull c teM fullShare ![0, 0] (by decide) _) $$ Hte
  iintro Hte
  iapply (wp_ldfull c wmM fullShare ![0, 0] (by decide) _) $$ Hwm
  iintro Hwm
  iapply (wp_ldfull c xM fullShare ![0, 0, 0] (by decide) _) $$ Hx
  iintro Hx
  iapply (wp_ldfull c woM fullShare ![0, 0] (by decide) _) $$ Hwo
  iintro Hwo
  ihave Hp := (eights_split c P) $$ Hp
  icases Hp with ⟨He0, He1⟩
  ihave Hda := (Entails.of_eq (BR_lohi fun j => oth c j (dstE (F := F) c aM j))) $$ Hda
  icases Hda with ⟨Hd0, Hd1⟩
  ihave Ht0 := (Entails.of_eq (BR_lohi (F := F) fun j => oth c j (toks c 0 1 0 j))) $$ Ht0
  icases Ht0 with ⟨Ht0, Ht1⟩
  iapply (wp_batch (vals I) K c 0 rowsLo rfl _ _ (I.wq c) (I.wk c) (I.wv c) (osum (dueD c 1 0) rowsHi (O2 c))
    (by
      have h : ∀ j ∈ rowsLo, bOf j = 0 := by decide
      intro j hj; show _ = pick8 (att8 I c (bOf j)) j; rw [h j hj]; rfl) _) $$ [Ho Hq Hk Hv Hat He0 Hd0 Ht0]
  · isplitr; · iexact Hc
    isplitl [Ho]; · iexact Ho
    isplitl [Hq]; · iexact Hq
    isplitl [Hk]; · iexact Hk
    isplitl [Hv]; · iexact Hv
    isplitl [Hat]; · iexact Hat
    isplitl [He0]; · iexact He0
    isplitl [Hd0] <;> iassumption
  iintro ⟨Ho, Hq, Hk, Hv, Hat, Hs0⟩
  iapply (wp_batch (vals I) K c 1 rowsHi rfl _ _ (I.wq c) (I.wk c) (I.wv c) (O2 c)
    (by
      have h : ∀ j ∈ rowsHi, bOf j = 1 := by decide
      intro j hj; show _ = pick8 (att8 I c (bOf j)) j; rw [h j hj]; rfl) _) $$ [Ho Hq Hk Hv Hat He1 Hd1 Ht1]
  · isplitr; · iexact Hc
    isplitl [Ho]; · iexact Ho
    isplitl [Hq]; · iexact Hq
    isplitl [Hk]; · iexact Hk
    isplitl [Hv]; · iexact Hv
    isplitl [Hat]; · iexact Hat
    isplitl [He1]; · iexact He1
    isplitl [Hd1] <;> iassumption
  iintro ⟨Ho, Hq, Hk, Hv, Hat, Hs1⟩
  ihave Hx1 := (x1_split c X) $$ Hx1
  ihave Hp2 := (rows_split c p2M P2) $$ Hp2
  ihave Hout := (out_split c Y) $$ Hout
  iapply (wp_tail1 (vals I) K c _ _ _ _ _ (I.f1 c) (I.f2 c) (x1Of I c) (outOf I c) rfl (fun _ => rfl) (fun _ => rfl) rfl (fun _ => rfl))
    $$ [Ho Hs0 Hs1 Hra Hw10 Hrb Hdb Ht2 Hw30 Hf1 Hf2 Hx1 Hp2 Hda2 Ht01 Ha00 Ha20 Ha01 Ha21 Hra2 Hw11 Hrb2 Hdb2 Ht21 Hw31 Hout]
  · isplitr; · iexact Hc
    isplitl [Ho]; · iexact Ho
    isplitl [Hs0 Hs1]
    · iapply (Entails.of_eq (BR_lohi (scDone (vals I) c 0)).symm)
      isplitl [Hs0] <;> iassumption
    isplitl [Hra]; · iexact Hra
    isplitl [Hw10]; · iexact Hw10
    isplitl [Hrb]; · iexact Hrb
    isplitl [Hdb]; · iexact Hdb
    isplitl [Ht2]; · iexact Ht2
    isplitl [Hw30]; · iexact Hw30
    isplitl [Hf1 Hf2]
    · isplitl [Hf1] <;> iassumption
    isplitl [Hx1]; · iexact Hx1
    isplitl [Hp2]; · iexact Hp2
    isplitl [Hda2]; · iexact Hda2
    isplitl [Ht01]; · iexact Ht01
    unfold after1
    isplitl [Ha00]; · iexact Ha00
    isplitl [Ha20]; · iexact Ha20
    isplitl [Ha01]; · iexact Ha01
    isplitl [Ha21]; · iexact Ha21
    isplitl [Hra2]; · iexact Hra2
    isplitl [Hw11]; · iexact Hw11
    isplitl [Hrb2]; · iexact Hrb2
    isplitl [Hdb2]; · iexact Hdb2
    isplitl [Ht21]; · iexact Ht21
    isplitl [Hw31] <;> iassumption
  iintro ⟨Ho, ⟨Ha, Hz10⟩, Hz30, ⟨Hf1, Hf2⟩, ⟨Hp, Hz00⟩, ⟨Hb, Hz20⟩, ⟨Hp2, Hz01⟩, ⟨Hb2, Hz21⟩, ⟨Ha2, Hz11⟩, Hz31, Hx1, Hout⟩
  iapply Hwp
  isplitl [Ho]; · iexact Ho
  isplitl [Hx Hq Hk Hv Hwo Hte Hwm Hf1 Hf2]
  · isplitl [Hx]; · iexact Hx
    isplitl [Hq]; · iexact Hq
    isplitl [Hk]; · iexact Hk
    isplitl [Hv]; · iexact Hv
    isplitl [Hwo]; · iexact Hwo
    isplitl [Hte]; · iexact Hte
    isplitl [Hwm]; · iexact Hwm
    isplitl [Hf1] <;> iassumption
  unfold cellsZ bufs
  isplitl [Hz10 Hz30 Hz00 Hz20 Hz01 Hz21 Hz11 Hz31]
  · isplitl [Hz00 Hz20 Hz01 Hz21]
    · isplitl [Hz00]; · iexact Hz00
      isplitl [Hz20]; · iexact Hz20
      isplitl [Hz01] <;> iassumption
    isplitl [Hz10]; · iexact Hz10
    isplitl [Hz30]; · iexact Hz30
    isplitl [Hz11] <;> iassumption
  isplitr [Hout]
  · isplitl [Hp]; · iexact Hp
    isplitl [Ha]; · iexact Ha
    isplitl [Hb]; · iexact Hb
    isplitl [Hp2]; · iexact Hp2
    isplitl [Ha2]; · iexact Ha2
    isplitl [Hb2]; · iexact Hb2
    isplitl [Hat] <;> iassumption
  iexact Hout

/-! ## The signals -/

theorem sd_ne (c : Dev nD) (k : Fin 15) : sd c k ≠ c := by revert c k; decide +kernel

/-- The others, in the order of the signals. -/
theorem others_eq (c : Dev nD) : Finset.univ.erase c = (sigs.map (sd c)).toFinset := by revert c; decide +kernel
theorem others_nodup (c : Dev nD) : (sigs.map (sd c)).Nodup := by revert c; decide +kernel

theorem others_sigs (Ψ : Dev nD → sProp 𝕄) : bigSep (Finset.univ.erase c) Ψ = bigSepL sigs fun k => Ψ (sd c k) := by
  rw [bigSep_eq_bigSepL_of_eq _ (others_eq c) (others_nodup c), bigSepL_map]

theorem oth_sep (j : Fin 16) (A B : sProp 𝕄) : oth c j iprop(A ∗ B) = iprop(oth c j A ∗ oth c j B) := by
  by_cases h : j = c
  · subst h; rw [oth_self, oth_self, oth_self, emp_sep_eq]
  · rw [oth_ne c h, oth_ne c h, oth_ne c h]

theorem BR_oth_sep (Φ Ψ : Fin 16 → sProp 𝕄) : (BR fun j => oth c j iprop(Φ j ∗ Ψ j)) = iprop((BR fun j => oth c j (Φ j)) ∗ BR fun j => oth c j (Ψ j)) := by
  rw [← BR_sep]; exact BR_congr fun j => oth_sep c j _ _

/-- What the barrier brings. -/
theorem bar_gives : (bigSep (Finset.univ.erase c) fun d => barPay (F := F) d c : sProp 𝕄) = dsts (F := F) c := by
  unfold dsts
  rw [← BR_oth_sep, ← BR_oth_sep, ← BR_oth_sep, BR_oth]; rfl

/-- The rows a device hands out. -/
theorem bar_takes : iprop(ownE (F := F) c aM ∗ ownE (F := F) c bM ∗ ownE (F := F) c a2M ∗ ownE (F := F) c b2M)
    ⊢ (iprop(myRows c ∗ bigSepL sigs fun k => barPay (F := F) c (sd c k)) : sProp 𝕄) := by
  have h : (bigSepL sigs fun k => barPay (F := F) c (sd c k) : sProp 𝕄) = iprop((BR fun j => oth c j (rowE (F := F) c aM j)) ∗ (BR fun j => oth c j (rowE (F := F) c bM j))
      ∗ (BR fun j => oth c j (rowE (F := F) c a2M j)) ∗ (BR fun j => oth c j (rowE (F := F) c b2M j))) := by
    rw [← BR_oth_sep, ← BR_oth_sep, ← BR_oth_sep, BR_oth, ← others_sigs]; rfl
  have hs : ∀ (m : Memref sig .tc .vmem S16x64x768 .bf16), (ownE (F := F) c m : sProp 𝕄) ⊢ iprop(rowE (F := F) c m c ∗ BR fun j => oth c j (rowE (F := F) c m j)) := fun m => by
    iintro ⟨%X, H⟩
    ihave H := (rows_split c m X) $$ H
    iapply (Entails.of_eq (BR_pull c fun j => rowE (F := F) c m j))
    iexact H
  rw [h]
  unfold myRows
  iintro ⟨Ha, Hb, Ha2, Hb2⟩
  ihave Ha := (hs aM) $$ Ha
  icases Ha with ⟨Ha, Hao⟩
  ihave Hb := (hs bM) $$ Hb
  icases Hb with ⟨Hb, Hbo⟩
  ihave Ha2 := (hs a2M) $$ Ha2
  icases Ha2 with ⟨Ha2, Ha2o⟩
  ihave Hb2 := (hs b2M) $$ Hb2
  icases Hb2 with ⟨Hb2, Hb2o⟩
  isplitl [Ha Hb Ha2 Hb2]
  · isplitl [Ha]; · iexact Ha
    isplitl [Hb]; · iexact Hb
    isplitl [Ha2] <;> iassumption
  isplitl [Hao]; · iexact Hao
  isplitl [Hbo]; · iexact Hbo
  isplitl [Ha2o] <;> iassumption

/-- A device's payments of the barrier, its place there and its credit. -/
def bar0 : sProp 𝕄 :=
  iprop((bigSepL sigs fun k => dutyTok ER (barCell (sd c k)) 0 c) ∗ atPos ER (barCell c) 0 ∅ 0 ∗ cred (tallyAt (barCell c) () 15))

theorem bigSepL_two {ι : Type} (A B : ι → sProp 𝕄) : ∀ l : List ι,
    iprop(bigSepL l A ∗ bigSepL l B) ⊢ (bigSepL l fun j => iprop(A j ∗ B j) : sProp 𝕄)
  | [] => by iintro -; iempintro
  | j :: l => by
    rw [bigSepL_cons', bigSepL_cons', bigSepL_cons']
    iintro ⟨⟨Ha, Hla⟩, Hb, Hlb⟩
    isplitl [Ha Hb]
    · isplitl [Ha] <;> iassumption
    iapply (bigSepL_two A B l)
    isplitl [Hla] <;> iassumption

theorem wp_bodyAt {Q : PUnit → sProp 𝕄} :
    iprop(ctx (vals I) K ∗ owesE c (O0 c) ∗ bar0 c ∗ cells0 c ∗ insAt I c ∗ bufs c ∗ ownE (F := F) c outM)
      ⊢ iprop(((owesE c 0 ∗ insAt I c ∗ (semVal (barCell c) 0 ∗ cellsZ c) ∗ bufs c ∗ own c outM (resOf I c)) -∗ Q ⟨⟩) -∗ WP c (bodyAt c) Q) := by
  unfold bodyAt bar0
  iintro ⟨#Hc, Ho, ⟨Htok, Hat, Hcr⟩, Hcells, Hins, Hbufs, Hout⟩ Hwp
  unfold bufs
  icases Hbufs with ⟨Hp, Ha, Hb, Hp2, Ha2, Hb2, Hatt, Hx1⟩
  ihave Hrows := (bar_takes (F := F) c) $$ [Ha Hb Ha2 Hb2]
  · isplitl [Ha]; · iexact Ha
    isplitl [Hb]; · iexact Hb
    isplitl [Ha2] <;> iassumption
  icases Hrows with ⟨Hmy, Hpay⟩
  iapply (loop (vals I) K c (sigStep c) (fun l => osum (dueB c) l (O1 c)) (fun k => iprop(dutyTok ER (barCell (sd c k)) 0 c ∗ barPay (F := F) c (sd c k))) (fun _ => iprop(emp))
    (fun j l k => by
      iintro ⟨#Hc, Ho, Ht, Hp⟩ Hk
      iapply (wp_sig (vals I) K c j (sd_ne c j)) $$ [Ho Ht Hp]
      · isplitr; · iexact Hc
        isplitl [Ho]; · iexact Ho
        isplitl [Ht] <;> iassumption
      iintro Ho
      iapply Hk
      isplitl [Ho]; · iexact Ho
      iempintro) _ sigs) $$ [Ho Htok Hpay]
  · isplitr; · iexact Hc
    isplitl [Ho]; · iexact Ho
    iapply (bigSepL_two (fun k => dutyTok ER (barCell (sd c k)) 0 c) (fun k => barPay (F := F) c (sd c k)) sigs)
    isplitl [Htok] <;> iassumption
  iintro ⟨Ho, -⟩
  iapply (wp_bar (vals I) K c (above_O1 c)) $$ [Ho Hat Hcr]
  · isplitr; · iexact Hc
    isplitl [Ho]; · iexact Ho
    isplitl [Hat] <;> iassumption
  iintro ⟨Ho, Hz, Hd⟩
  ihave Hd := (Entails.of_eq (bar_gives (F := F) c)) $$ Hd
  iapply (wp_work I K c) $$ [Ho Hins Hcells Hd Hmy Hp Hp2 Hatt Hx1 Hout]
  · isplitr; · iexact Hc
    isplitl [Ho]; · iexact Ho
    isplitl [Hins]; · iexact Hins
    isplitl [Hcells]; · iexact Hcells
    isplitl [Hd]; · iexact Hd
    isplitl [Hmy]; · iexact Hmy
    isplitl [Hp]; · iexact Hp
    isplitl [Hp2]; · iexact Hp2
    isplitl [Hatt]; · iexact Hatt
    isplitl [Hx1] <;> iassumption
  iintro ⟨Ho, Hins, Hcz, Hbufs, Hout⟩
  iapply Hwp
  isplitl [Ho]; · iexact Ho
  isplitl [Hins]; · iexact Hins
  isplitl [Hz Hcz]
  · isplitl [Hz] <;> iassumption
  isplitl [Hbufs]; · unfold bufs; iexact Hbufs
  iexact Hout

end Cert.KernelIdeal.Run
-- ==== Proof.Launch.lean ====
/- The start of the run: the cells' invariants, the payments dealt to the devices that make them, and the credits. -/
module

public import proofs.«01_k».proof.Proof.Work
public import proofs.«01_k».proof.Proof.Gen.KernelIdeal.Launch
public import Idealize.ShloMosaic.Lib.Pipeline.Launch
public import Idealize.ShloMosaic.Lib.Pipeline.Kit

@[expose] public section

set_option maxRecDepth 20000

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

/-! ## Conjunctions over the cells -/

section Big

variable {M : Type} [URA M]

theorem big_option {J : Type} [Fintype J] [DecidableEq J] (Φ : Option J → sProp M) :
    bigSep Finset.univ Φ = iprop(Φ none ∗ bigSep Finset.univ fun i => Φ (some i)) := by
  have h : (Finset.univ : Finset (Option J)) = insert none (Finset.univ.map Function.Embedding.some) := by
    ext x; cases x <;> simp
  rw [h, bigSep_insert (by simp), bigSep_map]; rfl

theorem big_two (Φ : Fin 2 → sProp M) : bigSep Finset.univ Φ = iprop(Φ 0 ∗ Φ 1) := bigSep_univ_eq_bigSepL [0, 1] (by decide) (by decide) Φ
theorem big_four (Φ : Fin 4 → sProp M) : bigSep Finset.univ Φ = iprop(Φ 0 ∗ Φ 1 ∗ Φ 2 ∗ Φ 3) := bigSep_univ_eq_bigSepL [0, 1, 2, 3] (by decide) (by decide) Φ

end Big

/-- All copy cells of a device by array and phase. -/
theorem ci_eq (Φ : CI → sProp 𝕄) : bigSep Finset.univ Φ = iprop(((BR fun j => Φ (0, 0, j)) ∗ BR fun j => Φ (0, 1, j)) ∗ ((BR fun j => Φ (1, 0, j)) ∗ BR fun j => Φ (1, 1, j))
    ∗ ((BR fun j => Φ (2, 0, j)) ∗ BR fun j => Φ (2, 1, j)) ∗ ((BR fun j => Φ (3, 0, j)) ∗ BR fun j => Φ (3, 1, j))) := by
  rw [bigSep_univ_prod, big_four]
  simp only [bigSep_univ_prod, big_two, BR_eq]

theorem BR_drop (c : Dev nD) (Φ : Fin 16 → sProp 𝕄) : BR Φ ⊢ BR fun j => oth c j (Φ j) := BR_mono fun j => by
  by_cases h : j = c
  · rw [show oth c j (Φ j) = (iprop(emp) : sProp 𝕄) from if_pos h]; iintro -; iempintro
  · rw [oth_ne c h]

variable (V : Vals F)

/-! ## The cells -/

/-- A device's own copy semaphores. -/
abbrev osem : CI → SemLoc sig := fun i => .dma (dsem i)

theorem ownSemFacts : Pipeline.OwnSemFacts cfg0.spec osem where
  isScoped := by decide +kernel
  inj i j h := dsem_inj (SemLoc.dma.inj h)
  disj := by decide +kernel

theorem kcell_injective : Function.Injective (kcell : Dev nD × Option CI → GSem nD τ sig) := by
  rintro ⟨c, k⟩ ⟨c', k'⟩ h
  have h1 : c = c' := by
    have := congrArg (fun g : GSem nD τ sig => g.1.1) h
    cases k <;> cases k' <;> exact this
  subst h1
  have h2 := congrArg Prod.snd h
  cases k with
  | none => cases k' with
    | none => rfl
    | some i => cases h2
  | some i => cases k' with
    | none => cases h2
    | some j => rw [dsem_inj (SemLoc.dma.inj h2)]
def allCells : Finset (GSem nD τ sig) := Finset.univ.map ⟨kcell, kcell_injective⟩

/-- The payments of a device's own cells. -/
abbrev tokOf (ck : Dev nD × (Fin 16 ⊕ CI)) : GSem nD τ sig × ℕ × Fin 16 := match ck.2 with
  | .inl d => (barCell ck.1, 0, d)
  | .inr i => (dcell ck.1 i, 0, i.2.2)
theorem tokOf_injective : Function.Injective (tokOf : Dev nD × (Fin 16 ⊕ CI) → GSem nD τ sig × ℕ × Fin 16) := by
  rintro ⟨c, k⟩ ⟨c', k'⟩ h
  have h1 : c = c' := by
    have := congrArg (fun x : GSem nD τ sig × ℕ × Fin 16 => x.1.1.1) h
    cases k <;> cases k' <;> exact this
  subst h1
  have h2 := congrArg (fun x : GSem nD τ sig × ℕ × Fin 16 => x.1.2) h
  have h3 := congrArg (fun x : GSem nD τ sig × ℕ × Fin 16 => x.2.2) h
  cases k with
  | inl d => cases k' with
    | inl d' => rw [show d = d' from h3]
    | inr i => cases h2
  | inr i => cases k' with
    | inl d => cases h2
    | inr j => rw [dsem_inj (SemLoc.dma.inj h2)]
def allToks : Finset (GSem nD τ sig × ℕ × Fin 16) := Finset.univ.map ⟨tokOf, tokOf_injective⟩

def u₀ : UU :=
  (initOf (Pipeline.cells cfgs cellOf_inj) (Pipeline.launchToks cfgs cellOf_inj), initOf allCells allToks)

/-- The payments of a device's own cells. -/
def ownToks (c : Dev nD) : sProp 𝕄 :=
  iprop((bigSep Finset.univ fun d : Fin 16 => dutyTok ER (barCell c) 0 d) ∗ bigSep Finset.univ fun i : CI => dutyTok ER (dcell c i) 0 i.2.2)

/-- What each device has before the invariants are made. -/
def G (c : Dev nD) : sProp 𝕄 :=
  iprop((bigSep Finset.univ fun k : Option CI => roundState ER (Rd V) (kcell (c, k)) 0)
    ∗ (bigSep Finset.univ fun k : Option CI => iprop(atPos ER (kcell (c, k)) 0 ∅ 0 ∗ reached ER (kcell (c, k)) 0)) ∗ ownToks c)

theorem fund_cells : BI.own (ER (initOf allCells allToks)) ⊢ (|==> bigSep Finset.univ (G V) : sProp 𝕄) := by
  have hX (Φ : GSem nD τ sig → sProp 𝕄) : bigSep allCells Φ = bigSep Finset.univ fun c : Dev nD => bigSep Finset.univ fun k : Option CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    exact bigSep_congr fun c _ => by unfold ownToks; rw [bigSep_univ_sum]; rfl
  iintro HX
  imod (Rounds.fund ER (Rd V) allCells allToks) $$ HX with ⟨Hst, Hr, Hat, Htok⟩
  imodintro
  ihave Hst' := (Entails.of_eq (hX fun g => roundState ER (Rd V) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A device's own semaphores. -/
theorem ownSems0_eq (c : Dev nD) : (Pipeline.ownSems0 (Ix := Unit) (Name := ℕ) (U := UU) (Lvl := ℕ) (Val := Elt F) (τ := τ) osem c : sProp 𝕄)
    = bigSep Finset.univ fun i : CI => semVal (dcell c i) 0 := rfl
/-- The barrier's semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS.sem] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option CI => semVal (kcell (c, k)) 0 : sProp 𝕄) := by
  rw [ownSems0_eq, unscopedSems0_eq, big_option]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G V c)
      ⊢ |={Set.univ}=> iprop((bigSep Finset.univ fun k => iprop(∃ κ : ℕ, cellInv ER (Rd V) κ (kcell (c, k))))
          ∗ (bigSep Finset.univ fun k => iprop(atPos ER (kcell (c, k)) 0 ∅ 0 ∗ reached ER (kcell (c, k)) 0)) ∗ ownToks c) := by
  unfold G
  iintro ⟨Hos, Hus, Hst, Hat, Htok⟩
  ihave Hv := (sems0_eq (F := F) c) $$ [Hos Hus]
  · isplitl [Hos] <;> iassumption
  imod (show iprop((bigSep Finset.univ fun k : Option CI => semVal (kcell (c, k)) 0) ∗ bigSep Finset.univ fun k : Option CI => roundState ER (Rd V) (kcell (c, k)) 0)
      ⊢ (|={Set.univ}=> bigSep Finset.univ fun k => iprop(∃ κ : ℕ, cellInv ER (Rd V) κ (kcell (c, k))) : sProp 𝕄) from by
        rw [← bigSep_sep']
        exact (bigSep_mono fun k _ => (Rounds.body_intro ER (Rd V) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What all devices know of the cells. -/
def records (K : Dev nD × Option CI → ℕ) : sProp 𝕄 :=
  iprop((bigSep Finset.univ fun ck : Dev nD × Option CI => cellInv ER (Rd V) (K ck) (kcell ck))
    ∗ bigSep Finset.univ fun ck : Dev nD × Option CI => reached ER (kcell ck) 0)

instance records_persistent (K : Dev nD × Option CI → ℕ) : BI.Persistent (records V K) := by unfold records; infer_instance

/-- The payments device `c` makes on its own cells, and on the others' cells. -/
abbrev ownT (c : Dev nD) (a : Fin 4) (ph : Fin 2) : sProp 𝕄 := BR fun j => dutyTok ER (dcell c (a, ph, j)) 0 j
abbrev farT (c : Dev nD) (a : Fin 4) (ph : Fin 2) : sProp 𝕄 := BR fun j => dutyTok ER (dcell (j : Dev nD) (a, ph, c)) 0 c

/-- The payments device `c` makes. -/
def payToks (c : Dev nD) : sProp 𝕄 :=
  iprop((bigSep Finset.univ fun d : Dev nD => dutyTok ER (barCell d) 0 c) ∗ (ownT c 0 0 ∗ ownT c 0 1) ∗ (farT c 1 0 ∗ farT c 1 1)
    ∗ (ownT c 2 0 ∗ ownT c 2 1) ∗ (farT c 3 0 ∗ farT c 3 1))

theorem far_swap (a : Fin 4) (ph : Fin 2) : (bigSep Finset.univ fun c : Dev nD => ownT (F := F) c a ph : sProp 𝕄) = bigSep Finset.univ fun c : Dev nD => farT c a ph := by
  simp only [BR_eq]
  exact (bigSep_univ_comm fun (c : Fin 16) (j : Fin 16) => (dutyTok ER (dcell (c : Dev nD) (a, ph, j)) 0 j : sProp 𝕄))

theorem toks_around : (bigSep Finset.univ fun c : Dev nD => (ownToks c : sProp 𝕄)) = bigSep Finset.univ fun c : Dev nD => payToks c := by
  have h₁ : ∀ c : Dev nD, (ownToks c : sProp 𝕄) = iprop((bigSep Finset.univ fun d : Fin 16 => dutyTok ER (barCell c) 0 d) ∗ (ownT c 0 0 ∗ ownT c 0 1) ∗ (ownT c 1 0 ∗ ownT c 1 1)
      ∗ (ownT c 2 0 ∗ ownT c 2 1) ∗ (ownT c 3 0 ∗ ownT c 3 1)) := fun c => by unfold ownToks; rw [ci_eq]
  have h₂ : (bigSep Finset.univ fun c : Dev nD => bigSep Finset.univ fun d : Fin 16 => (dutyTok ER (barCell c) 0 d : sProp 𝕄))
      = bigSep Finset.univ fun c : Dev nD => bigSep Finset.univ fun d : Dev nD => dutyTok ER (barCell d) 0 c :=
    (bigSep_univ_comm fun (c : Fin 16) (j : Fin 16) => (dutyTok ER (barCell (c : Dev nD)) 0 j : sProp 𝕄))
  rw [bigSep_congr fun c _ => h₁ c]
  unfold payToks
  simp only [bigSep_sep']
  rw [h₂, far_swap 1 0, far_swap 1 1, far_swap 3 0, far_swap 3 1]

/-- What stays with a device: its places and the payments it makes. -/
def linear (c : Dev nD) : sProp 𝕄 := iprop((bigSep Finset.univ fun k : Option CI => atPos ER (kcell (c, k)) 0 ∅ 0) ∗ payToks c)

def G' (c : Dev nD) : sProp 𝕄 := iprop(∃ K, records V K ∗ linear c)

theorem with_records {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd V) κ (kcell (c, k))))
          ∗ (bigSep Finset.univ fun k => iprop(atPos ER (kcell (c, k)) 0 ∅ 0 ∗ reached ER (kcell (c, k)) 0)) ∗ ownToks c) : sProp 𝕄)
      ⊢ bigSep Finset.univ (G' V) := by
  rw [bigSep_sep', bigSep_sep', ← bigSep_univ_prod (fun ck : Dev nD × Option CI => iprop(∃ κ : ℕ, cellInv ER (Rd V) κ (kcell ck))),
    bigSep_congr (s := Finset.univ) (fun (c : Dev nD) _ => bigSep_sep' Finset.univ (fun k : Option CI => (atPos ER (kcell (c, k)) 0 ∅ 0 : sProp 𝕄)) (fun k => reached ER (kcell (c, k)) 0)),
    bigSep_sep', ← bigSep_univ_prod (fun ck : Dev nD × Option CI => (reached ER (kcell ck) 0 : sProp 𝕄))]
  iintro ⟨HI, ⟨Hat, #HR⟩, Htok⟩
  ihave HK := (BI.bigSep_exists_pi Finset.univ (fun (ck : Dev nD × Option CI) (κ : ℕ) => (cellInv ER (Rd V) κ (kcell ck) : sProp 𝕄))) $$ HI
  icases HK with ⟨%K, #HI⟩
  ihave Htk := (Entails.of_eq (toks_around (F := F))) $$ Htok
  iapply (with_records (R := records V K) fun c _ => show iprop(records V K ∗ linear c) ⊢ G' V c from by
    unfold G'; iintro H; iexists K; iexact H)
  isplitr
  · unfold records; isplitl; · iexact HI
    iexact HR
  · unfold linear
    iapply (Entails.of_eq (bigSep_sep' Finset.univ (fun c : Dev nD => bigSep Finset.univ fun k : Option CI => (atPos ER (kcell (c, k)) 0 ∅ 0 : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G V c) : sProp 𝕄)
    ⊢ |={Set.univ}=> bigSep Finset.univ (G' V) :=
  ((bigSep_mono fun c _ => core_alloc V c).trans (bigSep_fupd _ _)).trans (BI.fupd_mono (regroup V))

/-! ## The credits -/

theorem osum_apply {ι : Type} (f : ι → CellTallies nD τ sig Unit) (g : GSem nD τ sig) (u : Unit) : ∀ (l : List ι) (B : CellTallies nD τ sig Unit),
    osum f l B g u = B g u + (l.map fun j => f j g u).sum
  | [], B => by simp [osum]
  | j :: l, B => by
    rw [osum, Pi.add_apply, Finsupp.add_apply, osum_apply f g u l B, List.map_cons, List.sum_cons]; omega

theorem rows_sum (h : Fin 16 → ℕ) : (rows.map h).sum = ∑ j, h j := by
  rw [show (Finset.univ : Finset (Fin 16)) = rows.toFinset from by decide, List.sum_toFinset h (by decide)]

theorem dcell_eq_iff {a b : Dev nD} {i j : CI} : Iff (dcell a i = dcell b j) (a = b ∧ i = j) :=
  ⟨fun h => ⟨congrArg (fun g : GSem nD τ sig => g.1.1) h, dsem_inj (SemLoc.dma.inj (congrArg Prod.snd h))⟩, fun h => by rw [h.1, h.2]⟩
theorem bar_eq_iff {a b : Dev nD} : Iff (barCell a = barCell b) (a = b) :=
  ⟨fun h => congrArg (fun g : GSem nD τ sig => g.1.1) h, fun h => h ▸ rfl⟩
theorem bar_ne_dcell (a b : Dev nD) (i : CI) : barCell a ≠ dcell b i := fun h => by cases congrArg Prod.snd h

/-- What device `d` owes on a copy cell by one family of its copies. -/
theorem owed_family (d : Dev nD) (a' : Fin 4) (ph' : Fin 2) (c : Dev nD) (i : CI) :
    (rows.map fun j => dueD d a' ph' j (dcell c i) ()).sum = if (a', ph', (d : Fin 16)) = i ∧ d ≠ c then N else 0 := by
  rw [rows_sum, Finset.sum_eq_single_of_mem (c : Fin 16) (Finset.mem_univ _) fun j _ hj => by
    unfold dueD; split
    · rfl
    · rw [tallyAt_ne_cell fun h => hj (dcell_eq_iff.mp h).1.symm]; rfl]
  unfold dueD
  by_cases h : (c : Fin 16) = d
  · rw [if_pos h, if_neg fun h' => h'.2 h.symm]; rfl
  · rw [if_neg h, tallyAt_apply]
    by_cases h' : (a', ph', (d : Fin 16)) = i
    · rw [if_pos ⟨by rw [h'], rfl⟩, if_pos ⟨h', fun e => h e.symm⟩]
    · rw [if_neg fun e => h' (dcell_eq_iff.mp e.1).2.symm, if_neg fun e => h' e.1]

theorem owed_dma (d c : Dev nD) (i : CI) : O0 d (dcell c i) ()
    = (if ((3 : Fin 4), (1 : Fin 2), (d : Fin 16)) = i ∧ d ≠ c then N else 0) + (if ((1 : Fin 4), (1 : Fin 2), (d : Fin 16)) = i ∧ d ≠ c then N else 0)
      + (if ((3 : Fin 4), (0 : Fin 2), (d : Fin 16)) = i ∧ d ≠ c then N else 0) + (if ((1 : Fin 4), (0 : Fin 2), (d : Fin 16)) = i ∧ d ≠ c then N else 0) := by
  have hb : (sigs.map fun k => dueB d k (dcell c i) ()).sum = 0 :=
    List.sum_eq_zero fun x hx => by
      obtain ⟨k, -, rfl⟩ := List.mem_map.mp hx
      unfold dueB; rw [tallyAt_ne_cell fun h => bar_ne_dcell _ _ _ h.symm]; rfl
  rw [O0, osum_apply, hb, O1, osum_apply, O2, osum_apply, O3, osum_apply, O4, osum_apply, owed_family, owed_family, owed_family, owed_family]
  simp

theorem owed_bar (d c : Dev nD) : O0 d (barCell c) () = (sigs.map fun k => if sd d k = c then 1 else 0).sum := by
  have hz : ∀ (a' : Fin 4) (ph' : Fin 2), (rows.map fun j => dueD d a' ph' j (barCell c) ()).sum = 0 := fun a' ph' =>
    List.sum_eq_zero fun x hx => by
      obtain ⟨k, -, rfl⟩ := List.mem_map.mp hx
      unfold dueD; split
      · rfl
      · rw [tallyAt_ne_cell fun h => bar_ne_dcell _ _ _ h]; rfl
  have hb : (sigs.map fun k => dueB d k (barCell c) ()) = sigs.map fun k => if sd d k = c then 1 else 0 :=
    List.map_congr_left fun k _ => by
      unfold dueB; rw [tallyAt_apply]
      by_cases h : sd d k = c
      · rw [if_pos ⟨by rw [h], rfl⟩, if_pos h]
      · rw [if_neg fun e => h (bar_eq_iff.mp e.1).symm, if_neg h]
  rw [O0, osum_apply, hb, O1, osum_apply, O2, osum_apply, O3, osum_apply, O4, osum_apply, hz, hz, hz, hz]
  simp

theorem sum_bar : ∀ c : Dev nD, (∑ d : Dev nD, (sigs.map fun k => if sd d k = c then 1 else 0).sum) = 15 := by decide +kernel

theorem launch_bar (c : Dev nD) :
    tallyOn (barCell c) (launchCredit (Pipeline.owing O0) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, sum_bar]

theorem sum_family (a a' : Fin 4) (ph ph' : Fin 2) (j : Fin 16) (c : Dev nD) :
    (∑ d : Dev nD, if (a', ph', (d : Fin 16)) = (a, ph, j) ∧ d ≠ c then N else 0) = if a' = a ∧ ph' = ph ∧ j ≠ c then N else 0 := by
  rw [Finset.sum_eq_single_of_mem (j : Dev nD) (Finset.mem_univ _) fun d _ hd => if_neg fun h => hd (congrArg (fun x : CI => x.2.2) h.1)]
  refine if_congr ?_ rfl rfl
  constructor
  · rintro ⟨h, h'⟩; exact ⟨congrArg (fun x : CI => x.1) h, congrArg (fun x : CI => x.2.1) h, h'⟩
  · rintro ⟨rfl, rfl, h⟩; exact ⟨rfl, h⟩

theorem launch_dma (c : Dev nD) (a : Fin 4) (ha : a = 1 ∨ a = 3) (ph : Fin 2) (j : Fin 16) (h : j ≠ c) :
    tallyOn (dcell c (a, ph, j)) (launchCredit (Pipeline.owing O0) 0 (dcell c (a, ph, j))) = (tallyAt (dcell c (a, ph, j)) () N : CellTallies nD τ sig Unit) := by
  unfold tallyAt; refine congrArg _ (Finsupp.ext fun u => ?_); cases u
  rw [Pipeline.launchCredit_owing, Finsupp.single_eq_same, Finset.sum_congr rfl fun d _ => owed_dma d c (a, ph, j), Finset.sum_add_distrib,
    Finset.sum_add_distrib, Finset.sum_add_distrib, sum_family, sum_family, sum_family, sum_family]
  rcases ha with rfl | rfl <;> fin_cases ph <;> simp [h]

abbrev ksem : Option CI → SemLoc sig | none => .reg barS.sem | some i => .dma (dsem i)
theorem ksem_injective : Function.Injective ksem := by
  rintro (_ | i) (_ | j) h
  · rfl
  · cases h
  · cases h
  · rw [dsem_inj (SemLoc.dma.inj h)]

/-- The credit of an arrival. -/
abbrev crd (c : Dev nD) (a : Fin 4) (ph : Fin 2) : sProp 𝕄 := BR fun j => oth c j (cred (tallyAt (dcell c (a, ph, j)) () N))

theorem creds (c : Dev nD) :
    (Pipeline.launchCred O0 c : sProp 𝕄) ⊢ iprop(cred (tallyAt (barCell c) () 15) ∗ (crd c 1 0 ∗ crd c 1 1) ∗ (crd c 3 0 ∗ crd c 3 1)) := by
  have hc : ∀ (a : Fin 4) (ha : a = 1 ∨ a = 3) (ph : Fin 2),
      (BR fun j => cred (tallyOn (dcell c (a, ph, j)) (launchCredit (Pipeline.owing O0) 0 (dcell c (a, ph, j)))) : sProp 𝕄) ⊢ crd c a ph := fun a ha ph =>
    (BR_drop c _).trans (BR_mono fun j => by
      by_cases h : j = c
      · rw [show ∀ A : sProp 𝕄, oth c j A = iprop(emp) from fun A => if_pos h, show ∀ A : sProp 𝕄, oth c j A = iprop(emp) from fun A => if_pos h]
      · rw [launch_dma c a ha ph j h])
  have hs : ∀ Ψ : SemLoc sig → sProp 𝕄, bigSep Finset.univ Ψ ⊢ iprop(Ψ (.reg barS.sem) ∗ bigSep Finset.univ fun i : CI => Ψ (.dma (dsem i))) := fun Ψ =>
    (bigSep_subset (Finset.subset_univ (Finset.univ.map ⟨ksem, ksem_injective⟩))).trans (Entails.of_eq ((bigSep_map _ (Φ := Ψ)).trans (big_option fun k => Ψ (ksem k))))
  iintro H
  unfold Pipeline.launchCred
  ihave H := (hs _) $$ H
  icases H with ⟨Hb, HC⟩
  ihave HC := (Entails.of_eq (ci_eq _)) $$ HC
  icases HC with ⟨-, ⟨H10, H11⟩, -, ⟨H30, H31⟩⟩
  isplitl [Hb]
  · rw [← launch_bar]; iexact Hb
  isplitl [H10 H11]
  · isplitl [H10]
    · iapply (hc 1 (.inl rfl) 0); iexact H10
    iapply (hc 1 (.inl rfl) 1); iexact H11
  isplitl [H30]
  · iapply (hc 3 (.inr rfl) 0); iexact H30
  iapply (hc 3 (.inr rfl) 1); iexact H31

end Cert.KernelIdeal.Run
-- ==== Proof.Flat.lean ====
/- The printed body is the body written once for a symbolic row. -/
module

public import proofs.«01_k».proof.Proof.Prog
public import Idealize.ShloMosaic.Lib.Pipeline.Regions

@[expose] public section

noncomputable section

namespace Cert.KernelIdeal.Run

open Idealize.ShloMosaic Idealize.ShloMosaic.TcCoe Idealize.SL.Sem
open Cert.KernelIdeal Cert.KernelIdeal.Gen

variable {F : FTy → Type} [FloatOps F]

/-! ## Matching the two programs step by step -/

section Match
universe v
variable {E : Type → Type v} {α β γ δ : Type}

theorem m_start {a b : Prog E α} (h : (a >>= pure) = b) : a = b := by rw [← h, bind_pure]

theorem m_assoc {a : Prog E α} {f : α → Prog E β} {K : β → Prog E γ} {R : Prog E γ}
    (h : (a >>= fun x => f x >>= K) = R) : ((a >>= f) >>= K) = R := by rw [bind_assoc]; exact h

theorem m_pure {x : α} {K : α → Prog E β} {R : Prog E β} (h : K x = R) : ((pure x : Prog E α) >>= K) = R := h

theorem m_lift {o o' : E α} {K K' : α → Prog E β} {R : Prog E β} (hR : R = (Prog.lift o' >>= K')) (ho : o = o')
    (h : ∀ x, K x = K' x) : (Prog.lift o >>= K) = R := by rw [hR, ho, funext h]

theorem m_if {c c' : Prop} {i : Decidable c} {i' : Decidable c'} {o : c → E PUnit} {o' : c' → E PUnit} {X : Prog E α}
    {K : α → Prog E β} {R R' : Prog E β} (hR : R = dite c' (fun h => Prog.lift (o' h) >>= fun _ => R') (fun _ => R'))
    (hc : c = c') (ho : ∀ h h', o h = o' h') (h : (X >>= K) = R') :
    ((dite c (fun h => Prog.lift (o h) >>= fun _ => X) (fun _ => X)) >>= K) = R := by
  subst hc; subst h; subst hR
  by_cases hc : c
  · rw [dif_pos hc, dif_pos hc, bind_assoc, ho hc hc]
  · rw [dif_neg hc, dif_neg hc]

end Match

theorem m_signal {d : Dev nD} {s : Sem sig} {n : BitVec 32} {K K' : PUnit → PR F} {R : PR F}
    (hR : R = (semSignalWord d s n >>= K')) (h : ∀ x, K x = K' x) : (semSignalWord d s n >>= K) = R := by
  rw [hR, funext h]

theorem m_wait {s : Sem sig} {n : BitVec 32} {K K' : PUnit → PR F} {R : PR F}
    (hR : R = (semWaitWord s n >>= K')) (h : ∀ x, K x = K' x) : (semWaitWord s n >>= K) = R := by
  rw [hR, funext h]

set_option maxHeartbeats 0 in
set_option maxRecDepth 65536 in
/-- The printed body, at the region's own buffers, is `flatBody`. -/
theorem body_eq_flat : cc0_body_wrapped (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _)
    (Memref.whole cc0_stg8_0) (Memref.isWhole_whole _) (Memref.whole cc0_stg9_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    cc0_scratch8 cc0_scratch9 cc0_scratch10 cc0_scratch11 = flatBody := by
  rw [cc0_body_wrapped_eq_skeleton]
  unfold cc0_body_wrapped_skel
  simp only [k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton,
    k0_part10_eq_skeleton, k0_part11_eq_skeleton, k0_part12_eq_skeleton, k0_part13_eq_skeleton, k0_part14_eq_skeleton,
    k0_part15_eq_skeleton, k0_part16_eq_skeleton, k0_part17_eq_skeleton, k0_part18_eq_skeleton, k0_part19_eq_skeleton,
    k0_part20_eq_skeleton, k0_part21_eq_skeleton, k0_part22_eq_skeleton, k0_part23_eq_skeleton, k0_part24_eq_skeleton,
    k0_part25_eq_skeleton, k0_part26_eq_skeleton, k0_part27_eq_skeleton, k0_part28_eq_skeleton, k0_part29_eq_skeleton,
    k0_part30_eq_skeleton, k0_part31_eq_skeleton, k0_part32_eq_skeleton, k0_part33_eq_skeleton, k0_part34_eq_skeleton,
    k0_part35_eq_skeleton, k0_part36_eq_skeleton, k0_part37_eq_skeleton, k0_part38_eq_skeleton, k0_part39_eq_skeleton,
    k0_part40_eq_skeleton, k0_part41_eq_skeleton, k0_part42_eq_skeleton, k0_part43_eq_skeleton, k0_part44_eq_skeleton,
    k0_part45_eq_skeleton, k0_part46_eq_skeleton, k0_part47_eq_skeleton, k0_part48_eq_skeleton, k0_part49_eq_skeleton,
    k0_part50_eq_skeleton, k0_part51_eq_skeleton, k0_part52_eq_skeleton, k0_part53_eq_skeleton, k0_part54_eq_skeleton,
    k0_part55_eq_skeleton, k0_part56_eq_skeleton, k0_part57_eq_skeleton, k0_part58_eq_skeleton, k0_part59_eq_skeleton,
    k0_part60_eq_skeleton, k0_part61_eq_skeleton, k0_part62_eq_skeleton, k0_part63_eq_skeleton, k0_part64_eq_skeleton,
    k0_part65_eq_skeleton, k0_part66_eq_skeleton, k0_part67_eq_skeleton, k0_part68_eq_skeleton, k0_part69_eq_skeleton,
    k0_part70_eq_skeleton, k0_part71_eq_skeleton]
  refine m_start ?_
  unfold flatBody bodyAt work tail1 tail2 drains
  repeat
    first
    | with_reducible exact rfl
    | with_reducible apply m_lift
      · exact rfl
      · exact rfl
      intro _
    | with_reducible apply m_signal
      · exact rfl
      intro _
    | with_reducible apply m_wait
      · exact rfl
      intro _
    | apply m_if
      · exact rfl
      · exact rfl
      · exact fun _ _ => rfl
    | with_reducible refine m_assoc ?_
    | with_reducible refine m_pure ?_
    | refine m_assoc ?_
  exact rfl

end Cert.KernelIdeal.Run

end
-- ==== Proof.Run.lean ====
/- The run of the kernel: the region's proof data, the body's obligation, and the launch. -/
module

public import proofs.«01_k».proof.Proof.Launch
public import proofs.«01_k».proof.Proof.Flat
public import proofs.«01_k».proof.Proof.Gen.KernelIdeal.Frame
public import proofs.«01_k».proof.Proof.Gen.KernelIdeal.Points
public import Idealize.ShloMosaic.Lib.Quiescent
public import Idealize.ShloMosaic.Lib.Pipeline.CollectiveSegs

@[expose] public section

set_option maxRecDepth 20000

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- The memory the run starts from. -/
def s₀ : MemSt nD τ sig (Elt F) := ⟨m, fun _ => 0, ρ⟩

/-- The inputs in the devices' staging buffers. -/
def insM : Ins F where
  x c := iblk m c 0 t0_0
  wq c := iblk m c 1 t0_0
  wk c := iblk m c 2 t0_0
  wv c := iblk m c 3 t0_0
  wo c := iblk m c 4 t0_0
  te c := iblk m c 5 t0_0
  wm c := iblk m c 6 t0_0
  f1 c := iblk m c 7 t0_0
  f2 c := iblk m c 8 t0_0

/-- What a device has when its body starts, beside its buffers. -/
def start (c : Dev nD) : sProp 𝕄 :=
  iprop((∃ K, records (vals (insM m)) K ∗ linear c)
    ∗ (cred (tallyAt (barCell c) () 15) ∗ (crd c 1 0 ∗ crd c 1 1) ∗ (crd c 3 0 ∗ crd c 3 1)) ∗ levAts L lv)

def Φ₀ (c : Dev nD) : sProp 𝕄 := iprop(start m c ∗ bufs c)
def Φ₁ (c : Dev nD) : sProp 𝕄 := iprop((semVal (barCell c) 0 ∗ cellsZ c) ∗ bufs (F := F) c)

/-- The region's proof data. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (insM m).x c
    | ⟨1, _⟩ => (insM m).wq c
    | ⟨2, _⟩ => (insM m).wk c
    | ⟨3, _⟩ => (insM m).wv c
    | ⟨4, _⟩ => (insM m).wo c
    | ⟨5, _⟩ => (insM m).te c
    | ⟨6, _⟩ => (insM m).wm c
    | ⟨7, _⟩ => (insM m).f1 c
    | ⟨8, _⟩ => (insM m).f2 c
    | ⟨9, _⟩ => resOf (insM m) c
  Φ t := match t with | ⟨0, _⟩ => Φ₀ m c | ⟨_ + 1, _⟩ => Φ₁ c
  q _ := fullShare
  owed t := match t with | ⟨0, _⟩ => O0 c | ⟨_ + 1, _⟩ => 0

/-! ## The body -/

theorem before_0 (c : Dev nD) (d) : (dats m ρ 0 c).before (0 : Fin 10) t0_0 d = (insM m).x c := by
  unfold Dat.before; rw [if_pos (fetch0_0 t0_0)]; rfl
theorem before_1 (c : Dev nD) (d) : (dats m ρ 0 c).before (1 : Fin 10) t0_0 d = (insM m).wq c := by
  unfold Dat.before; rw [if_pos (fetch0_1 t0_0)]; rfl
theorem before_2 (c : Dev nD) (d) : (dats m ρ 0 c).before (2 : Fin 10) t0_0 d = (insM m).wk c := by
  unfold Dat.before; rw [if_pos (fetch0_2 t0_0)]; rfl
theorem before_3 (c : Dev nD) (d) : (dats m ρ 0 c).before (3 : Fin 10) t0_0 d = (insM m).wv c := by
  unfold Dat.before; rw [if_pos (fetch0_3 t0_0)]; rfl
theorem before_4 (c : Dev nD) (d) : (dats m ρ 0 c).before (4 : Fin 10) t0_0 d = (insM m).wo c := by
  unfold Dat.before; rw [if_pos (fetch0_4 t0_0)]; rfl
theorem before_5 (c : Dev nD) (d) : (dats m ρ 0 c).before (5 : Fin 10) t0_0 d = (insM m).te c := by
  unfold Dat.before; rw [if_pos (fetch0_5 t0_0)]; rfl
theorem before_6 (c : Dev nD) (d) : (dats m ρ 0 c).before (6 : Fin 10) t0_0 d = (insM m).wm c := by
  unfold Dat.before; rw [if_pos (fetch0_6 t0_0)]; rfl
theorem before_7 (c : Dev nD) (d) : (dats m ρ 0 c).before (7 : Fin 10) t0_0 d = (insM m).f1 c := by
  unfold Dat.before; rw [if_pos (fetch0_7 t0_0)]; rfl
theorem before_8 (c : Dev nD) (d) : (dats m ρ 0 c).before (8 : Fin 10) t0_0 d = (insM m).f2 c := by
  unfold Dat.before; rw [if_pos (fetch0_8 t0_0)]; rfl

/-- Two lists of cells' places and their payments, shuffled into the order the body takes them in. -/
theorem cells0_intro (c : Dev nD) :
    (iprop(linear c ∗ (cred (tallyAt (barCell c) () 15) ∗ (crd c 1 0 ∗ crd c 1 1) ∗ (crd c 3 0 ∗ crd c 3 1))) : sProp 𝕄) ⊢ iprop(bar0 c ∗ cells0 c) := by
  have ht : ∀ (a a' : Fin 4) (ph : Fin 2), iprop(ownT (F := F) c a ph ∗ farT c a' ph) ⊢ (BR fun j => oth c j (toks c a a' ph j) : sProp 𝕄) := fun a a' ph => by
    rw [← BR_sep]; exact BR_drop c _
  have hw : ∀ (a : Fin 4) (ph : Fin 2), iprop((BR fun j => at0 c (a, ph, j)) ∗ crd c a ph) ⊢ (BR fun j => wIn c (a, ph, j) : sProp 𝕄) := fun a ph => by
    rw [← BR_sep]; exact Entails.rfl
  have hb : (bigSep Finset.univ fun d : Dev nD => (dutyTok ER (barCell d) 0 c : sProp 𝕄)) ⊢ bigSepL sigs fun k => dutyTok ER (barCell (sd c k)) 0 c := by
    rw [← others_sigs c fun d => (dutyTok ER (barCell d) 0 c : sProp 𝕄)]
    exact bigSep_subset (Finset.erase_subset _ _)
  unfold linear payToks bar0 cells0
  rw [big_option, ci_eq]
  iintro ⟨⟨⟨Hab, ⟨H00, H01⟩, ⟨H10, H11⟩, ⟨H20, H21⟩, ⟨H30, H31⟩⟩, Htb, ⟨T00, T01⟩, ⟨T10, T11⟩, ⟨T20, T21⟩, ⟨T30, T31⟩⟩, Hcb, ⟨C10, C11⟩, ⟨C30, C31⟩⟩
  isplitl [Hab Htb Hcb]
  · isplitl [Htb]; · iapply hb; iexact Htb
    isplitl [Hab]; · iexact Hab
    iexact Hcb
  isplitl [H00 H20 H01 H21]
  · isplitl [H00]; · iexact H00
    isplitl [H20]; · iexact H20
    isplitl [H01]; · iexact H01
    iexact H21
  isplitl [H10 H30 H11 H31 C10 C30 C11 C31]
  · isplitl [H10 C10]
    · iapply (hw 1 0); isplitl [H10]; · iexact H10
      iexact C10
    isplitl [H30 C30]
    · iapply (hw 3 0); isplitl [H30]; · iexact H30
      iexact C30
    isplitl [H11 C11]
    · iapply (hw 1 1); isplitl [H11]; · iexact H11
      iexact C11
    iapply (hw 3 1); isplitl [H31]; · iexact H31
    iexact C31
  isplitl [T00 T10]
  · iapply (ht 0 1 0); isplitl [T00]; · iexact T00
    iexact T10
  isplitl [T20 T30]
  · iapply (ht 2 3 0); isplitl [T20]; · iexact T20
    iexact T30
  isplitl [T01 T11]
  · iapply (ht 0 1 1); isplitl [T01]; · iexact T01
    iexact T11
  iapply (ht 2 3 1); isplitl [T21]; · iexact T21
  iexact T31

/-- The printed body does what its flat form does. -/
theorem wp_printed (c : Dev nD) {Q : PUnit → sProp 𝕄} :
    iprop(Φ₀ m c ∗ owesE c (O0 c) ∗ insAt (insM m) c ∗ ownE (F := F) c outM)
      ⊢ iprop(((owesE c 0 ∗ insAt (insM m) c ∗ Φ₁ c ∗ own c outM (resOf (insM m) c)) -∗ Q ⟨⟩)
        -∗ wp frame (wpE (defs₀ (F := F)) 𝒱₀ (c : Thread nD τ) none) Set.univ (cc0_body_wrapped (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _)
    (Memref.whole cc0_stg8_0) (Memref.isWhole_whole _) (Memref.whole cc0_stg9_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    cc0_scratch8 cc0_scratch9 cc0_scratch10 cc0_scratch11) Q) := by
  rw [body_eq_flat]
  unfold flatBody
  simp only [Prog.lift, Prog.bind_op, Prog.bind_ret, Prog.pure_eq_ret, wp_deviceId]
  unfold Φ₀ start
  iintro ⟨⟨⟨⟨%K, #HR, Hlin⟩, Hcr, #Hlev⟩, Hbufs⟩, Ho, Hins, Hout⟩ Hk
  ihave Hcells := (cells0_intro (F := F) c) $$ [Hlin Hcr]
  · isplitl [Hlin] <;> iassumption
  icases Hcells with ⟨Hbar, Hcells⟩
  iapply (wp_bodyAt (insM m) K c (Q := Q)) $$ [Ho Hbar Hcells Hins Hbufs Hout]
  · isplitr
    · unfold records ctx
      icases HR with ⟨H1, H2⟩
      isplitl []; · iexact H1
      isplitl []; · iexact H2
      iexact Hlev
    isplitl [Ho]; · iexact Ho
    isplitl [Hbar]; · iexact Hbar
    isplitl [Hcells]; · iexact Hcells
    isplitl [Hins]; · iexact Hins
    isplitl [Hbufs]; · iexact Hbufs
    iexact Hout
  iintro ⟨Ho, Hins, Hz, Hbufs, Hout⟩
  iapply Hk
  unfold Φ₁
  isplitl [Ho]; · iexact Ho
  isplitl [Hins]; · iexact Hins
  isplitl [Hz Hbufs]
  · isplitl [Hz] <;> iassumption
  iexact Hout

/-- What the body starts and ends with. -/
def bodyPre (c : Dev nD) : sProp 𝕄 :=
  iprop(Φ₀ m c ∗ (dats m ρ 0 c).owesAt () t0_0.castSucc
    ∗ (∃ d, own c xM ((dats m ρ 0 c).before (0 : Fin 10) t0_0 d)) ∗ (∃ d, own c wqM ((dats m ρ 0 c).before (1 : Fin 10) t0_0 d))
    ∗ (∃ d, own c wkM ((dats m ρ 0 c).before (2 : Fin 10) t0_0 d)) ∗ (∃ d, own c wvM ((dats m ρ 0 c).before (3 : Fin 10) t0_0 d))
    ∗ (∃ d, own c woM ((dats m ρ 0 c).before (4 : Fin 10) t0_0 d)) ∗ (∃ d, own c teM ((dats m ρ 0 c).before (5 : Fin 10) t0_0 d))
    ∗ (∃ d, own c wmM ((dats m ρ 0 c).before (6 : Fin 10) t0_0 d)) ∗ (∃ d, own c f1M ((dats m ρ 0 c).before (7 : Fin 10) t0_0 d))
    ∗ (∃ d, own c f2M ((dats m ρ 0 c).before (8 : Fin 10) t0_0 d)) ∗ (∃ d, own c outM ((dats m ρ 0 c).before (9 : Fin 10) t0_0 d)))
def bodyPost (c : Dev nD) : sProp 𝕄 :=
  iprop(Φ₁ c ∗ (dats m ρ 0 c).owesAt () t0_0.succ
    ∗ own c xM ((insM m).x c) ∗ own c wqM ((insM m).wq c) ∗ own c wkM ((insM m).wk c) ∗ own c wvM ((insM m).wv c) ∗ own c woM ((insM m).wo c)
    ∗ own c teM ((insM m).te c) ∗ own c wmM ((insM m).wm c) ∗ own c f1M ((insM m).f1 c) ∗ own c f2M ((insM m).f2 c) ∗ own c outM (resOf (insM m) c))

theorem body_sound (c : Dev nD) :
    bodyPre m ρ c ⊢ wp frame (wpE (defs₀ (F := F)) 𝒱₀ (c : Thread nD τ) none) Set.univ (cc0_body_wrapped (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _)
    (Memref.whole cc0_stg8_0) (Memref.isWhole_whole _) (Memref.whole cc0_stg9_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    cc0_scratch8 cc0_scratch9 cc0_scratch10 cc0_scratch11) (fun _ => bodyPost m ρ c) := by
  unfold bodyPre
  simp only [before_0, before_1, before_2, before_3, before_4, before_5, before_6, before_7, before_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  unfold Dat.owesAt Pipeline.owesWithin
  icases Ho with ⟨%W, %hW, HO⟩
  rw [show (dats m ρ 0 c).owed t0_0.castSucc = O0 c from rfl]
  iapply (wp_printed m c) $$ [HΦ HO H0 H1 H2 H3 H4 H5 H6 H7 H8 H9]
  · isplitl [HΦ]; · iexact HΦ
    isplitl [HO]
    · unfold owesE; iexists W; iexact HO
    isplitl [H0 H1 H2 H3 H4 H5 H6 H7 H8]
    · unfold insAt
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iexists _; iexact H9
  unfold insAt owesE
  iintro ⟨⟨%W', HO⟩, ⟨H0, H1, H2, H3, H4, H5, H6, H7, H8⟩, HΦ, H9⟩
  unfold bodyPost Dat.owesAt Pipeline.owesWithin
  isplitl [HΦ]; · iexact HΦ
  isplitl [HO]
  · iexists W'; isplitr
    · ipureintro; exact fun _ _ => Or.inl trivial
    rw [show (dats m ρ 0 c).owed t0_0.succ = 0 from rfl]; iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m ρ 0 c) (defs₀ (F := F)) 𝒱₀ () Set.univ := fun t => by
  rw [fin_N0 t]
  rw [bigSep_W0, bigSep_W0]
  exact body_sound m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O0 c ∗ prngReg c (ρ c) ∗ G' (vals (insM m)) c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- The kernel's scratch buffers, whole. -/
theorem bufs_eq (c : Dev nD) : (Pipeline.scopedRest (Ix := Unit) (Name := ℕ) (U := UU) (Lvl := ℕ) (Val := Elt F) cfg0.spec c : sProp 𝕄) = bufs c := by
  have h : ∀ (b : Ref sig .tc), (iprop(∃ X, owns (Val := Elt F) (c : Thread nD τ) (Memref.whole b) fullShare X) : sProp 𝕄)
      = iprop(∃ f : Buf (Elt F) ((c : Thread nD τ).loc b), ((c : Thread nD τ).loc b) ↦{fullShare} f) := fun b => by
    have h₁ : (iprop(∃ X, owns (Val := Elt F) (c : Thread nD τ) (Memref.whole b) fullShare X) : sProp 𝕄)
        ⊢ iprop(∃ f : Buf (Elt F) ((c : Thread nD τ).loc b), ((c : Thread nD τ).loc b) ↦{fullShare} f) := by
      simp only [owns_whole_eq]
      iintro ⟨%X, %f, -, H⟩; iexists f; iexact H
    have h₂ : (iprop(∃ f : Buf (Elt F) ((c : Thread nD τ).loc b), ((c : Thread nD τ).loc b) ↦{fullShare} f) : sProp 𝕄)
        ⊢ iprop(∃ X, owns (Val := Elt F) (c : Thread nD τ) (Memref.whole b) fullShare X) := by
      simp only [owns_whole_eq]
      iintro ⟨%f, H⟩; iexists f; iexists f; isplitr
      · ipureintro; rfl
      iexact H
    exact BI.equiv_iff.mp ⟨h₁, h₂⟩
  rw [scopedRest0_eq]
  unfold bufs ownE
  rw [← h cc0_scratch0, ← h cc0_scratch1, ← h cc0_scratch2, ← h cc0_scratch3, ← h cc0_scratch4, ← h cc0_scratch5, ← h cc0_scratch6, ← h cc0_scratch7]
  rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, bufs_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, bufs_eq, ownSems0_eq, unscopedSems0_eq, ci_eq]
  unfold Φ₁ cellsZ
  iintro ⟨⟨HzB, ⟨H00, H20, H01, H21⟩, H10, H30, H11, H31⟩, Hr⟩
  isplitl [HzB]; · iexact HzB
  isplitr [Hr]
  · isplitl [H00 H01]; · isplitl [H00] <;> iassumption
    isplitl [H10 H11]; · isplitl [H10] <;> iassumption
    isplitl [H20 H21]; · isplitl [H20] <;> iassumption
    isplitl [H30] <;> iassumption
  iexact Hr

theorem lvD_stage : ∀ (w : Fin cfg0.W) (s : Fin (cfg0.win w).nbuf), lvD ((cfg0.win w).sem s) = 0 := by decide +kernel
theorem lv_stage (w : Fin cfg0.W) (s : Fin (cfg0.win w).nbuf) (c : Dev nD) : lv ((c : Thread nD τ), SemLoc.dma ((cfg0.win w).sem s)) () = 0 := lvD_stage w s

theorem waits (c : Dev nD) : (levAts L lv : sProp 𝕄) ⊢ Pipeline.cellsWaits cfgs (dats m ρ) () 0 c :=
  Pipeline.cellsWaits_intro cfgs (dats m ρ) () 0 c fun w s t =>
    mayWait c _ 0 (by rw [lv_stage w s c]) _ (by
      rcases t with ⟨_ | _, ht⟩
      · exact above_O0 c sigs
      · exact above_zero 0)

/-! ## The run -/

/-- A window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O0) (howed₀ := fun _ => rfl) (howedN := fun _ => rfl)
    (L := L) (lv := lv) (hL := L_of_ne) (hwaits := waits m ρ)
    (G := G (vals (insM m))) (G' := G' (vals (insM m))) (u₀ := u₀)
    (hu₀ := by
      unfold u₀
      iintro Hu
      ihave H := (ownU_pair _ _) $$ Hu
      icases H with ⟨HP, HX⟩
      imod (fund_cells (vals (insM m))) $$ HX with HG
      imodintro
      isplitl [HP] <;> iassumption)
    (hglob := glob (vals (insM m)))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Run
-- ==== Proof.Frames.lean ====
/- The frames: every run of the kernel and of the reference ends with the arguments unchanged and every counter at zero. -/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run

@[expose] public section

set_option maxRecDepth 100000
set_option maxHeartbeats 2000000

noncomputable section

namespace Cert.KernelIdeal.Run

open Idealize.ShloMosaic Idealize.ShloMosaic.TcCoe Idealize.SL Idealize.SL.RA Idealize.SL.Sem
open Cert.KernelIdeal Cert.KernelIdeal.Gen

variable {F : FTy → Type} [FloatOps F]
variable (m : (ℓ : Loc nD τ sig) → Buf (Elt F) ℓ) (ρ : Dev nD → PrngReg)

/-- The result array after the run. -/
def outA (c : Dev nD) : Buf (Elt F) ((c.tc : Thread nD τ).loc main_v1) := finalA m ρ c 9

/-- Every run ends with the arguments unchanged, the result as computed, and the counters at zero. -/
theorem run_all : θ_run defs (onTc (τ := τ) (main (F := F))) ⟨m, fun _ => 0, ρ⟩ (fun r => (∀ c : Dev nD,
      r.2.mem ((c.tc : Thread nD τ).loc main_v1) = outA m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  refine (θ_run defs _ _).mono (fun r h => ⟨fun c => ?_, h.2⟩) (run_main m ρ)
  have hin : ∀ (w : Fin cfg0.W) (hw : (cfg0.win w).isOut = false), finalA m ρ c w = m ((cfg0.win w).arr.view.loc (c : Thread nD τ)) := fun w hw =>
    (dats (F := F) m ρ 0 c).arrAt_in w hw _
  exact ⟨h.1 c 9, (h.1 c 0).trans (hin 0 rfl), (h.1 c 1).trans (hin 1 rfl), (h.1 c 2).trans (hin 2 rfl), (h.1 c 3).trans (hin 3 rfl), (h.1 c 4).trans (hin 4 rfl),
    (h.1 c 5).trans (hin 5 rfl), (h.1 c 6).trans (hin 6 rfl), (h.1 c 7).trans (hin 7 rfl), (h.1 c 8).trans (hin 8 rfl)⟩

theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => (h.1 c).2, h.2⟩) (run_all m ρ)

theorem run_frame_at (D : Defs nD τ sig (Elt F) (Pipeline.Sig Λ₀ (Fin 1) fun p => (pcfgs (F := F) p).Adm)) (hD : D = defs) : θ_run D (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  subst hD
  exact run_frame m ρ

end Cert.KernelIdeal.Run

namespace Cert.Proof

open Idealize.ShloMosaic Idealize.ShloMosaic.TcCoe Idealize.SL.Sem

/-- The two printings of the kernel are one program. -/
theorem defs₀_eq {F : FTy → Type} [FloatOps F] [Cert.Kernel.Facts] : Cert.Kernel.defs₀ (F := F) = Cert.KernelIdeal.defs₀ (F := F) := by
  refine congrArg (Defs.onTc (nD := Cert.KernelIdeal.nD) (τ := Cert.KernelIdeal.τ) (sig := Cert.KernelIdeal.sig) (Val := Elt F) (Λ := Cert.KernelIdeal.Λ₀)) ?_
  funext l a
  match l, a with
  | 0, (t, s) => exact rfl
theorem defs_eq {F : FTy → Type} [FloatOps F] [Cert.Kernel.Facts] : Cert.Kernel.defs (F := F) = Cert.KernelIdeal.defs (F := F) :=
  congrArg (Pipeline.defs Cert.KernelIdeal.pcfgs) defs₀_eq

theorem frame_kernel : @Cert.quiescent_Kernel Cert.Kernel.Gen.facts := fun m ρ _ =>
  Cert.KernelIdeal.Run.run_frame_at (F := Bits) m ρ (@Cert.Kernel.defs Bits _ Cert.Kernel.Gen.facts) (@defs_eq Bits _ Cert.Kernel.Gen.facts)

theorem frame_ideal : @Cert.quiescent_KernelIdeal Cert.KernelIdeal.Gen.facts := fun m ρ _ => Cert.KernelIdeal.Run.run_frame (F := Ideal) m ρ

theorem frame_reference : @Cert.quiescent_ReferenceIdeal Cert.ReferenceIdeal.Gen.facts := fun m ρ _ =>
  (θ_run Cert.ReferenceIdeal.defs _ _).mono (fun r h => ⟨fun c => (h c).2, sem_eq_zero_of_no_sems rfl _⟩) (Cert.ReferenceIdeal.Value.run (F := Ideal) m ρ)

end Cert.Proof
-- ==== Proof.Spec.lean ====
/- The problem's mathematics over the extended reals, entry by entry. -/
module

public import Idealize.ShloMosaic.Lib.Pointwise
public import Mathlib.Logic.Equiv.Fin.Basic

@[expose] public section

noncomputable section

namespace Cert.Spec

open Idealize.ShloMosaic
open scoped BigOperators

/-! ## One row -/

/-- The length of a row, as the programs' constant says it. -/
def len : EReal := Ideal.ofBits .f32 0x44400000#32
/-- What the first normalisation adds to the variance. -/
def epsA : EReal := Ideal.ofBits .bf16 0x3728#16
/-- What the second normalisation adds to the variance. -/
def epsB : EReal := Ideal.ofBits .f32 0x3727C5AC#32
/-- What a score is multiplied by. -/
def scl : EReal := Ideal.ofBits .f32 0x3DD105EC#32
/-- Where the maximum of a row begins. -/
def low : EReal := Ideal.ofBits .f32 0xFF800000#32

/-- The mean of a row. -/
def mean (f : Fin 768 → EReal) : EReal := Ideal.div (∑ k, f k) len
/-- A row less its mean. -/
def cen (f : Fin 768 → EReal) (d : Fin 768) : EReal := f d - mean f
/-- The variance of a row. -/
def vr (f : Fin 768 → EReal) : EReal := mean fun k => cen f k * cen f k
/-- A row normalised. -/
def ln (e : EReal) (f : Fin 768 → EReal) (d : Fin 768) : EReal := cen f d * Ideal.rsqrt (vr f + e)

theorem len_eq : len = ((768 : ℝ) : EReal) := by
  have hs : (BitVec.extractLsb' 31 1 (0x44400000#32) == 1#1) = false := by decide
  have he : (BitVec.extractLsb' 23 8 (0x44400000#32)).toNat = 136 := by decide
  have hf : (BitVec.extractLsb' 0 23 (0x44400000#32)).toNat = 4194304 := by decide
  simp only [len, Ideal.ofBits, Ideal.ieee, hs, he, hf]
  norm_num
theorem epsA_pos : 0 < epsA := by
  have hs : (BitVec.extractLsb' 15 1 (0x3728#16) == 1#1) = false := by decide
  have he : (BitVec.extractLsb' 7 8 (0x3728#16)).toNat = 110 := by decide
  have hf : (BitVec.extractLsb' 0 7 (0x3728#16)).toNat = 40 := by decide
  simp only [epsA, Ideal.ofBits, Ideal.ieee, hs, he, hf]
  norm_num
theorem epsB_pos : 0 < epsB := by
  have hs : (BitVec.extractLsb' 31 1 (0x3727C5AC#32) == 1#1) = false := by decide
  have he : (BitVec.extractLsb' 23 8 (0x3727C5AC#32)).toNat = 110 := by decide
  have hf : (BitVec.extractLsb' 0 23 (0x3727C5AC#32)).toNat = 2606508 := by decide
  simp only [epsB, Ideal.ofBits, Ideal.ieee, hs, he, hf]
  norm_num

theorem sq_nonneg' (x : EReal) : 0 ≤ x * x := by
  induction x with
  | bot => simp
  | top => simp
  | coe r => exact_mod_cast mul_self_nonneg r

theorem len_ne : len ≠ 0 := by rw [len_eq]; exact_mod_cast (by norm_num : (768 : ℝ) ≠ 0)

theorem mean_nonneg {f : Fin 768 → EReal} (h : ∀ k, 0 ≤ f k) : 0 ≤ mean f := by
  unfold mean Ideal.div
  rw [if_neg len_ne]
  refine mul_nonneg (Finset.sum_nonneg fun k _ => h k) ?_
  rw [len_eq, ← EReal.coe_inv]
  exact_mod_cast (by norm_num : (0 : ℝ) ≤ 768⁻¹)

theorem vr_pos {e : EReal} (he : 0 < e) (f : Fin 768 → EReal) : 0 < vr f + e :=
  lt_of_lt_of_le he (le_add_of_nonneg_left (mean_nonneg fun _ => sq_nonneg' _))

/-- Over a positive number: dividing by the root is multiplying by the root's reciprocal. -/
theorem div_sqrt (x : EReal) {v : EReal} (hv : 0 < v) : Ideal.div x (Ideal.sqrt v) = x * Ideal.rsqrt v := by
  induction v with
  | bot => simp at hv
  | top =>
    rw [show Ideal.sqrt ⊤ = ⊤ from rfl, show Ideal.rsqrt ⊤ = 0 from rfl, Ideal.div, if_neg (by simp), EReal.inv_top]
  | coe r =>
    have hr : 0 < r := by exact_mod_cast hv
    have hs : Real.sqrt r ≠ 0 := (Real.sqrt_pos.2 hr).ne'
    have hs' : ((Real.sqrt r : ℝ) : EReal) ≠ 0 := by exact_mod_cast hs
    rw [show Ideal.sqrt (r : EReal) = ((Real.sqrt r : ℝ) : EReal) from by
        show (if r < 0 then ⊥ else (Real.sqrt r : EReal)) = _
        rw [if_neg (not_lt.2 hr.le)],
      show Ideal.rsqrt (r : EReal) = (((Real.sqrt r)⁻¹ : ℝ) : EReal) from by
        show (if r < 0 then ⊥ else if r = 0 then ⊤ else (((Real.sqrt r)⁻¹ : ℝ) : EReal)) = _
        rw [if_neg (not_lt.2 hr.le), if_neg hr.ne'],
      Ideal.div, if_neg hs', EReal.coe_inv]

/-- The normalisation with a division by the root. -/
theorem ln_div {e : EReal} (he : 0 < e) (f : Fin 768 → EReal) (d : Fin 768) :
    Ideal.div (cen f d) (Ideal.sqrt (vr f + e)) = ln e f d := div_sqrt _ (vr_pos he f)

/-! ## A head -/

/-- The scaled score of a query and a key. -/
def score (Q K : Fin 512 → Fin 96 → EReal) (i j : Fin 512) : EReal := (∑ d, Q i d * K j d) * scl
/-- Its exponential, less the row's greatest. -/
def ex (Q K : Fin 512 → Fin 96 → EReal) (i j : Fin 512) : EReal :=
  Ideal.exp (score Q K i j - Finset.univ.fold max low (score Q K i))
/-- A head's attention. -/
def attn (Q K V : Fin 512 → Fin 96 → EReal) (i : Fin 512) (d : Fin 96) : EReal :=
  Ideal.div (∑ j, ex Q K i j * V j d) (∑ j, ex Q K i j)

/-! ## The activation -/

/-- The activation as a product. -/
def silu (h : EReal) : EReal := h * Ideal.div 1 (1 + Ideal.exp (-h))

theorem exp_nonneg' (x : EReal) : 0 ≤ Ideal.exp x := by
  induction x with
  | bot => exact le_rfl
  | top => exact le_top
  | coe r =>
    show (0 : EReal) ≤ ((Real.exp r : ℝ) : EReal)
    exact_mod_cast (Real.exp_pos r).le

/-- The activation as a quotient. -/
theorem silu_div (h : EReal) : Ideal.div h (1 + Ideal.exp (-h)) = silu h := by
  have hp : (1 + Ideal.exp (-h)) ≠ 0 := (lt_of_lt_of_le (by norm_num : (0 : EReal) < 1) (le_add_of_nonneg_right (exp_nonneg' _))).ne'
  unfold silu Ideal.div
  rw [if_neg hp, if_neg hp, one_mul]

/-! ## Sums in blocks -/

/-- Place `b` of block `a`. -/
def at2 {m n N : ℕ} (h : m * n = N) (a : Fin m) (b : Fin n) : Fin N :=
  ⟨n * a.val + b.val, by
    have ha := a.isLt
    have hb := b.isLt
    calc n * a.val + b.val < n * a.val + n := by omega
      _ = n * (a.val + 1) := by ring
      _ ≤ n * m := Nat.mul_le_mul_left _ ha
      _ = N := by rw [← h, Nat.mul_comm]⟩

/-- A sum is the sum of its blocks' sums. -/
theorem sum_blocks {M : Type} [AddCommMonoid M] {m n N : ℕ} (h : m * n = N) (f : Fin N → M) :
    ∑ i, f i = ∑ a : Fin m, ∑ b : Fin n, f (at2 h a b) := by
  subst h
  rw [← Fintype.sum_prod_type', ← (finProdFinEquiv (m := m) (n := n)).sum_comp]
  refine Finset.sum_congr rfl fun p _ => congrArg f (Fin.ext ?_)
  simp [at2, finProdFinEquiv, Nat.add_comm]

/-! ## The whole -/

/-- The arguments, whole. -/
structure In where
  x : Fin 2 → Fin 512 → Fin 768 → EReal
  wq : Fin 768 → Fin 6144 → EReal
  wk : Fin 768 → Fin 6144 → EReal
  wv : Fin 768 → Fin 6144 → EReal
  wo : Fin 6144 → Fin 768 → EReal
  te : Fin 2 → Fin 128 → EReal
  wm : Fin 128 → Fin 4608 → EReal
  f1 : Fin 768 → Fin 3072 → EReal
  f2 : Fin 3072 → Fin 768 → EReal

/-- Column `e` of head `h`. -/
abbrev col (h : Fin 64) (e : Fin 96) : Fin 6144 := at2 (m := 64) (n := 96) rfl h e

variable (A : In)

/-- Part `p` of the modulation. -/
def mo (p : Fin 6) (b : Fin 2) (d : Fin 768) : EReal := ∑ k, A.te b k * A.wm k (at2 (m := 6) (n := 768) rfl p d)
/-- The first normalisation, modulated. -/
def y (b : Fin 2) (r : Fin 512) (d : Fin 768) : EReal := ln epsA (A.x b r) d * (1 + mo A 0 b d) + mo A 1 b d
/-- A projection. -/
def pr (w : Fin 768 → Fin 6144 → EReal) (b : Fin 2) (h : Fin 64) (r : Fin 512) (e : Fin 96) : EReal := ∑ k, y A b r k * w k (col h e)
/-- The attention of a head. -/
def att (b : Fin 2) (h : Fin 64) : Fin 512 → Fin 96 → EReal := attn (pr A A.wq b h) (pr A A.wk b h) (pr A A.wv b h)
/-- The attention's output. -/
def proj (b : Fin 2) (r : Fin 512) (d : Fin 768) : EReal := ∑ h, ∑ e, att A b h r e * A.wo (col h e) d
/-- The input with the attention added. -/
def x1 (b : Fin 2) (r : Fin 512) (d : Fin 768) : EReal := A.x b r d + mo A 2 b d * proj A b r d
/-- The second normalisation, modulated. -/
def z (b : Fin 2) (r : Fin 512) (d : Fin 768) : EReal := ln epsB (x1 A b r) d * (1 + mo A 3 b d) + mo A 4 b d
/-- The hidden layer before its activation. -/
def hid (b : Fin 2) (r : Fin 512) (n : Fin 3072) : EReal := ∑ k, z A b r k * A.f1 k n
/-- The feed-forward layer's output. -/
def ff (b : Fin 2) (r : Fin 512) (d : Fin 768) : EReal := ∑ n, silu (hid A b r n) * A.f2 n d
/-- The result. -/
def out (b : Fin 2) (r : Fin 512) (d : Fin 768) : EReal := x1 A b r d + mo A 5 b d * ff A b r d

end Cert.Spec

end
-- ==== Proof.KVal.lean ====
/- What the kernel's payloads are over the extended reals, entry by entry. -/
module

public import proofs.«01_k».proof.Proof.Work
public import proofs.«01_k».proof.Proof.Spec

@[expose] public section

set_option maxRecDepth 20000
set_option maxHeartbeats 1000000

noncomputable section

namespace Cert.KernelIdeal.Run

open Idealize.ShloMosaic Idealize.SL.Sem
open Cert.KernelIdeal Cert.KernelIdeal.Gen
open scoped BigOperators

theorem pay1_at (te : Vec Ideal S2x128 .bf16) (wm : Vec Ideal S128x4608 .bf16) (b : Fin 2) (n : Fin 4608) :
    k0_pay1 te wm (ix2 b n) = ∑ k : Fin 128, te (ix2 b k) * wm (ix2 k n) := by
  pointwise [k0_pay1]

/-- The six parts of the modulation. -/
theorem pay2_at (te : Vec Ideal S2x128 .bf16) (wm : Vec Ideal S128x4608 .bf16) (b : Fin 2) (d : Fin 768) :
    k0_pay2 te wm (ix2 b d) = k0_pay1 te wm (ix2 b (Spec.at2 (m := 6) (n := 768) rfl 0 d)) := by
  pointwise [k0_pay2]
  exact congrArg (fun n => k0_pay1 te wm (ix2 b n)) (Fin.ext (by simp [Spec.at2, Nat.add_comm]))
theorem pay3_at (te : Vec Ideal S2x128 .bf16) (wm : Vec Ideal S128x4608 .bf16) (b : Fin 2) (d : Fin 768) :
    k0_pay3 te wm (ix2 b d) = k0_pay1 te wm (ix2 b (Spec.at2 (m := 6) (n := 768) rfl 1 d)) := by
  pointwise [k0_pay3]
  exact congrArg (fun n => k0_pay1 te wm (ix2 b n)) (Fin.ext (by simp [Spec.at2, Nat.add_comm]))
theorem pay4_at (te : Vec Ideal S2x128 .bf16) (wm : Vec Ideal S128x4608 .bf16) (b : Fin 2) (d : Fin 768) :
    k0_pay4 te wm (ix2 b d) = k0_pay1 te wm (ix2 b (Spec.at2 (m := 6) (n := 768) rfl 2 d)) := by
  pointwise [k0_pay4]
  exact congrArg (fun n => k0_pay1 te wm (ix2 b n)) (Fin.ext (by simp [Spec.at2, Nat.add_comm]))
theorem pay5_at (te : Vec Ideal S2x128 .bf16) (wm : Vec Ideal S128x4608 .bf16) (b : Fin 2) (d : Fin 768) :
    k0_pay5 te wm (ix2 b d) = k0_pay1 te wm (ix2 b (Spec.at2 (m := 6) (n := 768) rfl 3 d)) := by
  pointwise [k0_pay5]
  exact congrArg (fun n => k0_pay1 te wm (ix2 b n)) (Fin.ext (by simp [Spec.at2, Nat.add_comm]))
theorem pay6_at (te : Vec Ideal S2x128 .bf16) (wm : Vec Ideal S128x4608 .bf16) (b : Fin 2) (d : Fin 768) :
    k0_pay6 te wm (ix2 b d) = k0_pay1 te wm (ix2 b (Spec.at2 (m := 6) (n := 768) rfl 4 d)) := by
  pointwise [k0_pay6]
  exact congrArg (fun n => k0_pay1 te wm (ix2 b n)) (Fin.ext (by simp [Spec.at2, Nat.add_comm]))
theorem pay7_at (te : Vec Ideal S2x128 .bf16) (wm : Vec Ideal S128x4608 .bf16) (b : Fin 2) (d : Fin 768) :
    k0_pay7 te wm (ix2 b d) = k0_pay1 te wm (ix2 b (Spec.at2 (m := 6) (n := 768) rfl 5 d)) := by
  pointwise [k0_pay7]
  exact congrArg (fun n => k0_pay1 te wm (ix2 b n)) (Fin.ext (by simp [Spec.at2, Nat.add_comm]))

theorem pay9_at (u v : FVec Ideal S2x768 .f32) (x : Vec Ideal S2x512x768 .bf16) (b : Fin 2) (r : Fin 512) (d : Fin 768) :
    k0_pay9 u v x (ix3 b r d) = Spec.ln Spec.epsA (fun k => x (ix3 b r k)) d * (1 + u (ix2 b d)) + v (ix2 b d) := by
  pointwise [k0_pay9, k0_pay8]
  rfl

theorem proj_at (b : Fin 2) (v : FVec Ideal S2x512x768 .bf16) (w : Vec Ideal S768x384 .bf16) (r : Fin 512) (n : Fin 384) :
    proj b v w (ix2 r n) = ∑ k : Fin 768, v (ix3 b r k) * w (ix2 k n) := by
  match b with
  | 0 => pointwise [proj, xb]
  | 1 => pointwise [proj, xb]

/-- Column `e` of head `h` of a device's four. -/
abbrev hc (h : Fin 4) (e : Fin 96) : Fin 384 := Spec.at2 (m := 4) (n := 96) rfl h e

theorem hcol_at (h : Fin 4) (v : FVec Ideal S512x384 .f32) (r : Fin 512) (e : Fin 96) : hcol h v (ix2 r e) = v (ix2 r (hc h e)) := by
  pointwise [hcol]
  rfl

theorem scores_at (q k : FVec Ideal S512x96 .bf16) (i j : Fin 512) :
    scores q k (ix2 i j) = Spec.score (fun r e => q (ix2 r e)) (fun r e => k (ix2 r e)) i j := by
  pointwise [scores]
  rfl

theorem expo_at (s : FVec Ideal S512x512 .f32) (i j : Fin 512) :
    expo s (ix2 i j) = Ideal.exp (s (ix2 i j) - Finset.univ.fold max Spec.low fun k => s (ix2 i k)) := by
  pointwise [expo]
  rfl

theorem softv_at (p : FVec Ideal S512x512 .f32) (v : FVec Ideal S512x96 .bf16) (i : Fin 512) (d : Fin 96) :
    softv p v (ix2 i d) = Ideal.div (∑ j, p (ix2 i j) * v (ix2 j d)) (∑ j, p (ix2 i j)) := by
  pointwise [softv]

theorem headPay_at (h : Fin 4) (q k v : FVec Ideal S512x384 .f32) (i : Fin 512) (d : Fin 96) :
    headPay h q k v (ix2 i d)
      = Spec.attn (fun r e => q (ix2 r (hc h e))) (fun r e => k (ix2 r (hc h e))) (fun r e => v (ix2 r (hc h e))) i d := by
  unfold headPay
  rw [shapeCast_self, softv_at]
  simp only [expo_at, scores_at, hcol_at]
  rfl

theorem pay23_at (wo : FVec Ideal S384x768 .bf16) (a : Vec Ideal S512x384 .f32) (i : Fin 8) (r : Fin 64) (d : Fin 768) :
    k0_pay23 wo a (ix3 i r d) = ∑ n : Fin 384, a (ix2 (Spec.at2 (m := 8) (n := 64) rfl i r) n) * wo (ix2 n d) := by
  pointwise [k0_pay23]
  exact congrArg (fun m => ∑ n : Fin 384, a (ix2 m n) * wo (ix2 n d)) (Fin.ext (by simp [Spec.at2, Nat.mul_comm]))

theorem pay37_at (v : Vec Ideal S16x64x768 .bf16) (r : Fin 64) (d : Fin 768) :
    k0_pay37 v (ix3 0 r d) = ∑ s : Fin 16, v (ix3 s r d) := by
  pointwise [k0_pay37]

theorem pay8_at (x : Vec Ideal S2x512x768 .bf16) (n : Fin 1024) (d : Fin 768) :
    k0_pay8 x (ix2 n d) = x (ix3 ⟨n.val / 512, by omega⟩ ⟨n.val % 512, by omega⟩ d) := by
  pointwise [k0_pay8]

theorem modRow_at (b : Fin 2) (v : FVec Ideal S2x768 .f32) (d : Fin 768) : modRow b v (ix2 0 d) = v (ix2 b d) := by
  match b with
  | 0 => pointwise [modRow]
  | 1 => pointwise [modRow]

/-- Row `r` of block `j`. -/
abbrev rw1 (j : Fin 16) (r : Fin 64) : Fin 1024 := Spec.at2 (m := 16) (n := 64) rfl j r

theorem x1v_at (j : Fin 16) (v71 : FVec Ideal S2x768 .f32) (v77 : FVec Ideal S1024x768 .bf16) (v : Vec Ideal S1x64x768 .bf16) (r : Fin 64) (d : Fin 768) :
    x1v j v71 v77 v (ix2 r d) = v77 (ix2 (rw1 j r) d) + v71 (ix2 (bOf j) d) * v (ix3 0 r d) := by
  pointwise [x1v]
  rw [modRow_at]
  rfl

theorem lnMod_at (b : Fin 2) (u v : FVec Ideal S2x768 .f32) (x : FVec Ideal S64x768 .f32) (r : Fin 64) (d : Fin 768) :
    lnMod b u v x (ix2 r d) = Spec.ln Spec.epsB (fun k => x (ix2 r k)) d * (1 + u (ix2 b d)) + v (ix2 b d) := by
  pointwise [lnMod, cent, meanRow]
  rw [modRow_at, modRow_at]
  rfl

theorem silu_at (h : FVec Ideal S64x192 .f32) (r : Fin 64) (n : Fin 192) : silu h (ix2 r n) = Spec.silu (h (ix2 r n)) := by
  pointwise [silu]
  rw [zero_sub]
  rfl

theorem mlp_at (w1 : FVec Ideal S768x192 .bf16) (w2 : FVec Ideal S192x768 .bf16) (y : FVec Ideal S64x768 .bf16) (r : Fin 64) (d : Fin 768) :
    mlp w1 w2 y (ix3 0 r d) = ∑ n : Fin 192, Spec.silu (∑ k : Fin 768, y (ix2 r k) * w1 (ix2 k n)) * w2 (ix2 n d) := by
  pointwise [mlp, silu]
  simp only [zero_sub]
  rfl

theorem outPay_at (j : Fin 16) (v74 : FVec Ideal S2x768 .f32) (x1 : Vec Ideal S64x768 .f32) (v : Vec Ideal S1x64x768 .bf16) (r : Fin 64) (d : Fin 768) :
    outPay j v74 x1 v (ix3 0 r d) = x1 (ix2 r d) + v74 (ix2 (bOf j) d) * v (ix3 0 r d) := by
  pointwise [outPay]
  rw [modRow_at]

end Cert.KernelIdeal.Run

end
-- ==== Proof.KOut.lean ====
/- What a device's result is over the extended reals, of the whole arguments. -/
module

public import proofs.«01_k».proof.Proof.KVal

@[expose] public section

set_option maxRecDepth 20000
set_option maxHeartbeats 1000000

noncomputable section

namespace Cert.KernelIdeal.Run

open Idealize.ShloMosaic Idealize.SL.Sem
open Cert.KernelIdeal Cert.KernelIdeal.Gen
open scoped BigOperators

theorem mk2_eq {a b : ℕ} (i : Fin a) (j : Fin b) : mk2 i j = ix2 i j := ext2 rfl rfl
theorem mk3_eq {a b c : ℕ} (i : Fin a) (j : Fin b) (k : Fin c) : mk3 i j k = ix3 i j k := ext3 rfl rfl rfl

/-- Head `h` of device `c`. -/
abbrev hd (c : Fin 16) (h : Fin 4) : Fin 64 := Spec.at2 (m := 16) (n := 4) rfl c h
/-- Hidden column `n` of device `c`. -/
abbrev hcl (c : Fin 16) (n : Fin 192) : Fin 3072 := Spec.at2 (m := 16) (n := 192) rfl c n
/-- Row `r` of block `j` within its batch. -/
abbrev rowIn (j : Fin 16) (r : Fin 64) : Fin 512 := Spec.at2 (m := 8) (n := 64) rfl ⟨j.val % 8, by omega⟩ r

/-- Each device's inputs are its blocks of the whole arguments. -/
structure Agree (I : Ins Ideal) (A : Spec.In) : Prop where
  x : ∀ (c : Fin 16) b r d, I.x c (ix3 b r d) = A.x b r d
  wq : ∀ (c : Fin 16) k h e, I.wq c (ix2 k (hc h e)) = A.wq k (Spec.col (hd c h) e)
  wk : ∀ (c : Fin 16) k h e, I.wk c (ix2 k (hc h e)) = A.wk k (Spec.col (hd c h) e)
  wv : ∀ (c : Fin 16) k h e, I.wv c (ix2 k (hc h e)) = A.wv k (Spec.col (hd c h) e)
  wo : ∀ (c : Fin 16) h e d, I.wo c (ix2 (hc h e) d) = A.wo (Spec.col (hd c h) e) d
  te : ∀ (c : Fin 16) b k, I.te c (ix2 b k) = A.te b k
  wm : ∀ (c : Fin 16) k n, I.wm c (ix2 k n) = A.wm k n
  f1 : ∀ (c : Fin 16) k n, I.f1 c (ix2 k n) = A.f1 k (hcl c n)
  f2 : ∀ (c : Fin 16) n d, I.f2 c (ix2 n d) = A.f2 (hcl c n) d

variable {I : Ins Ideal} {A : Spec.In} (H : Agree I A)
include H

theorem mod_at (c : Fin 16) (p : Fin 6) (b : Fin 2) (d : Fin 768) :
    k0_pay1 (I.te c) (I.wm c) (ix2 b (Spec.at2 (m := 6) (n := 768) rfl p d)) = Spec.mo A p b d := by
  rw [pay1_at]
  exact Finset.sum_congr rfl fun k _ => by rw [H.te, H.wm]

theorem xn_at (c : Fin 16) (b : Fin 2) (r : Fin 512) (d : Fin 768) : xn I c (ix3 b r d) = Spec.y A b r d := by
  unfold xn Spec.y
  rw [pay9_at, pay2_at, pay3_at, mod_at H, mod_at H]
  simp only [H.x]

/-- A head's projection on its device. -/
theorem pr_at (w : Fin 16 → Vec Ideal S768x384 .bf16) (W : Fin 768 → Fin 6144 → EReal)
    (hw : ∀ (c : Fin 16) k h e, w c (ix2 k (hc h e)) = W k (Spec.col (hd c h) e)) (c : Fin 16) (b : Fin 2) (h : Fin 4) (r : Fin 512) (e : Fin 96) :
    proj b (xn I c) (w c) (ix2 r (hc h e)) = Spec.pr A W b (hd c h) r e := by
  rw [proj_at]
  exact Finset.sum_congr rfl fun k _ => by rw [xn_at H, hw]

theorem head_at (c : Fin 16) (b : Fin 2) (h : Fin 4) (r : Fin 512) (e : Fin 96) :
    headPay h (proj b (xn I c) (I.wq c)) (proj b (xn I c) (I.wk c)) (proj b (xn I c) (I.wv c)) (ix2 r e) = Spec.att A b (hd c h) r e := by
  rw [headPay_at]
  simp only [pr_at H I.wq A.wq H.wq, pr_at H I.wk A.wk H.wk, pr_at H I.wv A.wv H.wv]
  rfl

omit H in
theorem catH_at {α : Type} (f : Fin 4 → S512x96.Idx → α) (r : Fin 512) (h : Fin 4) (e : Fin 96) : catH f (ix2 r (hc h e)) = f h (ix2 r e) := by
  have h1 : (hc h e).val / 96 = h.val := by simp only [hc, Spec.at2]; omega
  have h2 : (hc h e).val % 96 = e.val := by simp only [hc, Spec.at2]; omega
  show f ⟨(hc h e).val / 96, by omega⟩ (mk2 r ⟨(hc h e).val % 96, by omega⟩) = _
  rw [mk2_eq]
  congr 1
  · exact Fin.ext h1
  · exact congrArg (ix2 r) (Fin.ext h2)

theorem att8_at (c : Fin 16) (b : Fin 2) (i : Fin 8) (r : Fin 64) (d : Fin 768) :
    att8 I c b (ix3 i r d)
      = ∑ h : Fin 4, ∑ e : Fin 96, Spec.att A b (hd c h) (Spec.at2 (m := 8) (n := 64) rfl i r) e * A.wo (Spec.col (hd c h) e) d := by
  unfold att8
  rw [pay23_at, Spec.sum_blocks (m := 4) (n := 96) rfl]
  refine Finset.sum_congr rfl fun h _ => Finset.sum_congr rfl fun e _ => ?_
  rw [catH_at, head_at H, show k0_pay10 (I.wo c) = I.wo c from shapeCast_self _ _, H.wo]

theorem part1_at (c j : Fin 16) (r : Fin 64) (d : Fin 768) :
    part1 I c j (ix3 0 r d) = ∑ h : Fin 4, ∑ e : Fin 96, Spec.att A (bOf j) (hd c h) (rowIn j r) e * A.wo (Spec.col (hd c h) e) d := by
  rw [← att8_at H]
  show att8 I c (bOf j) (mk3 ⟨j.val % 8, by omega⟩ r d) = _
  rw [mk3_eq]

omit H in
theorem cat_at {α : Type} (f : Fin 16 → S1x64x768.Idx → α) (s : Fin 16) (r : Fin 64) (d : Fin 768) : cat f (ix3 s r d) = f s (ix3 0 r d) := by
  show f s (mk3 0 r d) = _
  rw [mk3_eq]

theorem red1_at (j : Fin 16) (r : Fin 64) (d : Fin 768) : red1 I j (ix3 0 r d) = Spec.proj A (bOf j) (rowIn j r) d := by
  unfold red1 Spec.proj
  rw [pay37_at, Spec.sum_blocks (m := 16) (n := 4) rfl]
  exact Finset.sum_congr rfl fun s _ => by rw [cat_at, part1_at H]

omit H in
theorem row_split (x : Vec Ideal S2x512x768 .bf16) (j : Fin 16) (r : Fin 64) (d : Fin 768) :
    k0_pay8 x (ix2 (rw1 j r) d) = x (ix3 (bOf j) (rowIn j r) d) := by
  rw [pay8_at]
  have h1 : (rw1 j r).val / 512 = j.val / 8 := by simp only [rw1, Spec.at2]; omega
  have h2 : (rw1 j r).val % 512 = (rowIn j r).val := by simp only [rw1, rowIn, Spec.at2]; omega
  congr 1
  congr 1
  · exact Fin.ext h1
  · exact Fin.ext h2

theorem x1v_spec (c j : Fin 16) (r : Fin 64) (d : Fin 768) :
    x1v j (k0_pay4 (I.te c) (I.wm c)) (k0_pay8 (I.x c)) (red1 I j) (ix2 r d) = Spec.x1 A (bOf j) (rowIn j r) d := by
  unfold Spec.x1
  rw [x1v_at, row_split, pay4_at, mod_at H, red1_at H, H.x]

theorem x1Of_at (c j : Fin 16) (r : Fin 64) (d : Fin 768) : x1Of I c j (ix2 r d) = Spec.x1 A (bOf j) (rowIn j r) d := by
  rw [← x1v_spec H c]
  exact congrFun (shapeCast_self _ _) _

theorem part2_at (c j : Fin 16) (r : Fin 64) (d : Fin 768) :
    part2 I c j (ix3 0 r d) = ∑ n : Fin 192, Spec.silu (Spec.hid A (bOf j) (rowIn j r) (hcl c n)) * A.f2 (hcl c n) d := by
  unfold part2 mlpPay
  rw [mlp_at]
  refine Finset.sum_congr rfl fun n _ => ?_
  rw [show k0_pay39 (I.f2 c) = I.f2 c from shapeCast_self _ _, show k0_pay38 (I.f1 c) = I.f1 c from shapeCast_self _ _, H.f2]
  refine congrArg (fun t => Spec.silu t * A.f2 (hcl c n) d) (Finset.sum_congr rfl fun k _ => ?_)
  rw [lnMod_at, H.f1, pay5_at, pay6_at, mod_at H, mod_at H]
  simp only [x1v_spec H]
  rfl

theorem red2_at (j : Fin 16) (r : Fin 64) (d : Fin 768) : red2 I j (ix3 0 r d) = Spec.ff A (bOf j) (rowIn j r) d := by
  unfold red2 Spec.ff
  rw [pay37_at, Spec.sum_blocks (m := 16) (n := 192) rfl]
  exact Finset.sum_congr rfl fun s _ => by rw [cat_at, part2_at H]

theorem outOf_at (c j : Fin 16) (r : Fin 64) (d : Fin 768) : outOf I c j (ix3 0 r d) = Spec.out A (bOf j) (rowIn j r) d := by
  unfold outOf Spec.out
  rw [outPay_at, x1Of_at H, pay7_at, mod_at H, red2_at H]

/-- Every device's result is the whole result. -/
theorem resOf_at (c : Fin 16) (b : Fin 2) (r : Fin 512) (d : Fin 768) : resOf I c (ix3 b r d) = Spec.out A b r d := by
  have hj : 8 * b.val + r.val / 64 < 16 := by omega
  have e : resOf I c (ix3 b r d) = outOf I c ⟨8 * b.val + r.val / 64, hj⟩ (ix3 0 ⟨r.val % 64, by omega⟩ d) := by
    show outOf I c ⟨8 * b.val + r.val / 64, hj⟩ (mk3 0 ⟨r.val % 64, by omega⟩ d) = _
    rw [mk3_eq]
  rw [e, outOf_at H]
  congr 1
  · exact Fin.ext (by show (8 * b.val + r.val / 64) / 8 = b.val; omega)
  · exact Fin.ext (by simp only [rowIn, Spec.at2]; omega)

end Cert.KernelIdeal.Run

end
-- ==== Proof.RVal.lean ====
/- What the reference's result is over the extended reals, entry by entry. -/
module

public import proofs.«01_k».proof.Proof.Spec
public import proofs.«01_k».proof.Proof.Gen.ReferenceIdeal.Run

@[expose] public section

set_option maxRecDepth 20000
set_option maxHeartbeats 2000000

noncomputable section

namespace Cert.ReferenceIdeal.Value

open Idealize.ShloMosaic Idealize.SL.Sem
open Cert.ReferenceIdeal Cert.ReferenceIdeal.Gen
open scoped BigOperators

variable (V : Valuation τ sig (Elt Ideal))

/-- The arguments of the reference, entry by entry. -/
def args : Spec.In where
  x b r d := V (Proc.devRef .tc main_arg0) (ix3 b r d)
  wq k n := V (Proc.devRef .tc main_arg1) (ix2 k n)
  wk k n := V (Proc.devRef .tc main_arg2) (ix2 k n)
  wv k n := V (Proc.devRef .tc main_arg3) (ix2 k n)
  wo n d := V (Proc.devRef .tc main_arg4) (ix2 n d)
  te b k := V (Proc.devRef .tc main_arg5) (ix2 b k)
  wm k n := V (Proc.devRef .tc main_arg6) (ix2 k n)
  f1 k n := V (Proc.devRef .tc main_arg7) (ix2 k n)
  f2 n d := V (Proc.devRef .tc main_arg8) (ix2 n d)

theorem v1_at (b : Fin 2) (p : Fin 6) (d : Fin 768) :
    res_main_v1 V (ix2 b (Spec.at2 (m := 6) (n := 768) rfl p d)) = Spec.mo (args V) p b d := by
  pointwise [res_main_v1]
  rfl

/-- Column `d` of part `p` of the modulation, as the slices count it. -/
theorem v1_slice (b : Fin 2) (p : Fin 6) (d : Fin 768) (n : Fin 4608) (h : n.val = 768 * p.val + d.val) :
    res_main_v1 V (ix2 b n) = Spec.mo (args V) p b d := by
  rw [← v1_at]
  exact congrArg (fun t => res_main_v1 V (ix2 b t)) (Fin.ext h)

/-- The count that the variance divides by. -/
theorem count_eq : Ideal.ofBits FTy.f32 1145044992#32 - FloatOps.sitofp (F := Ideal) FTy.f32 (0#32) = Spec.len := by
  show Spec.len - (((0#32 : BitVec 32).toInt : ℝ) : EReal) = Spec.len
  simp

theorem len_pos : 0 < Spec.len := by rw [Spec.len_eq]; exact_mod_cast (by norm_num : (0 : ℝ) < 768)

theorem v9_at (i : S_.Idx) : res_main_call0_v9 V i = Spec.len := by
  pointwise [res_main_call0_v9]
  exact count_eq

theorem v8_at (i : S_.Idx) : res_main_call1_v8 V i = Spec.len := by
  pointwise [res_main_call1_v8]
  exact count_eq

theorem v29_at (b : Fin 2) (r : Fin 512) (d : Fin 768) : res_main_v29 V (ix3 b r d) = Spec.y (args V) b r d := by
  pointwise [res_main_v29, res_main_call0_v6, res_main_call0_v0]
  rw [v9_at, if_pos len_pos, v1_slice V b 0 d _ (by simp), v1_slice V b 1 d _ (by simp)]
  exact congrArg (fun t => t * (1 + Spec.mo (args V) 0 b d) + Spec.mo (args V) 1 b d)
    (Spec.ln_div Spec.epsA_pos ((args V).x b r) d)

theorem v41_at (b : Fin 2) (h : Fin 64) (i j : Fin 512) :
    res_main_v41 V (ix4 b h i j) = Spec.score (Spec.pr (args V) (args V).wq b h) (Spec.pr (args V) (args V).wk b h) i j := by
  have hcol : ∀ e : Fin 96, (⟨h.val * 96 + e.val, by omega⟩ : Fin 6144) = Spec.col h e := fun e => Fin.ext (by simp [Spec.at2, Nat.mul_comm])
  pointwise [res_main_v41]
  simp only [v29_at, hcol]
  rfl

theorem v46_at (b : Fin 2) (h : Fin 64) (i j : Fin 512) :
    res_main_v46 V (ix4 b h i j) = Spec.ex (Spec.pr (args V) (args V).wq b h) (Spec.pr (args V) (args V).wk b h) i j := by
  pointwise [res_main_v46]
  refine (congrArg (fun t : EReal => Ideal.exp ((show EReal from res_main_v41 V (ix4 b h i j)) - t))
    (Shape.ReducesTo.fold_fiber_r4_a3 reducesTo_S2x64x512x512_S2x64x512_d3 (ix3 b h i) (max : EReal → EReal → EReal)
      (Ideal.ofBits FTy.f32 4286578688#32) (res_main_v41 V))).trans ?_
  have e : ∀ k : Fin 512, res_main_v41 V (ix4 b h i k) = _ := v41_at V b h i
  refine congrArg₂ (fun t u : EReal => Ideal.exp (t - u)) (e j) ?_
  exact congrArg (fun f : Fin 512 → EReal => (Finset.univ : Finset (Fin 512)).fold max (Ideal.ofBits FTy.f32 4286578688#32) f) (funext e)

theorem v63_at (b : Fin 2) (r : Fin 512) (d : Fin 768) : res_main_v63 V (ix3 b r d) = Spec.x1 (args V) b r d := by
  pointwise [res_main_v63]
  rw [v1_slice V b 2 d _ (by simp), Spec.sum_blocks (m := 64) (n := 96) rfl]
  refine congrArg (fun t => (args V).x b r d + Spec.mo (args V) 2 b d * t)
    (Finset.sum_congr rfl fun h _ => Finset.sum_congr rfl fun e _ => ?_)
  have hh : (⟨(Spec.col h e).val / 96, by omega⟩ : Fin 64) = h := Fin.ext (by simp only [Spec.col, Spec.at2]; omega)
  rw [hh]
  simp only [v29_at, v46_at]
  refine congrArg (fun t => Ideal.div t _ * _) (Finset.sum_congr rfl fun j _ => ?_)
  exact mul_comm _ _

theorem v87_at (b : Fin 2) (r : Fin 512) (n : Fin 3072) : res_main_v87 V (ix3 b r n) = Spec.hid (args V) b r n := by
  pointwise [res_main_v87, res_main_call1_v5]
  rw [v8_at, if_pos len_pos]
  simp only [v63_at]
  refine Finset.sum_congr (M := EReal) rfl fun k _ => ?_
  rw [v1_slice V b 3 k _ (by simp), v1_slice V b 4 k _ (by simp)]
  exact congrArg (fun t => (t * (1 + Spec.mo (args V) 3 b k) + Spec.mo (args V) 4 b k) * (args V).f1 k n)
    (Spec.ln_div Spec.epsB_pos (Spec.x1 (args V) b r) k)

/-- The reference's result. -/
def result : FVec Ideal S2x512x768 .f32 :=
  addf (res_main_v63 V) (mulf (broadcastInDim S2x512x768 ![0, 1, 2] bcast_S2x1x768_S2x512x768_0_1_2 (extf .f32 (broadcastInDim S2x1x768 ![0, 2] bcast_S2x768_S2x1x768_0_2 (extractStridedSlice S2x768 ![0, 3840] (res_main_v1 V) slices_S2x4608_S2x768_0_3840)) bitsLt_bf16_f32)) (Host.dotGeneral dot_S2x512x3072_S3072x768_S2x512x768_2_0_01_1_n_n none (Host.divf (res_main_v87 V) (addf (broadcastInDim S2x512x3072 ![] bcast_S_S2x512x3072 (constant S_ .f32 0x3F800000#32)) (Host.exp (Host.negf (res_main_v87 V))))) (extf .f32 (V (Proc.devRef .tc main_arg8)) bitsLt_bf16_f32)))

theorem result_at (b : Fin 2) (r : Fin 512) (d : Fin 768) : result V (ix3 b r d) = Spec.out (args V) b r d := by
  pointwise [result]
  rw [v1_slice V b 5 d _ (by simp), v63_at]
  simp only [v87_at, Spec.silu_div]
  rfl

end Cert.ReferenceIdeal.Value

end
-- ==== Proof.Algebraic.lean ====
/- The value claim: the kernel's result on every device is the reference's result. -/
module

public import proofs.«01_k».proof.Defs
public import proofs.«01_k».proof.Proof.Frames
public import proofs.«01_k».proof.Proof.KOut
public import proofs.«01_k».proof.Proof.RVal
public import Idealize.ShloMosaic.Lib.Pipeline.ValueKit.Geometry

@[expose] public section

set_option maxRecDepth 100000
set_option maxHeartbeats 2000000

noncomputable section

namespace Cert.KernelIdeal.Run

open Idealize.ShloMosaic Idealize.ShloMosaic.TcCoe Idealize.SL Idealize.SL.RA Idealize.SL.Sem
open Cert.KernelIdeal Cert.KernelIdeal.Gen

variable {F : FTy → Type} [FloatOps F]
variable (m : (ℓ : Loc nD τ sig) → Buf (Elt F) ℓ) (ρ : Dev nD → PrngReg)

/-- The result array ends as the body left its staging buffer. -/
theorem outA_eq (c : Dev nD) : outA m ρ c = resOf (insM m) c := by
  unfold outA finalA
  refine (dats m ρ 0 c).arrAt_eq_of_covers 9 _ (by decide +kernel) fun t hf y => ?_
  obtain rfl := fin_N0 t
  blk_simp
  show resOf (insM m) c y = _
  refine congrArg (resOf (insM m) c) (funext fun a => Fin.ext ?_)
  blk_simp
  fin_cases a <;> simp <;> rfl

theorem insM_x (c : Dev nD) (i) : (insM m).x c i = m ((c.tc : Thread nD τ).loc main_arg0) i := by
  show m ((c.tc : Thread nD τ).loc main_arg0) (((cfg0.win 0).blk t0_0).view.emb i) = _
  exact congrArg _ (funext fun a => Fin.ext (by blk_simp; fin_cases a <;> simp <;> rfl))
theorem insM_wq (c : Dev nD) (i) : (insM m).wq c i = m ((c.tc : Thread nD τ).loc main_arg1) i := by
  show m ((c.tc : Thread nD τ).loc main_arg1) (((cfg0.win 1).blk t0_0).view.emb i) = _
  exact congrArg _ (funext fun a => Fin.ext (by blk_simp; fin_cases a <;> simp <;> rfl))
theorem insM_wk (c : Dev nD) (i) : (insM m).wk c i = m ((c.tc : Thread nD τ).loc main_arg2) i := by
  show m ((c.tc : Thread nD τ).loc main_arg2) (((cfg0.win 2).blk t0_0).view.emb i) = _
  exact congrArg _ (funext fun a => Fin.ext (by blk_simp; fin_cases a <;> simp <;> rfl))
theorem insM_wv (c : Dev nD) (i) : (insM m).wv c i = m ((c.tc : Thread nD τ).loc main_arg3) i := by
  show m ((c.tc : Thread nD τ).loc main_arg3) (((cfg0.win 3).blk t0_0).view.emb i) = _
  exact congrArg _ (funext fun a => Fin.ext (by blk_simp; fin_cases a <;> simp <;> rfl))
theorem insM_wo (c : Dev nD) (i) : (insM m).wo c i = m ((c.tc : Thread nD τ).loc main_arg4) i := by
  show m ((c.tc : Thread nD τ).loc main_arg4) (((cfg0.win 4).blk t0_0).view.emb i) = _
  exact congrArg _ (funext fun a => Fin.ext (by blk_simp; fin_cases a <;> simp <;> rfl))
theorem insM_te (c : Dev nD) (i) : (insM m).te c i = m ((c.tc : Thread nD τ).loc main_arg5) i := by
  show m ((c.tc : Thread nD τ).loc main_arg5) (((cfg0.win 5).blk t0_0).view.emb i) = _
  exact congrArg _ (funext fun a => Fin.ext (by blk_simp; fin_cases a <;> simp <;> rfl))
theorem insM_wm (c : Dev nD) (i) : (insM m).wm c i = m ((c.tc : Thread nD τ).loc main_arg6) i := by
  show m ((c.tc : Thread nD τ).loc main_arg6) (((cfg0.win 6).blk t0_0).view.emb i) = _
  exact congrArg _ (funext fun a => Fin.ext (by blk_simp; fin_cases a <;> simp <;> rfl))
theorem insM_f1 (c : Dev nD) (i) : (insM m).f1 c i = m ((c.tc : Thread nD τ).loc main_arg7) i := by
  show m ((c.tc : Thread nD τ).loc main_arg7) (((cfg0.win 7).blk t0_0).view.emb i) = _
  exact congrArg _ (funext fun a => Fin.ext (by blk_simp; fin_cases a <;> simp <;> rfl))
theorem insM_f2 (c : Dev nD) (i) : (insM m).f2 c i = m ((c.tc : Thread nD τ).loc main_arg8) i := by
  show m ((c.tc : Thread nD τ).loc main_arg8) (((cfg0.win 8).blk t0_0).view.emb i) = _
  exact congrArg _ (funext fun a => Fin.ext (by blk_simp; fin_cases a <;> simp <;> rfl))

end Cert.KernelIdeal.Run

namespace Cert.Proof

open Idealize.ShloMosaic Idealize.ShloMosaic.TcCoe Idealize.SL.Sem
open Cert.KernelIdeal.Run Idealize.ShloMosaic.StableHlo

/-- A cut along the columns, read at column `n` of block `c`. -/
theorem block_cols {α : Type} {a b N k : ℕ} (h : Layout.Tiles ⟨2, ![a, b]⟩ ⟨2, ![a, N]⟩ 1 k) (v : (⟨2, ![a, N]⟩ : Shape).Idx → α)
    (c : Fin k) (i : Fin a) (n : Fin b) (n' : Fin N) (e : n'.val = c.val * b + n.val) :
    Layout.block ⟨2, ![a, b]⟩ ⟨2, ![a, N]⟩ 1 k c v h (ix2 i n) = v (ix2 i n') :=
  congrArg v (KernelIdeal.Run.ext2 rfl e.symm)

/-- A cut along the rows, read at row `n` of block `c`. -/
theorem block_rows {α : Type} {a b N k : ℕ} (h : Layout.Tiles ⟨2, ![b, a]⟩ ⟨2, ![N, a]⟩ 0 k) (v : (⟨2, ![N, a]⟩ : Shape).Idx → α)
    (c : Fin k) (i : Fin a) (n : Fin b) (n' : Fin N) (e : n'.val = c.val * b + n.val) :
    Layout.block ⟨2, ![b, a]⟩ ⟨2, ![N, a]⟩ 0 k c v h (ix2 n i) = v (ix2 n' i) :=
  congrArg v (KernelIdeal.Run.ext2 e.symm rfl)

theorem col_val (c : Fin 16) (h : Fin 4) (e : Fin 96) : (Spec.col (hd c h) e).val = c.val * 384 + (hc h e).val := by
  simp only [Spec.col, Spec.at2, hd, hc]; omega

theorem hcl_val (c : Fin 16) (n : Fin 192) : (hcl c n).val = c.val * 192 + n.val := by
  simp only [Spec.at2, hcl]; omega

/-- The kernel's result on every device is the reference's result. -/
theorem algebraic : @Cert.algebraic_KernelIdeal_ReferenceIdeal Cert.KernelIdeal.Gen.facts Cert.ReferenceIdeal.Gen.facts := fun m g m' g' _ hL => by
  have H : Agree (insM m) (Cert.ReferenceIdeal.Value.args (launchContents m' 0)) := {
    x := fun c b r d => (insM_x m c _).trans (congrFun (hL c).1 _)
    wq := fun c k h e => (insM_wq m c _).trans ((congrFun (hL c).2.1 _).trans (block_cols _ _ c k _ _ (col_val c h e)))
    wk := fun c k h e => (insM_wk m c _).trans ((congrFun (hL c).2.2.1 _).trans (block_cols _ _ c k _ _ (col_val c h e)))
    wv := fun c k h e => (insM_wv m c _).trans ((congrFun (hL c).2.2.2.1 _).trans (block_cols _ _ c k _ _ (col_val c h e)))
    wo := fun c h e d => (insM_wo m c _).trans ((congrFun (hL c).2.2.2.2.1 _).trans (block_rows _ _ c d _ _ (col_val c h e)))
    te := fun c b k => (insM_te m c _).trans (congrFun (hL c).2.2.2.2.2.1 _)
    wm := fun c k n => (insM_wm m c _).trans (congrFun (hL c).2.2.2.2.2.2.1 _)
    f1 := fun c k n => (insM_f1 m c _).trans ((congrFun (hL c).2.2.2.2.2.2.2.1 _).trans (block_cols _ _ c k _ _ (hcl_val c n)))
    f2 := fun c n d => (insM_f2 m c _).trans ((congrFun (hL c).2.2.2.2.2.2.2.2 _).trans (block_rows _ _ c d _ _ (hcl_val c n))) }
  have hE : ∀ c, outA m g c = Cert.ReferenceIdeal.Value.result (launchContents m' 0) := fun c => by
    rw [outA_eq]
    funext i
    have hi : i = ix3 (i 0) (i 1) (i 2) := KernelIdeal.Run.ext3 rfl rfl rfl
    rw [hi]
    exact (resOf_at H c (i 0) (i 1) (i 2)).trans (Cert.ReferenceIdeal.Value.result_at (launchContents m' 0) (i 0) (i 1) (i 2)).symm
  refine ⟨Cert.ReferenceIdeal.Value.result (launchContents m' 0), ?_, ?_⟩
  · exact (θ_run Cert.KernelIdeal.defs _ _).mono (fun r h c => ⟨((h.1 c).1).trans (hE c), (h.1 c).2⟩) (run_all (F := Ideal) m g)
  · exact (θ_run Cert.ReferenceIdeal.defs _ _).mono (fun r h => h 0) (Cert.ReferenceIdeal.Value.run (F := Ideal) m' g')

end Cert.Proof

end
-- ==== Proof.lean ====
/- The certificate's claim, assembled from the modules under Proof/. -/
module

public import proofs.«01_k».proof.Defs
public import proofs.«01_k».proof.Proof.Frames
public import proofs.«01_k».proof.Proof.Algebraic

@[expose] public section

noncomputable section

namespace Cert.Proof

open Idealize.ShloMosaic Idealize.SL.Sem

/-- The claim: the three frames, the ideal program is the kernel read over the extended reals, and its result is the reference's. -/
theorem claim : Cert.Claim := ⟨Cert.Kernel.Gen.facts, Cert.KernelIdeal.Gen.facts, Cert.ReferenceIdeal.Gen.facts,
  frame_kernel, frame_ideal, frame_reference, trivial, algebraic⟩

end Cert.Proof

end
